-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x8192 : Shape := ⟨2, ![512, 8192]⟩
abbrev S2x512x2048 : Shape := ⟨3, ![2, 512, 2048]⟩
abbrev S512x2048 : Shape := ⟨2, ![512, 2048]⟩
abbrev S8x128 : Shape := ⟨2, ![8, 128]⟩
abbrev S2 : Shape := ⟨1, ![2]⟩
abbrev S8 : Shape := ⟨1, ![8]⟩
abbrev S_ : Shape := ⟨0, ![]⟩
abbrev S4 : Shape := ⟨1, ![4]⟩
abbrev S512x512 : Shape := ⟨2, ![512, 512]⟩
abbrev S1x512x512 : Shape := ⟨3, ![1, 512, 512]⟩
abbrev S1 : Shape := ⟨1, ![1]⟩
abbrev S1x512x2048 : Shape := ⟨3, ![1, 512, 2048]⟩
abbrev S1x1x1 : Shape := ⟨3, ![1, 1, 1]⟩
abbrev S1x128 : Shape := ⟨2, ![1, 128]⟩
abbrev S1x8x128 : Shape := ⟨3, ![1, 8, 128]⟩

abbrev nBuf : Space → Nat
  | .hbm => 3
  | .vmem => 9
  | .smem => 0
  | _ => 0

abbrev bufTy : (tb : Table) → Fin (tcTables nBuf tb) → BufTy
  | .hbm, ⟨0, _⟩ => ⟨S4096x512, .f32⟩
  | .hbm, ⟨1, _⟩ => ⟨S512x8192, .f32⟩
  | .hbm, ⟨2, _⟩ => ⟨S512x8192, .f32⟩
  | .local _ .vmem, ⟨0, _⟩ => ⟨S4096x512, .f32⟩
  | .local _ .vmem, ⟨1, _⟩ => ⟨S512x8192, .f32⟩
  | .local _ .vmem, ⟨2, _⟩ => ⟨S2x512x2048, .bf16⟩
  | .local _ .vmem, ⟨3, _⟩ => ⟨S2x512x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S8x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 3 → Bool
  | ⟨0, _⟩ => true
  | ⟨1, _⟩ => true
  | ⟨2, _⟩ => false
  | _ => false

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  (ofTc nBuf bufTy 3 46 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_sem0_0 : DmaSem sig := 0
abbrev cc0_sem1_0 : DmaSem sig := 1
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) (c1_i32_11 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_10 : BitVec 32 := 8#32
  let v13 : BitVec 32 := Scalar.addi v2 c8_i32_10
  let v14 : BitVec 32 := Scalar.subi v13 c1_i32_11
  let c8_i32_12 : BitVec 32 := 8#32
  let v15 : BitVec 32 := Scalar.remsi v14 c8_i32_12
  let c512_i32 : BitVec 32 := 512#32
  let v18 : BitVec 32 := Scalar.muli v15 c512_i32
  let v19 : Index := Scalar.indexCast v18
  let c0 : Index := 0#32
  ![v19.toNat, 0]
def k0_off2 (d0 : Dev nD) (c1_i32_13 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v16 : BitVec 32 := Scalar.addi v2 c1_i32_13
  let c8_i32_14 : BitVec 32 := 8#32
  let v17 : BitVec 32 := Scalar.remsi v16 c8_i32_14
  let c512_i32_15 : BitVec 32 := 512#32
  let v22 : BitVec 32 := Scalar.muli v17 c512_i32_15
  let v23 : Index := Scalar.indexCast v22
  let c0_16 : Index := 0#32
  ![v23.toNat, 0]
def k0_dev3 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_26 : BitVec 32 := 1#32
  let v33 : BitVec 32 := Scalar.muli v7 c1_i32_26
  let v34 : BitVec 32 := Scalar.addi c0_i32_27 v33
  v34.toNat
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_41 : BitVec 32 := 1#32
  let v50 : BitVec 32 := Scalar.muli v5 c1_i32_41
  let v51 : BitVec 32 := Scalar.addi c0_i32_42 v50
  v51.toNat
def k0_dev5 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_56 : BitVec 32 := 1#32
  let v67 : BitVec 32 := Scalar.muli v7 c1_i32_56
  let v68 : BitVec 32 := Scalar.addi c0_i32_57 v67
  v68.toNat
def k0_dev6 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_70 : BitVec 32 := 1#32
  let v84 : BitVec 32 := Scalar.muli v5 c1_i32_70
  let v85 : BitVec 32 := Scalar.addi c0_i32_71 v84
  v85.toNat
def k0_dev7 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_84 : BitVec 32 := 1#32
  let v101 : BitVec 32 := Scalar.muli v7 c1_i32_84
  let v102 : BitVec 32 := Scalar.addi c0_i32_85 v101
  v102.toNat
def k0_dev8 (d0 : Dev nD) : Nat :=
  let c0_i32_98 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_97 : BitVec 32 := 1#32
  let v118 : BitVec 32 := Scalar.muli v5 c1_i32_97
  let v119 : BitVec 32 := Scalar.addi c0_i32_98 v118
  v119.toNat
def k0_dev9 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_111 : BitVec 32 := 1#32
  let v135 : BitVec 32 := Scalar.muli v7 c1_i32_111
  let v136 : BitVec 32 := Scalar.addi c0_i32_112 v135
  v136.toNat
def k0_dev10 (d0 : Dev nD) : Nat :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_124 : BitVec 32 := 1#32
  let v152 : BitVec 32 := Scalar.muli v5 c1_i32_124
  let v153 : BitVec 32 := Scalar.addi c0_i32_125 v152
  v153.toNat
def k0_dev11 (d0 : Dev nD) : Nat :=
  let c0_i32_333 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_332 : BitVec 32 := 1#32
  let v335 : BitVec 32 := Scalar.muli v5 c1_i32_332
  let v336 : BitVec 32 := Scalar.addi c0_i32_333 v335
  v336.toNat
def k0_dev12 (d0 : Dev nD) : Nat :=
  let c0_i32_336 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_335 : BitVec 32 := 1#32
  let v337 : BitVec 32 := Scalar.muli v7 c1_i32_335
  let v338 : BitVec 32 := Scalar.addi c0_i32_336 v337
  v338.toNat
def k0_dev13 (d0 : Dev nD) : Nat :=
  let c0_i32_409 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_408 : BitVec 32 := 1#32
  let v411 : BitVec 32 := Scalar.muli v7 c1_i32_408
  let v412 : BitVec 32 := Scalar.addi c0_i32_409 v411
  v412.toNat
def k0_dev14 (d0 : Dev nD) : Nat :=
  let c0_i32_419 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_418 : BitVec 32 := 1#32
  let v421 : BitVec 32 := Scalar.muli v5 c1_i32_418
  let v422 : BitVec 32 := Scalar.addi c0_i32_419 v421
  v422.toNat
def k0_off3 (d0 : Dev nD) (c2_i32_426 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_424 : BitVec 32 := 8#32
  let v431 : BitVec 32 := Scalar.addi v2 c8_i32_424
  let c1_i32_425 : BitVec 32 := 1#32
  let v432 : BitVec 32 := Scalar.subi v431 c1_i32_425
  let v433 : BitVec 32 := Scalar.subi v432 c2_i32_426
  let c8_i32_427 : BitVec 32 := 8#32
  let v434 : BitVec 32 := Scalar.remsi v433 c8_i32_427
  let c512_i32_428 : BitVec 32 := 512#32
  let v435 : BitVec 32 := Scalar.muli v434 c512_i32_428
  let v436 : Index := Scalar.indexCast v435
  let c0_429 : Index := 0#32
  ![v436.toNat, 0]
def k0_off4 (d0 : Dev nD) (c2_i32_451 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_450 : BitVec 32 := 1#32
  let v463 : BitVec 32 := Scalar.addi v2 c1_i32_450
  let v464 : BitVec 32 := Scalar.addi v463 c2_i32_451
  let c8_i32_452 : BitVec 32 := 8#32
  let v465 : BitVec 32 := Scalar.remsi v464 c8_i32_452
  let c512_i32_453 : BitVec 32 := 512#32
  let v466 : BitVec 32 := Scalar.muli v465 c512_i32_453
  let v467 : Index := Scalar.indexCast v466
  let c0_454 : Index := 0#32
  ![v467.toNat, 0]
def k0_dev15 (d0 : Dev nD) : Nat :=
  let c0_i32_515 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_514 : BitVec 32 := 1#32
  let v522 : BitVec 32 := Scalar.muli v5 c1_i32_514
  let v523 : BitVec 32 := Scalar.addi c0_i32_515 v522
  v523.toNat
def k0_dev16 (d0 : Dev nD) : Nat :=
  let c0_i32_518 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_517 : BitVec 32 := 1#32
  let v524 : BitVec 32 := Scalar.muli v7 c1_i32_517
  let v525 : BitVec 32 := Scalar.addi c0_i32_518 v524
  v525.toNat
def k0_dev17 (d0 : Dev nD) : Nat :=
  let c0_i32_592 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_591 : BitVec 32 := 1#32
  let v598 : BitVec 32 := Scalar.muli v7 c1_i32_591
  let v599 : BitVec 32 := Scalar.addi c0_i32_592 v598
  v599.toNat
def k0_dev18 (d0 : Dev nD) : Nat :=
  let c0_i32_602 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_601 : BitVec 32 := 1#32
  let v608 : BitVec 32 := Scalar.muli v5 c1_i32_601
  let v609 : BitVec 32 := Scalar.addi c0_i32_602 v608
  v609.toNat
def k0_dev19 (d0 : Dev nD) : Nat :=
  let c0_i32_698 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_697 : BitVec 32 := 1#32
  let v709 : BitVec 32 := Scalar.muli v5 c1_i32_697
  let v710 : BitVec 32 := Scalar.addi c0_i32_698 v709
  v710.toNat
def k0_dev20 (d0 : Dev nD) : Nat :=
  let c0_i32_701 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_700 : BitVec 32 := 1#32
  let v711 : BitVec 32 := Scalar.muli v7 c1_i32_700
  let v712 : BitVec 32 := Scalar.addi c0_i32_701 v711
  v712.toNat
def k0_dev21 (d0 : Dev nD) : Nat :=
  let c0_i32_775 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_774 : BitVec 32 := 1#32
  let v785 : BitVec 32 := Scalar.muli v7 c1_i32_774
  let v786 : BitVec 32 := Scalar.addi c0_i32_775 v785
  v786.toNat
def k0_dev22 (d0 : Dev nD) : Nat :=
  let c0_i32_785 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_784 : BitVec 32 := 1#32
  let v795 : BitVec 32 := Scalar.muli v5 c1_i32_784
  let v796 : BitVec 32 := Scalar.addi c0_i32_785 v795
  v796.toNat
def k0_dev23 (d0 : Dev nD) : Nat :=
  let c0_i32_881 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_880 : BitVec 32 := 1#32
  let v896 : BitVec 32 := Scalar.muli v5 c1_i32_880
  let v897 : BitVec 32 := Scalar.addi c0_i32_881 v896
  v897.toNat
def k0_dev24 (d0 : Dev nD) : Nat :=
  let c0_i32_884 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_883 : BitVec 32 := 1#32
  let v898 : BitVec 32 := Scalar.muli v7 c1_i32_883
  let v899 : BitVec 32 := Scalar.addi c0_i32_884 v898
  v899.toNat
def k0_dev25 (d0 : Dev nD) : Nat :=
  let c0_i32_958 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_957 : BitVec 32 := 1#32
  let v972 : BitVec 32 := Scalar.muli v7 c1_i32_957
  let v973 : BitVec 32 := Scalar.addi c0_i32_958 v972
  v973.toNat
def k0_dev26 (d0 : Dev nD) : Nat :=
  let c0_i32_968 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_967 : BitVec 32 := 1#32
  let v982 : BitVec 32 := Scalar.muli v5 c1_i32_967
  let v983 : BitVec 32 := Scalar.addi c0_i32_968 v982
  v983.toNat
def k0_dev27 (d0 : Dev nD) : Nat :=
  let c0_i32_1064 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1063 : BitVec 32 := 1#32
  let v1083 : BitVec 32 := Scalar.muli v5 c1_i32_1063
  let v1084 : BitVec 32 := Scalar.addi c0_i32_1064 v1083
  v1084.toNat
def k0_dev28 (d0 : Dev nD) : Nat :=
  let c0_i32_1067 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1066 : BitVec 32 := 1#32
  let v1085 : BitVec 32 := Scalar.muli v7 c1_i32_1066
  let v1086 : BitVec 32 := Scalar.addi c0_i32_1067 v1085
  v1086.toNat
def k0_dev29 (d0 : Dev nD) : Nat :=
  let c0_i32_1141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1140 : BitVec 32 := 1#32
  let v1159 : BitVec 32 := Scalar.muli v7 c1_i32_1140
  let v1160 : BitVec 32 := Scalar.addi c0_i32_1141 v1159
  v1160.toNat
def k0_dev30 (d0 : Dev nD) : Nat :=
  let c0_i32_1151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1150 : BitVec 32 := 1#32
  let v1169 : BitVec 32 := Scalar.muli v5 c1_i32_1150
  let v1170 : BitVec 32 := Scalar.addi c0_i32_1151 v1169
  v1170.toNat
def k0_dev31 (d0 : Dev nD) : Nat :=
  let c0_i32_1247 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1246 : BitVec 32 := 1#32
  let v1270 : BitVec 32 := Scalar.muli v5 c1_i32_1246
  let v1271 : BitVec 32 := Scalar.addi c0_i32_1247 v1270
  v1271.toNat
def k0_dev32 (d0 : Dev nD) : Nat :=
  let c0_i32_1250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1249 : BitVec 32 := 1#32
  let v1272 : BitVec 32 := Scalar.muli v7 c1_i32_1249
  let v1273 : BitVec 32 := Scalar.addi c0_i32_1250 v1272
  v1273.toNat
def k0_dev33 (d0 : Dev nD) : Nat :=
  let c0_i32_1324 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1323 : BitVec 32 := 1#32
  let v1346 : BitVec 32 := Scalar.muli v7 c1_i32_1323
  let v1347 : BitVec 32 := Scalar.addi c0_i32_1324 v1346
  v1347.toNat
def k0_dev34 (d0 : Dev nD) : Nat :=
  let c0_i32_1334 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1333 : BitVec 32 := 1#32
  let v1356 : BitVec 32 := Scalar.muli v5 c1_i32_1333
  let v1357 : BitVec 32 := Scalar.addi c0_i32_1334 v1356
  v1357.toNat
def k0_dev35 (d0 : Dev nD) : Nat :=
  let c0_i32_1494 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1493 : BitVec 32 := 1#32
  let v1537 : BitVec 32 := Scalar.muli v5 c1_i32_1493
  let v1538 : BitVec 32 := Scalar.addi c0_i32_1494 v1537
  v1538.toNat
def k0_dev36 (d0 : Dev nD) : Nat :=
  let c0_i32_1497 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1496 : BitVec 32 := 1#32
  let v1539 : BitVec 32 := Scalar.muli v7 c1_i32_1496
  let v1540 : BitVec 32 := Scalar.addi c0_i32_1497 v1539
  v1540.toNat
def k0_dev37 (d0 : Dev nD) : Nat :=
  let c0_i32_1528 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1527 : BitVec 32 := 1#32
  let v1573 : BitVec 32 := Scalar.muli v7 c1_i32_1527
  let v1574 : BitVec 32 := Scalar.addi c0_i32_1528 v1573
  v1574.toNat
def k0_dev38 (d0 : Dev nD) : Nat :=
  let c0_i32_1543 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1542 : BitVec 32 := 1#32
  let v1590 : BitVec 32 := Scalar.muli v5 c1_i32_1542
  let v1591 : BitVec 32 := Scalar.addi c0_i32_1543 v1590
  v1591.toNat
def k0_dev39 (d0 : Dev nD) : Nat :=
  let c0_i32_1558 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1557 : BitVec 32 := 1#32
  let v1607 : BitVec 32 := Scalar.muli v7 c1_i32_1557
  let v1608 : BitVec 32 := Scalar.addi c0_i32_1558 v1607
  v1608.toNat
def k0_dev40 (d0 : Dev nD) : Nat :=
  let c0_i32_1573 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1572 : BitVec 32 := 1#32
  let v1624 : BitVec 32 := Scalar.muli v5 c1_i32_1572
  let v1625 : BitVec 32 := Scalar.addi c0_i32_1573 v1624
  v1625.toNat
def k0_dev41 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1587 : BitVec 32 := 1#32
  let v1641 : BitVec 32 := Scalar.muli v7 c1_i32_1587
  let v1642 : BitVec 32 := Scalar.addi c0_i32_1588 v1641
  v1642.toNat
def k0_dev42 (d0 : Dev nD) : Nat :=
  let c0_i32_1603 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1602 : BitVec 32 := 1#32
  let v1658 : BitVec 32 := Scalar.muli v5 c1_i32_1602
  let v1659 : BitVec 32 := Scalar.addi c0_i32_1603 v1658
  v1659.toNat
def k0_dev43 (d0 : Dev nD) : Nat :=
  let c0_i32_1618 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1617 : BitVec 32 := 1#32
  let v1675 : BitVec 32 := Scalar.muli v7 c1_i32_1617
  let v1676 : BitVec 32 := Scalar.addi c0_i32_1618 v1675
  v1676.toNat
def k0_dev44 (d0 : Dev nD) : Nat :=
  let c0_i32_1633 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1632 : BitVec 32 := 1#32
  let v1692 : BitVec 32 := Scalar.muli v5 c1_i32_1632
  let v1693 : BitVec 32 := Scalar.addi c0_i32_1633 v1692
  v1693.toNat
def k0_dev45 (d0 : Dev nD) : Nat :=
  let c0_i32_1841 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1840 : BitVec 32 := 1#32
  let v1875 : BitVec 32 := Scalar.muli v5 c1_i32_1840
  let v1876 : BitVec 32 := Scalar.addi c0_i32_1841 v1875
  v1876.toNat
def k0_dev46 (d0 : Dev nD) : Nat :=
  let c0_i32_1844 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1843 : BitVec 32 := 1#32
  let v1877 : BitVec 32 := Scalar.muli v7 c1_i32_1843
  let v1878 : BitVec 32 := Scalar.addi c0_i32_1844 v1877
  v1878.toNat
def k0_dev47 (d0 : Dev nD) : Nat :=
  let c0_i32_1918 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1917 : BitVec 32 := 1#32
  let v1951 : BitVec 32 := Scalar.muli v7 c1_i32_1917
  let v1952 : BitVec 32 := Scalar.addi c0_i32_1918 v1951
  v1952.toNat
def k0_dev48 (d0 : Dev nD) : Nat :=
  let c0_i32_1928 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1927 : BitVec 32 := 1#32
  let v1961 : BitVec 32 := Scalar.muli v5 c1_i32_1927
  let v1962 : BitVec 32 := Scalar.addi c0_i32_1928 v1961
  v1962.toNat
def k0_dev49 (d0 : Dev nD) : Nat :=
  let c0_i32_2024 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2023 : BitVec 32 := 1#32
  let v2062 : BitVec 32 := Scalar.muli v5 c1_i32_2023
  let v2063 : BitVec 32 := Scalar.addi c0_i32_2024 v2062
  v2063.toNat
def k0_dev50 (d0 : Dev nD) : Nat :=
  let c0_i32_2027 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2026 : BitVec 32 := 1#32
  let v2064 : BitVec 32 := Scalar.muli v7 c1_i32_2026
  let v2065 : BitVec 32 := Scalar.addi c0_i32_2027 v2064
  v2065.toNat
def k0_dev51 (d0 : Dev nD) : Nat :=
  let c0_i32_2101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2100 : BitVec 32 := 1#32
  let v2138 : BitVec 32 := Scalar.muli v7 c1_i32_2100
  let v2139 : BitVec 32 := Scalar.addi c0_i32_2101 v2138
  v2139.toNat
def k0_dev52 (d0 : Dev nD) : Nat :=
  let c0_i32_2111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2110 : BitVec 32 := 1#32
  let v2148 : BitVec 32 := Scalar.muli v5 c1_i32_2110
  let v2149 : BitVec 32 := Scalar.addi c0_i32_2111 v2148
  v2149.toNat
def k0_dev53 (d0 : Dev nD) : Nat :=
  let c0_i32_2207 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2206 : BitVec 32 := 1#32
  let v2249 : BitVec 32 := Scalar.muli v5 c1_i32_2206
  let v2250 : BitVec 32 := Scalar.addi c0_i32_2207 v2249
  v2250.toNat
def k0_dev54 (d0 : Dev nD) : Nat :=
  let c0_i32_2210 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2209 : BitVec 32 := 1#32
  let v2251 : BitVec 32 := Scalar.muli v7 c1_i32_2209
  let v2252 : BitVec 32 := Scalar.addi c0_i32_2210 v2251
  v2252.toNat
def k0_dev55 (d0 : Dev nD) : Nat :=
  let c0_i32_2284 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2283 : BitVec 32 := 1#32
  let v2325 : BitVec 32 := Scalar.muli v7 c1_i32_2283
  let v2326 : BitVec 32 := Scalar.addi c0_i32_2284 v2325
  v2326.toNat
def k0_dev56 (d0 : Dev nD) : Nat :=
  let c0_i32_2294 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2293 : BitVec 32 := 1#32
  let v2335 : BitVec 32 := Scalar.muli v5 c1_i32_2293
  let v2336 : BitVec 32 := Scalar.addi c0_i32_2294 v2335
  v2336.toNat
def k0_dev57 (d0 : Dev nD) : Nat :=
  let c0_i32_2390 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2389 : BitVec 32 := 1#32
  let v2436 : BitVec 32 := Scalar.muli v5 c1_i32_2389
  let v2437 : BitVec 32 := Scalar.addi c0_i32_2390 v2436
  v2437.toNat
def k0_dev58 (d0 : Dev nD) : Nat :=
  let c0_i32_2393 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2392 : BitVec 32 := 1#32
  let v2438 : BitVec 32 := Scalar.muli v7 c1_i32_2392
  let v2439 : BitVec 32 := Scalar.addi c0_i32_2393 v2438
  v2439.toNat
def k0_dev59 (d0 : Dev nD) : Nat :=
  let c0_i32_2467 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2466 : BitVec 32 := 1#32
  let v2512 : BitVec 32 := Scalar.muli v7 c1_i32_2466
  let v2513 : BitVec 32 := Scalar.addi c0_i32_2467 v2512
  v2513.toNat
def k0_dev60 (d0 : Dev nD) : Nat :=
  let c0_i32_2477 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2476 : BitVec 32 := 1#32
  let v2522 : BitVec 32 := Scalar.muli v5 c1_i32_2476
  let v2523 : BitVec 32 := Scalar.addi c0_i32_2477 v2522
  v2523.toNat
def k0_dev61 (d0 : Dev nD) : Nat :=
  let c0_i32_2573 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2572 : BitVec 32 := 1#32
  let v2623 : BitVec 32 := Scalar.muli v5 c1_i32_2572
  let v2624 : BitVec 32 := Scalar.addi c0_i32_2573 v2623
  v2624.toNat
def k0_dev62 (d0 : Dev nD) : Nat :=
  let c0_i32_2576 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2575 : BitVec 32 := 1#32
  let v2625 : BitVec 32 := Scalar.muli v7 c1_i32_2575
  let v2626 : BitVec 32 := Scalar.addi c0_i32_2576 v2625
  v2626.toNat
def k0_dev63 (d0 : Dev nD) : Nat :=
  let c0_i32_2650 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2649 : BitVec 32 := 1#32
  let v2699 : BitVec 32 := Scalar.muli v7 c1_i32_2649
  let v2700 : BitVec 32 := Scalar.addi c0_i32_2650 v2699
  v2700.toNat
def k0_dev64 (d0 : Dev nD) : Nat :=
  let c0_i32_2660 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2659 : BitVec 32 := 1#32
  let v2709 : BitVec 32 := Scalar.muli v5 c1_i32_2659
  let v2710 : BitVec 32 := Scalar.addi c0_i32_2660 v2709
  v2710.toNat
def k0_dev65 (d0 : Dev nD) : Nat :=
  let c0_i32_2756 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2755 : BitVec 32 := 1#32
  let v2810 : BitVec 32 := Scalar.muli v5 c1_i32_2755
  let v2811 : BitVec 32 := Scalar.addi c0_i32_2756 v2810
  v2811.toNat
def k0_dev66 (d0 : Dev nD) : Nat :=
  let c0_i32_2759 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2758 : BitVec 32 := 1#32
  let v2812 : BitVec 32 := Scalar.muli v7 c1_i32_2758
  let v2813 : BitVec 32 := Scalar.addi c0_i32_2759 v2812
  v2813.toNat
def k0_dev67 (d0 : Dev nD) : Nat :=
  let c0_i32_2833 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2832 : BitVec 32 := 1#32
  let v2886 : BitVec 32 := Scalar.muli v7 c1_i32_2832
  let v2887 : BitVec 32 := Scalar.addi c0_i32_2833 v2886
  v2887.toNat
def k0_dev68 (d0 : Dev nD) : Nat :=
  let c0_i32_2843 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2842 : BitVec 32 := 1#32
  let v2896 : BitVec 32 := Scalar.muli v5 c1_i32_2842
  let v2897 : BitVec 32 := Scalar.addi c0_i32_2843 v2896
  v2897.toNat
def k0_dev69 (d0 : Dev nD) : Nat :=
  let c0_i32_3014 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3009 : BitVec 32 := 1#32
  let v3093 : BitVec 32 := Scalar.addi v2 c1_i32_3009
  let c8_i32_3010 : BitVec 32 := 8#32
  let v3094 : BitVec 32 := Scalar.remsi v3093 c8_i32_3010
  let c1_i32_3013 : BitVec 32 := 1#32
  let v3095 : BitVec 32 := Scalar.muli v3094 c1_i32_3013
  let v3096 : BitVec 32 := Scalar.addi c0_i32_3014 v3095
  v3096.toNat
def k0_dev70 (d0 : Dev nD) : Nat :=
  let c0_i32_3024 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_3019 : BitVec 32 := 2#32
  let v3103 : BitVec 32 := Scalar.addi v2 c2_i32_3019
  let c8_i32_3020 : BitVec 32 := 8#32
  let v3104 : BitVec 32 := Scalar.remsi v3103 c8_i32_3020
  let c1_i32_3023 : BitVec 32 := 1#32
  let v3105 : BitVec 32 := Scalar.muli v3104 c1_i32_3023
  let v3106 : BitVec 32 := Scalar.addi c0_i32_3024 v3105
  v3106.toNat
def k0_dev71 (d0 : Dev nD) : Nat :=
  let c0_i32_3034 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_3029 : BitVec 32 := 3#32
  let v3113 : BitVec 32 := Scalar.addi v2 c3_i32_3029
  let c8_i32_3030 : BitVec 32 := 8#32
  let v3114 : BitVec 32 := Scalar.remsi v3113 c8_i32_3030
  let c1_i32_3033 : BitVec 32 := 1#32
  let v3115 : BitVec 32 := Scalar.muli v3114 c1_i32_3033
  let v3116 : BitVec 32 := Scalar.addi c0_i32_3034 v3115
  v3116.toNat
def k0_dev72 (d0 : Dev nD) : Nat :=
  let c0_i32_3044 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3039 : BitVec 32 := 4#32
  let v3123 : BitVec 32 := Scalar.addi v2 c4_i32_3039
  let c8_i32_3040 : BitVec 32 := 8#32
  let v3124 : BitVec 32 := Scalar.remsi v3123 c8_i32_3040
  let c1_i32_3043 : BitVec 32 := 1#32
  let v3125 : BitVec 32 := Scalar.muli v3124 c1_i32_3043
  let v3126 : BitVec 32 := Scalar.addi c0_i32_3044 v3125
  v3126.toNat
def k0_dev73 (d0 : Dev nD) : Nat :=
  let c0_i32_3054 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_3049 : BitVec 32 := 5#32
  let v3133 : BitVec 32 := Scalar.addi v2 c5_i32_3049
  let c8_i32_3050 : BitVec 32 := 8#32
  let v3134 : BitVec 32 := Scalar.remsi v3133 c8_i32_3050
  let c1_i32_3053 : BitVec 32 := 1#32
  let v3135 : BitVec 32 := Scalar.muli v3134 c1_i32_3053
  let v3136 : BitVec 32 := Scalar.addi c0_i32_3054 v3135
  v3136.toNat
def k0_dev74 (d0 : Dev nD) : Nat :=
  let c0_i32_3064 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3059 : BitVec 32 := 6#32
  let v3143 : BitVec 32 := Scalar.addi v2 c6_i32_3059
  let c8_i32_3060 : BitVec 32 := 8#32
  let v3144 : BitVec 32 := Scalar.remsi v3143 c8_i32_3060
  let c1_i32_3063 : BitVec 32 := 1#32
  let v3145 : BitVec 32 := Scalar.muli v3144 c1_i32_3063
  let v3146 : BitVec 32 := Scalar.addi c0_i32_3064 v3145
  v3146.toNat
def k0_dev75 (d0 : Dev nD) : Nat :=
  let c0_i32_3074 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_3069 : BitVec 32 := 7#32
  let v3153 : BitVec 32 := Scalar.addi v2 c7_i32_3069
  let c8_i32_3070 : BitVec 32 := 8#32
  let v3154 : BitVec 32 := Scalar.remsi v3153 c8_i32_3070
  let c1_i32_3073 : BitVec 32 := 1#32
  let v3155 : BitVec 32 := Scalar.muli v3154 c1_i32_3073
  let v3156 : BitVec 32 := Scalar.addi c0_i32_3074 v3155
  v3156.toNat
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .f32⟩
  | .hbm, ⟨23, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proof.Mem.lean ====
/-
  Owning parts of a memref at known contents, and the effects of a program met from such ownership: a load and a
  store of a part, a part of a part, a part read as a matrix, and what a transfer leaves.
-/
module

public import Idealize.ShloMosaic.Lib.Memref
public import Idealize.ShloMosaic.Lib.Tactic
public import Idealize.ShloMosaic.Lib.Rounds

@[expose] public section

noncomputable section

namespace Own

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type} {Λ : Labels}

local notation "𝕄" => MT nD τ sig Ix Val Name U Lvl

variable (c : Thread nD τ)

/-- Ownership of a memref is its elements at some contents that read as given. -/
theorem owns_open {sp : Space} {sh : Shape} {e : EltTy} (m : Memref sig c.2.kind sp sh e) (q : PosShare TreeShare)
    (X : sh.Idx → Val e) :
    (owns c m q X : sProp 𝕄) ⊢ iprop(∃ f, ⌜m.view.read Val f = X⌝ ∗ (m.view.loc c ↦[m.view.set]{q} f)) := by
  unfold owns; exact .rfl

/-- Elements at contents that read as `X` are owned at `X`. -/
theorem owns_close {sp : Space} {sh : Shape} {e : EltTy} (m : Memref sig c.2.kind sp sh e) (q : PosShare TreeShare)
    (X : sh.Idx → Val e) (f : m.view.ty.Contents Val) (h : m.view.read Val f = X) :
    (m.view.loc c ↦[m.view.set]{q} f : sProp 𝕄) ⊢ owns c m q X := by
  subst h; exact owns_intro c m q f

/-- A part of a part is a part: the same elements, the contents re-indexed. -/
theorem owns_slice_slice {sp : Space} {sh : Shape} {e : EltTy} (m : Memref sig c.2.kind sp sh e) (q : PosShare TreeShare)
    (R : Rect sh) (hR : ∀ a, R.stride a = 1) (ρ : Rect R.shape) (hρ : ∀ a, ρ.stride a = 1) (r : Rect sh) (hr : ∀ a, r.stride a = 1)
    (φ : r.shape.Idx ≃ ρ.shape.Idx) (hφ : ∀ j, R.emb (ρ.emb (φ j)) = r.emb j) (X : ρ.shape.Idx → Val e) :
    (owns c ((m.slice R hR).slice ρ hρ) q X : sProp 𝕄) = owns c (m.slice r hr) q (fun j => X (φ j)) := by
  have hset : ((m.slice R hR).slice ρ hρ).view.set = (m.slice r hr).view.set := by
    rw [← View.map_univ_equiv_trans ((m.slice R hR).slice ρ hρ).view φ]
    refine congrArg (fun f => Finset.map f Finset.univ) ?_
    exact Function.Embedding.ext fun j => congrArg (fun y => m.view.emb y) (hφ j)
  have hread (f : m.view.ty.Contents Val) :
      (((m.slice R hR).slice ρ hρ).view.read Val f = X) = ((m.slice r hr).view.read Val f = fun j => X (φ j)) := by
    refine propext ⟨fun h => funext fun j => ?_, fun h => funext fun i => ?_⟩
    · rw [← h]
      show _ = m.view.read Val f (R.emb (ρ.emb (φ j)))
      rw [hφ]; rfl
    · have := congrFun h (φ.symm i)
      rw [φ.apply_symm_apply] at this
      rw [← this]
      show m.view.read Val f (R.emb (ρ.emb i)) = m.view.read Val f (r.emb (φ.symm i))
      rw [← hφ, φ.apply_symm_apply]
  unfold owns
  refine congrArg _ (funext fun f => ?_)
  rw [hread]
  exact congrArg (fun P => iprop(_ ∗ P)) (congrArg (fun S => (m.view.loc c ↦[S]{q} f : sProp 𝕄)) hset)

section Step

variable [Preorder Lvl] {defs : Defs nD τ sig Val Λ} (𝒱 : Variants) (bd : Option 𝒱.V) {Γ : PendingWaitsCtx sig Ix} (E : Set Name)
variable {s : Shape} {e : EltTy} {α : Type} {Q : α → sProp (MT nD τ sig Ix Val Name U Lvl)}

/-- A load of an owned part reads its contents. -/
theorem wp_load_part {cs : CoreSpace} {m : Memref sig c.2.kind cs s e} {r : Rect s} {hl : m.view.LoadsAt r.toLoadRect}
    {k : (r.shape.Idx → Val e) → Prog (TpuEff nD τ sig Val Λ c.2) α} (hr : ∀ a, r.stride a = 1) (q : PosShare TreeShare)
    (X : r.shape.Idx → Val e) :
    (owns c (m.slice r hr) q X : sProp 𝕄)
      ⊢ iprop((owns c (m.slice r hr) q X -∗ wp frame (wpE' defs 𝒱 c bd Γ) E (k X) Q)
        -∗ wp frame (wpE' defs 𝒱 c bd Γ) E (.op (.load m r.toLoadRect hl) k) Q) := by
  iintro H Hk
  ihave H' := (owns_open c (m.slice r hr) q X) $$ H
  icases H' with ⟨%f, %hf, H⟩
  iapply (wp_load_rect 𝒱 c bd E (m := m) (r := r) (subset_refl _)) $$ H
  iintro H
  rw [show (m.access r).read Val f = X from hf]
  iapply Hk
  iapply (owns_close c (m.slice r hr) q X f hf); iexact H

/-- A load of a part of an owned memref reads that part of its contents. -/
theorem wp_load_of {cs : CoreSpace} {m : Memref sig c.2.kind cs s e} {r : Rect s} {hl : m.view.LoadsAt r.toLoadRect}
    {k : (r.shape.Idx → Val e) → Prog (TpuEff nD τ sig Val Λ c.2) α} (q : PosShare TreeShare) (X : s.Idx → Val e) :
    (owns c m q X : sProp 𝕄)
      ⊢ iprop((owns c m q X -∗ wp frame (wpE' defs 𝒱 c bd Γ) E (k (fun j => X (r.emb j))) Q)
        -∗ wp frame (wpE' defs 𝒱 c bd Γ) E (.op (.load m r.toLoadRect hl) k) Q) := by
  iintro H Hk
  ihave H' := (owns_open c m q X) $$ H
  icases H' with ⟨%f, %hf, H⟩
  iapply (wp_load_rect 𝒱 c bd E (m := m) (r := r) (m.view.set_slice_subset r)) $$ H
  iintro H
  rw [show (m.access r).read Val f = fun j => X (r.emb j) from by rw [← hf]; rfl]
  iapply Hk
  iapply (owns_close c m q X f hf); iexact H

/-- A load of an owned part, its values named. -/
theorem wp_load_eq {cs : CoreSpace} {m : Memref sig c.2.kind cs s e} {r : Rect s} {hl : m.view.LoadsAt r.toLoadRect}
    {k : (r.shape.Idx → Val e) → Prog (TpuEff nD τ sig Val Λ c.2) α} (q : PosShare TreeShare) (X : s.Idx → Val e)
    (Y : r.shape.Idx → Val e) (h : ∀ j, X (r.emb j) = Y j) :
    (owns c m q X : sProp 𝕄)
      ⊢ iprop((owns c m q X -∗ wp frame (wpE' defs 𝒱 c bd Γ) E (k Y) Q)
        -∗ wp frame (wpE' defs 𝒱 c bd Γ) E (.op (.load m r.toLoadRect hl) k) Q) := by
  obtain rfl : (fun j => X (r.emb j)) = Y := funext h
  exact wp_load_of c 𝒱 bd E q X

/-- A store over an owned part leaves what was stored. -/
theorem wp_store_part {cs : CoreSpace} {m : Memref sig c.2.kind cs s e} {r : Rect s} {w : r.shape.Idx → Val e}
    {hx : (m.access r).Stores Finset.univ} {hm : Finset.univ = (Finset.univ : Finset r.shape.Idx) ∨ ∀ a, r.stride a = 1}
    {k : PUnit → Prog (TpuEff nD τ sig Val Λ c.2) α} (hr : ∀ a, r.stride a = 1) (X : r.shape.Idx → Val e) :
    (owns c (m.slice r hr) fullShare X : sProp 𝕄)
      ⊢ iprop((owns c (m.slice r hr) fullShare w -∗ wp frame (wpE' defs 𝒱 c bd Γ) E (k ⟨⟩) Q)
        -∗ wp frame (wpE' defs 𝒱 c bd Γ) E (.op (.store m r w Finset.univ hx hm) k) Q) := by
  iintro H Hk
  ihave H' := (owns_open c (m.slice r hr) fullShare X) $$ H
  icases H' with ⟨%f, %hf, H⟩
  iapply (wp_store 𝒱 c bd E (m := m) (r := r) (w := w) (Mk := Finset.univ) (hx := hx) (hm := hm) (S := (m.slice r hr).view.set) (subset_refl _)) $$ H
  iintro H
  iapply Hk
  iapply (owns_close c (m.slice r hr) fullShare w _ (View.read_write_univ _ _)); iexact H

end Step

/-- A memref re-indexed has the same elements. -/
theorem owns_squeeze {sp : Space} {sh : Shape} {e : EltTy} (m : Memref sig c.2.kind sp sh e) (q : PosShare TreeShare) (s' : Shape)
    (h : sh.Squeezes s') (X : sh.Idx → Val e) :
    (owns c (m.squeeze s' h) q (fun j => X (Shape.reshapeEquiv h.numel_eq j)) : sProp 𝕄) = owns c m q X := by
  have hset : (m.squeeze s' h).view.set = m.view.set := View.set_reshape _ _
  have hread (f : m.view.ty.Contents Val) :
      ((m.squeeze s' h).view.read Val f = fun j => X (Shape.reshapeEquiv h.numel_eq j)) = (m.view.read Val f = X) := by
    refine propext ⟨fun hf => funext fun i => ?_, fun hf => ?_⟩
    · have := congrFun hf ((Shape.reshapeEquiv h.numel_eq).symm i)
      rw [Equiv.apply_symm_apply] at this
      rw [← this]
      show _ = m.view.read Val f (Shape.reshapeEquiv h.numel_eq ((Shape.reshapeEquiv h.numel_eq).symm i))
      rw [Equiv.apply_symm_apply]
    · rw [← hf]; rfl
  unfold owns
  refine congrArg _ (funext fun f => ?_)
  rw [hread]
  exact congrArg (fun P => iprop(_ ∗ P)) (congrArg (fun S => (m.view.loc c ↦[S]{q} f : sProp 𝕄)) hset)

section Transfer

open Idealize.ShloMosaic.Rounds

variable [Preorder Lvl] {defs : Defs nD τ sig Val Λ} (𝒱 : Variants) {D : Type} [DecidableEq D]
variable (EE : Emb (URounds (GSem nD τ sig) D) (MT nD τ sig Ix Val Name U Lvl)) (R : Schedule (GSem nD τ sig) D (MT nD τ sig Ix Val Name U Lvl))
variable (bd : Option 𝒱.V) {Γ : PendingWaitsCtx sig Ix}
variable {α : Type} {Q : α → sProp (MT nD τ sig Ix Val Name U Lvl)} {sp sp' : Space} {s : Shape} {e : EltTy}

/-- An addressed transfer from an owned memref to one owned on the target: the source goes to the first payload, the
    target, holding what the source held, to the second, with whatever else is handed over. -/
theorem wp_send_owns {c' : Thread nD τ} {src : Memref sig c.2.kind sp s e} {dst : Memref sig c'.2.kind sp' s e}
    {hsc : dst.view.ref.isScScratch = false} {sS sem : SemLoc sig} {hsrc : src.view.WordExact} {hdst : dst.view.WordExact}
    {hsem : DmaTarget.Typed sp sem (.remote c' dst sS hsc)} {k : PUnit → Prog (TpuEff nD τ sig Val Λ c.2) α}
    (q : PosShare TreeShare) (X Y : s.Idx → Val e) {P : sProp 𝕄} {r₁ r₂ : ℕ} {d₁ d₂ : D} {κ₁ κ₂ : Name}
    (hd₁ : d₁ ∈ R.duties (c, sS) r₁) (hd₂ : d₂ ∈ R.duties (c', sem) r₂) (ι ι' : Ix) (N : ℕ) (hN : dst.view.amount sem = N)
    (hk₁ : R.amount (c, sS) r₁ d₁ = N) (hk₂ : R.amount (c', sem) r₂ d₂ = N)
    {O₀ : CellTallies nD τ sig Ix} (O : CellTallies nD τ sig Ix) (hO : O₀ = O + tallyAt (c', sem) ι N) {V : Waits sig Ix}
    (hpay₁ : owns c src q X ⊢ R.payload (c, sS) r₁ d₁) (hpay₂ : iprop(owns c' dst fullShare X ∗ P) ⊢ R.payload (c', sem) r₂ d₂)
    {Es : Set Name} (hr : τ.routes c c' = true) :
    iprop(cellInv EE R κ₁ (c, sS) ∗ cellInv EE R κ₂ (c', sem) ∗ owns c src q X ∗ owns c' dst fullShare Y ∗ P ∗ owes c O₀ V
        ∗ dutyTok EE (c, sS) r₁ d₁ ∗ reached EE (c, sS) r₁ ∗ dutyTok EE (c', sem) r₂ d₂ ∗ reached EE (c', sem) r₂)
      ⊢ iprop(((cred (tallyAt (c, sS) ι' N) ∗ owes c O V) -∗ wp frame (wpE' defs 𝒱 c bd Γ) Es (k ⟨⟩) Q)
          -∗ wp frame (wpE' defs 𝒱 c bd Γ) Es (.op (.enqueueDma src (.remote c' dst sS hsc) sem hsrc hdst hsem) k) Q) := by
  iintro ⟨HI₁, HI₂, Hs, Hd, HP, HO, Ht₁, Hr₁, Ht₂, Hr₂⟩ Hk
  ihave Hs' := (owns_open c src q X) $$ Hs
  icases Hs' with ⟨%fs, %hfs, Hs⟩
  ihave Hd' := (owns_open c' dst fullShare Y) $$ Hd
  icases Hd' with ⟨%fd, %hfd, Hd⟩
  iapply (Rounds.wp_send_pointsTo_with 𝒱 EE R c bd hd₁ hd₂ ι ι' N hN hk₁ hk₂ O hO (fs := fs) (fd := fd) (F := P) (q := q)
    ((owns_close c src q X fs hfs).trans hpay₁)
    ((sep_mono_left (owns_close c' dst fullShare X _ (by rw [View.read_write_univ, hfs]))).trans hpay₂) hr) $$ [HI₁ HI₂ Hs Hd HP HO Ht₁ Hr₁ Ht₂ Hr₂]
  · iframe HI₁ HI₂ Hs Hd HP HO Ht₁ Hr₁ Ht₂ Hr₂
  iexact Hk

/-- A local transfer from an owned memref to another: both go to the payload, the target holding what the source held. -/
theorem wp_copy_owns {src : Memref sig c.2.kind sp s e} {dst : Memref sig c.2.kind sp' s e} {sem : SemLoc sig}
    {hsrc : src.view.WordExact} {hdst : dst.view.WordExact} {hsem : DmaTarget.Typed (nD := nD) sp sem (.here dst)}
    {k : PUnit → Prog (TpuEff nD τ sig Val Λ c.2) α} (q : PosShare TreeShare) (X Y : s.Idx → Val e) {r : ℕ} {d : D}
    {κ : Name} (hd : d ∈ R.duties (c, sem) r) (ι : Ix) (N : ℕ) (hN : dst.view.amount sem = N) (hk : R.amount (c, sem) r d = N)
    (hpay : iprop(owns c dst fullShare X ∗ owns c src q X) ⊢ R.payload (c, sem) r d) {Es : Set Name} :
    iprop(cellInv EE R κ (c, sem) ∗ owns c src q X ∗ owns c dst fullShare Y ∗ dutyTok EE (c, sem) r d ∗ reached EE (c, sem) r)
      ⊢ iprop((cred (tallyAt (c, sem) ι N) -∗ wp frame (wpE' defs 𝒱 c bd Γ) Es (k ⟨⟩) Q)
          -∗ wp frame (wpE' defs 𝒱 c bd Γ) Es (.op (.enqueueDma src (.here dst) sem hsrc hdst hsem) k) Q) := by
  iintro ⟨HI, Hs, Hd, Ht, Hr⟩ Hk
  ihave Hs' := (owns_open c src q X) $$ Hs
  icases Hs' with ⟨%fs, %hfs, Hs⟩
  ihave Hd' := (owns_open c dst fullShare Y) $$ Hd
  icases Hd' with ⟨%fd, %hfd, Hd⟩
  iapply (Rounds.wp_copy_pointsTo 𝒱 EE R c bd hd ι N hN hk (fs := fs) (fd := fd) (q := q)
    ((BI.sep_mono (owns_close c dst fullShare X _ (by rw [View.read_write_univ, hfs])) (owns_close c src q X fs hfs)).trans hpay))
    $$ [HI Hs Hd Ht Hr]
  · iframe HI Hs Hd Ht Hr
  iexact Hk

end Transfer

/-- Rectangles that between them reach every index cover. -/
theorem rects_cover {sh : Shape} {T : Type} [Fintype T] [DecidableEq T] (r : T → Rect sh) (tt : sh.Idx → T)
    (jj : ∀ x, (r (tt x)).shape.Idx) (h : ∀ x, (r (tt x)).emb (jj x) = x) :
    (Finset.univ : Finset T).biUnion (fun t => (r t).set) = Finset.univ :=
  Finset.eq_univ_iff_forall.mpr fun x => Finset.mem_biUnion.mpr ⟨tt x, Finset.mem_univ _, by
    rw [← Rect.map_emb_univ]; exact Finset.mem_map.mpr ⟨jj x, Finset.mem_univ _, h x⟩⟩
/-- Rectangles that an index tells apart are disjoint. -/
theorem rects_disjoint {sh : Shape} {T : Type} (r : T → Rect sh) (tt : sh.Idx → T) (h : ∀ t (j : (r t).shape.Idx), tt ((r t).emb j) = t)
    (t t' : T) (ht : t ≠ t') : Disjoint (r t).set (r t').set := by
  rw [← Rect.map_emb_univ, ← Rect.map_emb_univ, Finset.disjoint_left]
  intro x hx hx'
  obtain ⟨j, -, rfl⟩ := Finset.mem_map.mp hx
  obtain ⟨j', -, hj'⟩ := Finset.mem_map.mp hx'
  exact ht (by rw [← h t j, ← hj', h t' j'])

end Own

end
-- ==== Proof.StepsIdeal.lean ====
/-
  The kernel's body, written once more as a short structured program: one definition per kind of step, its
  ring (`d`), phase (`p`), step number (`s`) and quarter (`j`) as parameters.  `body_eq` says that this is the
  printed body.

  Two rings run at once over the eight devices.  Ring `false` sends to the right neighbour and receives from the
  left one; ring `true` the other way round.  In each of the two phases `p` a ring reduces 2048 columns.
-/
module

public import proofs.«01_k».proof.Proof.Gen.KernelIdeal.Points
public import proofs.«01_k».proof.Proof.Gen.KernelIdeal.Launch
public import Idealize.ShloMosaic.Lib.Pipeline.Regions

@[expose] public section

set_option maxRecDepth 100000

noncomputable section

namespace Cert.KernelIdeal.Own

open Cert.KernelIdeal Idealize.ShloMosaic Idealize.SL.Sem
open Facts₀ Facts

variable {F : FTy → Type} [FloatOps F] [Facts]

/-- A program of the kernel's body. -/
abbrev PG (F : FTy → Type) [FloatOps F] := Prog (TpuEff nD τ sig (Elt F) Λ₀ .tc) PUnit

/-! ## Buffers and their parts -/

/-- The device's columns of `x`. -/
abbrev xM : Memref sig .tc .vmem S4096x512 .f32 := Memref.whole cc0_stg0_0
/-- The device's rows of `w`. -/
abbrev wM : Memref sig .tc .vmem S512x8192 .f32 := Memref.whole cc0_stg1_0
/-- The device's block of the result. -/
abbrev outM : Memref sig .tc .hbm S512x8192 .f32 := Memref.whole main_v1
/-- The eight rows of maxima. -/
abbrev amM : Memref sig .tc .vmem S8x128 .f32 := Memref.whole cc0_scratch6
/-- Ring `d`'s two exchange slots. -/
def comm : Bool → Memref sig .tc .vmem S2x512x2048 .bf16
  | false => Memref.whole cc0_scratch0
  | true => Memref.whole cc0_scratch1
/-- Ring `d`'s buffer of the next partial product. -/
def tmp : Bool → Memref sig .tc .vmem S512x2048 .f32
  | false => Memref.whole cc0_scratch2
  | true => Memref.whole cc0_scratch3
/-- Ring `d`'s buffer of the first phase's result. -/
def y0 : Bool → Memref sig .tc .vmem S512x2048 .f32
  | false => Memref.whole cc0_scratch4
  | true => Memref.whole cc0_scratch5
/-- Where phase `p`'s result of ring `d` goes. -/
def yb : Bool → Bool → Memref sig .tc .vmem S512x2048 .f32
  | false, d => y0 d
  | true, d => tmp d

/-- A ring's buffer is a whole buffer. -/
theorem comm_whole (d : Bool) : (comm d).IsWhole := by cases d <;> exact Memref.isWhole_whole _
/-- A result buffer is a whole buffer. -/
theorem yb_whole (p d : Bool) : (yb p d).IsWhole := by cases p <;> cases d <;> exact Memref.isWhole_whole _

/-- The block of 512 columns of `w` at ring `d`, phase `p`, quarter `j`. -/
def cb (p d : Bool) (j : Fin 4) : Nat := 8 * p.toNat + 4 * d.toNat + j.val
/-- There are sixteen blocks of columns. -/
theorem cb_lt (p d : Bool) (j : Fin 4) : cb p d j < 16 := by cases p <;> cases d <;> simp [cb] <;> omega

/-- A block of columns lies in the right argument. -/
theorem wRect_inb (b : Nat) (hb : b < 16) : ∀ a, (![0, 512 * b] : Fin 2 → Nat) a + S512x512.size a ≤ S512x8192.size a := by
  intro a; match a with
  | 0 => exact Nat.le_refl 512
  | 1 => show 512 * b + 512 ≤ 8192; omega
/-- Columns `512 b …` of `w`. -/
abbrev wRect (b : Nat) (hb : b < 16) : Rect S512x8192 := Rect.unit (s := S512x8192) ![0, 512 * b] S512x512.size (wRect_inb b hb)

/-- A quarter lies in the ring's buffer. -/
theorem qRect_inb (ss : Bool) (j : Fin 4) : ∀ a, (![ss.toNat, 0, 512 * j.val] : Fin 3 → Nat) a + S1x512x512.size a ≤ S2x512x2048.size a := by
  intro a; match a with
  | 0 => show ss.toNat + 1 ≤ 2; cases ss <;> decide
  | 1 => exact Nat.le_refl 512
  | 2 => show 512 * j.val + 512 ≤ 2048; omega
/-- Quarter `j` of slot `ss`. -/
abbrev qRect (ss : Bool) (j : Fin 4) : Rect S2x512x2048 :=
  Rect.unit (s := S2x512x2048) ![ss.toNat, 0, 512 * j.val] S1x512x512.size (qRect_inb ss j)

/-- A slot lies in the ring's buffer. -/
theorem sRect_inb (ss : Bool) : ∀ a, (![ss.toNat, 0, 0] : Fin 3 → Nat) a + S1x512x2048.size a ≤ S2x512x2048.size a := by
  intro a; match a with
  | 0 => show ss.toNat + 1 ≤ 2; cases ss <;> decide
  | 1 => exact Nat.le_refl 512
  | 2 => exact Nat.le_refl 2048
/-- Slot `ss`. -/
abbrev sRect (ss : Bool) : Rect S2x512x2048 := Rect.unit (s := S2x512x2048) ![ss.toNat, 0, 0] S1x512x2048.size (sRect_inb ss)

/-- A quarter lies in a result buffer. -/
theorem tRect_inb (j : Fin 4) : ∀ a, (![0, 512 * j.val] : Fin 2 → Nat) a + S512x512.size a ≤ S512x2048.size a := by
  intro a; match a with
  | 0 => exact Nat.le_refl 512
  | 1 => show 512 * j.val + 512 ≤ 2048; omega
/-- Quarter `j` of a 512×2048 buffer. -/
abbrev tRect (j : Fin 4) : Rect S512x2048 := Rect.unit (s := S512x2048) ![0, 512 * j.val] S512x512.size (tRect_inb j)

/-- A row lies in the buffer of maxima. -/
theorem aRect_inb (o : Fin 8) : ∀ a, (![o.val, 0] : Fin 2 → Nat) a + S1x128.size a ≤ S8x128.size a := by
  intro a; match a with
  | 0 => show o.val + 1 ≤ 8; omega
  | 1 => exact Nat.le_refl 128
/-- Row `o` of the maxima. -/
abbrev aRect (o : Fin 8) : Rect S8x128 := Rect.unit (s := S8x128) ![o.val, 0] S1x128.size (aRect_inb o)

/-- A part lies in the result. -/
theorem oRect_inb (i : Fin 4) : ∀ a, (![0, 2048 * i.val] : Fin 2 → Nat) a + S512x2048.size a ≤ S512x8192.size a := by
  intro a; match a with
  | 0 => exact Nat.le_refl 512
  | 1 => show 2048 * i.val + 2048 ≤ 8192; omega
/-- Slab `i` of the result. -/
abbrev oRect (i : Fin 4) : Rect S512x8192 := Rect.unit (s := S512x8192) ![0, 2048 * i.val] S512x2048.size (oRect_inb i)

/-- Slot `ss` as a matrix, the end of a transfer. -/
abbrev slotM (d ss : Bool) : Memref sig .tc .vmem S512x2048 .bf16 :=
  ((comm d).slice (sRect ss) (fun _ => rfl)).squeeze S512x2048 squeezes_S1x512x2048_S512x2048
/-- Quarter `j` of slot `ss` as a matrix, the end of a transfer. -/
abbrev subM (d ss : Bool) (j : Fin 4) : Memref sig .tc .vmem S512x512 .bf16 :=
  ((comm d).slice (qRect ss j) (fun _ => rfl)).squeeze S512x512 squeezes_S1x512x512_S512x512
/-- Row `o` of the maxima, the end of a transfer. -/
abbrev amRow (o : Fin 8) : Memref sig .tc .vmem S1x128 .f32 := amM.slice (aRect o) (fun _ => rfl)
/-- Slab `i` of the result, the end of a transfer. -/
abbrev outSlab (i : Fin 4) : Memref sig .tc .hbm S512x2048 .f32 := outM.slice (oRect i) (fun _ => rfl)

/-- A quarter is made of whole words. -/
theorem qRect_words (ss : Bool) (j : Fin 4) : (qRect ss j).WholeWords (EltTy.packing .bf16) := by
  cases ss <;> fin_cases j
  · exact wordsbf16_S2x512x2048_S1x512x512_0_0_0
  · exact wordsbf16_S2x512x2048_S1x512x512_0_0_512
  · exact wordsbf16_S2x512x2048_S1x512x512_0_0_1024
  · exact wordsbf16_S2x512x2048_S1x512x512_0_0_1536
  · exact wordsbf16_S2x512x2048_S1x512x512_1_0_0
  · exact wordsbf16_S2x512x2048_S1x512x512_1_0_512
  · exact wordsbf16_S2x512x2048_S1x512x512_1_0_1024
  · exact wordsbf16_S2x512x2048_S1x512x512_1_0_1536
/-- Its rows are packed. -/
theorem qRect_packed (ss : Bool) (j : Fin 4) : (qRect ss j).PackedRows (EltTy.packing .bf16) := by
  cases ss <;> fin_cases j
  · exact packedbf16_S2x512x2048_S1x512x512_0_0_0
  · exact packedbf16_S2x512x2048_S1x512x512_0_0_512
  · exact packedbf16_S2x512x2048_S1x512x512_0_0_1024
  · exact packedbf16_S2x512x2048_S1x512x512_0_0_1536
  · exact packedbf16_S2x512x2048_S1x512x512_1_0_0
  · exact packedbf16_S2x512x2048_S1x512x512_1_0_512
  · exact packedbf16_S2x512x2048_S1x512x512_1_0_1024
  · exact packedbf16_S2x512x2048_S1x512x512_1_0_1536
/-- A slot is made of whole words. -/
theorem sRect_words (ss : Bool) : (sRect ss).WholeWords (EltTy.packing .bf16) := by
  cases ss
  · exact wordsbf16_S2x512x2048_S1x512x2048_0_0_0
  · exact wordsbf16_S2x512x2048_S1x512x2048_1_0_0
/-- A quarter may be transferred. -/
theorem subM_exact (d ss : Bool) (j : Fin 4) : (subM d ss j).view.WordExact :=
  ((comm_whole d).wordExact_slice rfl _ (qRect_words ss j)).reshape _ _
/-- A slot may be transferred. -/
theorem slotM_exact (d ss : Bool) : (slotM d ss).view.WordExact :=
  ((comm_whole d).wordExact_slice rfl _ (sRect_words ss)).reshape _ _

/-! ## Devices and semaphores -/

/-- The left neighbour. -/
def lft (c : Dev nD) : Dev nD := ⟨k0_dev1 c, k0_dev1_lt c⟩
/-- The right neighbour. -/
def rgt (c : Dev nD) : Dev nD := ⟨k0_dev2 c, k0_dev2_lt c⟩
/-- Where ring `d` sends. -/
def nxt : Bool → Dev nD → Dev nD | false, c => rgt c | true, c => lft c
/-- Where ring `d` receives from. -/
def prv : Bool → Dev nD → Dev nD | false, c => lft c | true, c => rgt c
/-- The device `o` places to the right, `1 ≤ o ≤ 7`. -/
def amDev (o : Fin 8) (c : Dev nD) : Dev nD :=
  match o with
  | 1 => ⟨k0_dev69 c, k0_dev69_lt c⟩
  | 2 => ⟨k0_dev70 c, k0_dev70_lt c⟩
  | 3 => ⟨k0_dev71 c, k0_dev71_lt c⟩
  | 4 => ⟨k0_dev72 c, k0_dev72_lt c⟩
  | 5 => ⟨k0_dev73 c, k0_dev73_lt c⟩
  | 6 => ⟨k0_dev74 c, k0_dev74_lt c⟩
  | 7 => ⟨k0_dev75 c, k0_dev75_lt c⟩
  | _ => c

/-- A DMA semaphore by number. -/
abbrev ds (n : Nat) (h : n < 46 := by omega) : DmaSem sig := ⟨n, h⟩
/-- Ring `d`'s send semaphore of slot `ss`. -/
def bigS (d ss : Bool) : DmaSem sig := ds (2 + 4 * d.toNat + ss.toNat) (by cases d <;> cases ss <;> decide)
/-- Ring `d`'s receive semaphore of slot `ss`. -/
def bigR (d ss : Bool) : DmaSem sig := ds (4 + 4 * d.toNat + ss.toNat) (by cases d <;> cases ss <;> decide)
/-- The first step's send semaphore of quarter `j`. -/
def subS (d : Bool) (j : Fin 4) : DmaSem sig := ds (10 + 2 * j.val + d.toNat) (by cases d <;> simp <;> omega)
/-- The first step's receive semaphore of quarter `j`. -/
def subR (d : Bool) (j : Fin 4) : DmaSem sig := ds (18 + 2 * j.val + d.toNat) (by cases d <;> simp <;> omega)
/-- The send semaphore of the maxima at distance `o`. -/
def amS (o : Fin 8) : DmaSem sig := ds (26 + o.val)
/-- The receive semaphore of the maxima at distance `o`. -/
def amR (o : Fin 8) : DmaSem sig := ds (34 + o.val)
/-- The semaphore of the result's slab `i`. -/
def locS (i : Fin 4) : DmaSem sig := ds (42 + i.val)
/-- Ring `d`'s credit semaphore. -/
def credS : Bool → Sem sig | false => (cc0_scratch15).sem | true => (cc0_scratch16).sem
/-- The barrier semaphore. -/
def barS : Sem sig := sig.barrier 0 rfl

/-! ## Arithmetic of a step -/

/-- One 512×512 partial product. -/
def dotW (x w : FVec F S512x512 .f32) : FVec F S512x512 .f32 :=
  matmul dot_S512x512_S512x512_S512x512_1_0_0_1_n_n none x (shapeCast S512x512 w shapeCasts_S512x512_S512x512)
    (constant S512x512 .f32 0x00000000#32)
/-- A partial product as a slot's quarter. -/
def packQ (v : FVec F S512x512 .f32) : FVec F S1x512x512 .bf16 :=
  shapeCast S1x512x512 (truncf .bf16 v bitsLt_bf16_f32) shapeCasts_S512x512_S1x512x512
/-- A slot's quarter read back. -/
def unpackQ (v : FVec F S1x512x512 .bf16) : FVec F S512x512 .f32 :=
  extf .f32 (shapeCast S512x512 v shapeCasts_S1x512x512_S512x512) bitsLt_bf16_f32
/-- The relu at the end of a ring. -/
def reluQ (v : FVec F S512x512 .f32) : FVec F S512x512 .f32 :=
  maximumf v (broadcast S512x512 (Scalar.ofBits .f32 0x00000000#32))
/-- A quarter stored as it is. -/
def sameQ (v : FVec F S512x512 .f32) : FVec F S512x512 .f32 := shapeCast S512x512 v shapeCasts_S512x512_S512x512
/-- The largest entry of a 512×2048 buffer. -/
def topOf (v : FVec F S512x2048 .f32) : F .f32 :=
  extractAt ![0, 0, 0] (shapeCast S1x1x1 (multiReduction .maximumf [1, 2] S1
    (shapeCast S1x512x2048 v shapeCasts_S512x2048_S1x512x2048) 0xFF800000#32 reduces_S1x512x2048_S1 (.inl rfl) rfl)
    shapeCasts_S1_S1x1x1) inpos_S1x1x1_p0_0_0
/-- The largest entry of the eight rows of maxima. -/
def topRows (v : FVec F S8x128 .f32) : F .f32 :=
  extractAt ![0, 0, 0] (shapeCast S1x1x1 (multiReduction .maximumf [1, 2] S1
    (shapeCast S1x8x128 v shapeCasts_S8x128_S1x8x128) 0xFF800000#32 reduces_S1x8x128_S1 (.inl rfl) rfl)
    shapeCasts_S1_S1x1x1) inpos_S1x1x1_p0_0_0
/-- A maximum as a row. -/
def rowOf (a : F .f32) : FVec F S1x128 .f32 := shapeCast S1x128 (broadcast S1x128 a) shapeCasts_S1x128_S1x128
/-- The scale. -/
def scaleOf (g : F .f32) : F .f32 := Scalar.divf g (Scalar.ofBits .f32 0x42FE0000#32)
/-- The quantiser on a quarter. -/
def quantQ (sc : F .f32) (v : FVec F S512x512 .f32) : FVec F S512x512 .f32 :=
  mulf (minimumf (broadcast S512x512 (Scalar.ofBits .f32 0x42FE0000#32))
    (maximumf (broadcast S512x512 (Scalar.ofBits .f32 0xC2FE0000#32)) (roundeven (divf v (broadcast S512x512 sc)))))
    (broadcast S512x512 sc)

/-! ## The steps -/

/-- First row of the rows of `x` that ring `d` multiplies at step `s`, as the kernel computes it. -/
def xOff (d : Bool) (s : Nat) (c : Dev nD) : Fin 2 → Nat :=
  match d, s with
  | false, 0 => k0_off1 c 1#32
  | false, 1 => k0_off1 c 2#32
  | false, s => k0_off3 c (BitVec.ofNat 32 s)
  | true, 0 => k0_off2 c 1#32
  | true, 1 => k0_off2 c 2#32
  | true, s => k0_off4 c (BitVec.ofNat 32 s)

/-- The rows of `x` ring `d` multiplies at step `s` on device `c`: block `c - 1 - s` or `c + 1 + s`. -/
def chunk (d : Bool) (s : Nat) (c : Dev nD) : Nat :=
  match d with
  | false => (c.val + 15 - s) % 8
  | true => (c.val + 1 + s) % 8

/-- Where the rows that a step loads begin. -/
theorem xOff_eq (d : Bool) (s : Fin 8) (c : Dev nD) : xOff d s.val c = ![512 * chunk d s.val c, 0] := by
  revert d s c; decide

/-- The rows that a step loads lie in the left argument. -/
theorem xRect_inb (d : Bool) (s : Nat) (hs : s < 8) (c : Dev nD) : ∀ a, xOff d s c a + S512x512.size a ≤ S4096x512.size a := by
  rw [xOff_eq d ⟨s, hs⟩ c]
  intro a; match a with
  | 0 => show 512 * chunk d s c + 512 ≤ 4096; cases d <;> simp only [chunk] <;> omega
  | 1 => exact Nat.le_refl 512

/-- Read the rows of `x` of step `s`. -/
def ldX (d : Bool) (s : Nat) (hs : s < 8) (c : Dev nD) (k : FVec F S512x512 .f32 → PG F) : PG F :=
  .op (.load xM (Rect.unit (s := S4096x512) (xOff d s c) S512x512.size (xRect_inb d s hs c)).toLoadRect (View.loadsAt_vmem h_S512x512))
    fun v => k (shapeCast S512x512 v shapeCasts_S512x512_S512x512)
/-- Read a block of columns of `w`. -/
def ldW (b : Nat) (hb : b < 16) (k : FVec F S512x512 .f32 → PG F) : PG F :=
  .op (.load wM (wRect b hb).toLoadRect (View.loadsAt_vmem h_S512x512)) fun (v : Vec F S512x512 .f32) => k v
/-- Read a slot's quarter. -/
def ldC (d ss : Bool) (j : Fin 4) (k : FVec F S1x512x512 .bf16 → PG F) : PG F :=
  .op (.load (comm d) (qRect ss j).toLoadRect (View.loadsAt_vmem h_S1x512x512)) fun (v : Vec F S1x512x512 .bf16) => k v
/-- Write a slot's quarter. -/
def stC (d ss : Bool) (j : Fin 4) (v : FVec F S1x512x512 .bf16) (k : PG F) : PG F :=
  .op (.store (comm d) (qRect ss j) v Finset.univ
    (View.stores_vmem h_S1x512x512 ((comm_whole d).storeExact_slice rfl _ (qRect_packed ss j)) (fun _ => rfl)) (.inl rfl)) fun _ => k
/-- Read a quarter of a result buffer. -/
def ldY (p d : Bool) (j : Fin 4) (k : FVec F S512x512 .f32 → PG F) : PG F :=
  .op (.load (yb p d) (tRect j).toLoadRect (View.loadsAt_vmem h_S512x512)) fun (v : Vec F S512x512 .f32) => k v
/-- Write a quarter of a result buffer. -/
def stY (p d : Bool) (j : Fin 4) (v : FVec F S512x512 .f32) (k : PG F) : PG F :=
  .op (.store (yb p d) (tRect j) v Finset.univ (View.stores_vmem_bits_univ h_S512x512 rfl) (.inl rfl)) fun _ => k
/-- Signal a regular semaphore by one. -/
def sig1 (dst : Dev nD) (s : Sem sig) (k : PG F) : PG F := .op (.semSignal (dst, .tc) s (1#32 : BitVec 32).toInt) fun _ => k
/-- Wait on a regular semaphore. -/
def waitN (s : Sem sig) (n : BitVec 32) (k : PG F) : PG F := .op (.semWait s n.toInt) fun _ => k

/-- The first step's quarter `j`: multiply, put in slot 0, send to the next device's slot 1. -/
def subSend (c : Dev nD) (p d : Bool) (j : Fin 4) (xs : FVec F S512x512 .f32) (k : PG F) : PG F :=
  ldW (cb p d j) (cb_lt p d j) fun w => ldC d false j fun _ => stC d false j (packQ (dotW xs w)) <|
  .op (.enqueueDma (subM d false j) (.remote (Dev.tc (nxt d c)) (subM d true j) (.dma (subS d j))) (.dma (subR d j))
    (subM_exact d false j) (subM_exact d true j) ⟨⟨rfl, Or.inl rfl⟩, trivial⟩) fun _ => k
/-- The two waits of the first step's quarter `j`. -/
def subWait (d : Bool) (j : Fin 4) (k : PG F) : PG F :=
  .op (.waitDma2 (subS d j) (subM d true j) (subM d false j) (subM_exact d true j) (subM_exact d false j)) fun _ =>
  .op (.waitDma2 (subR d j) (subM d false j) (subM d true j) (subM_exact d false j) (subM_exact d true j)) fun _ => k
/-- One quarter of the partial product kept aside. -/
def partOne (p d : Bool) (j : Fin 4) (xs : FVec F S512x512 .f32) (k : PG F) : PG F :=
  ldW (cb p d j) (cb_lt p d j) fun w => ldY true d j fun _ => stY true d j (sameQ (dotW xs w)) k
/-- The partial product of step `s` kept aside. -/
def partInto (c : Dev nD) (p d : Bool) (s : Nat) (hs : s < 8) (k : PG F) : PG F :=
  ldX d s hs c fun xs => partOne p d 0 xs <| partOne p d 1 xs <| partOne p d 2 xs <| partOne p d 3 xs k
/-- Add the partial product to what arrived, quarter `j`. -/
def accum (d rs : Bool) (j : Fin 4) (k : PG F) : PG F :=
  ldC d rs j fun v => ldY true d j fun t => ldC d rs j fun _ => stC d rs j (packQ (addf (unpackQ v) t)) k
/-- The last sum of a ring, quarter `j`. -/
def final (p d : Bool) (j : Fin 4) (k : PG F) : PG F :=
  ldC d true j fun v => ldY true d j fun t => ldY p d j fun _ => stY p d j (sameQ (reluQ (addf (unpackQ v) t))) k
/-- Both rings' quarters in order. -/
def eachQ (f : Bool → Fin 4 → PG F → PG F) (k : PG F) : PG F :=
  f false 0 <| f true 0 <| f false 1 <| f true 1 <| f false 2 <| f true 2 <| f false 3 <| f true 3 k
/-- Give the credits for the next step. -/
def giveCred (c : Dev nD) (k : PG F) : PG F := sig1 (prv false c) (credS false) <| sig1 (prv true c) (credS true) k
/-- Take the credits of this step. -/
def takeCred (k : PG F) : PG F := waitN (credS false) 1#32 <| waitN (credS true) 1#32 k
/-- The first step of a phase. -/
def firstStep (c : Dev nD) (p : Bool) (k : PG F) : PG F :=
  ldX false 0 (by decide) c fun xa => ldX true 0 (by decide) c fun xb =>
  eachQ (fun d j => subSend c p d j (match d with | false => xa | true => xb)) <|
  partInto c p false 1 (by decide) <| partInto c p true 1 (by decide) <|
  eachQ subWait <| giveCred c <| eachQ (fun d => accum d true) k
/-- A slot's transfer. -/
def bigSend (c : Dev nD) (d ss : Bool) (k : PG F) : PG F :=
  .op (.enqueueDma (slotM d ss) (.remote (Dev.tc (nxt d c)) (slotM d (!ss)) (.dma (bigS d ss))) (.dma (bigR d (!ss)))
    (slotM_exact d ss) (slotM_exact d (!ss)) ⟨⟨rfl, Or.inl rfl⟩, trivial⟩) fun _ => k
/-- The two waits of a slot's transfer. -/
def bigWait (d ss : Bool) (k : PG F) : PG F :=
  .op (.waitDma2 (bigS d ss) (slotM d (!ss)) (slotM d ss) (slotM_exact d (!ss)) (slotM_exact d ss)) fun _ =>
  .op (.waitDma2 (bigR d (!ss)) (slotM d ss) (slotM d (!ss)) (slotM_exact d ss) (slotM_exact d (!ss))) fun _ => k
/-- The common part of steps 2 to 7: take the credits, send slot `ss`, multiply, wait. -/
def bigCore (c : Dev nD) (p : Bool) (s : Nat) (hs : s < 8) (ss : Bool) (k : PG F) : PG F :=
  takeCred <| bigSend c false ss <| bigSend c true ss <|
  partInto c p false s hs <| partInto c p true s hs <| bigWait false ss <| bigWait true ss k
/-- Steps 2 to 6. -/
def midStep (c : Dev nD) (p : Bool) (s : Nat) (hs : s < 8) (ss : Bool) (k : PG F) : PG F :=
  bigCore c p s hs ss <| giveCred c <| eachQ (fun d => accum d (!ss)) k
/-- Step 7. -/
def lastStep (c : Dev nD) (p : Bool) (k : PG F) : PG F :=
  bigCore c p 7 (by decide) false <| eachQ (final p) k
/-- The largest entry of ring `d`'s result, added to a running maximum. -/
def topStep (p d : Bool) (a : F .f32) (k : F .f32 → PG F) : PG F :=
  .op (.load (yb p d) (Rect.unit (s := S512x2048) ![0, 0] S512x2048.size inb_S512x2048_S512x2048_0_0).toLoadRect
    (View.loadsAt_vmem h_S512x2048)) fun (v : Vec F S512x2048 .f32) => k (Scalar.maximumf a (topOf v))
/-- Send the maximum to the device `o` places on. -/
def amSend (c : Dev nD) (o : Fin 8) (k : PG F) : PG F :=
  .op (.enqueueDma (amRow 0) (.remote (Dev.tc (amDev o c)) (amRow o) (.dma (amS o))) (.dma (amR o))
    (View.wordExact_bits rfl) (View.wordExact_bits rfl) ⟨⟨rfl, Or.inl rfl⟩, trivial⟩) fun _ => k
/-- The two waits of a maximum's transfer. -/
def amWait (o : Fin 8) (k : PG F) : PG F :=
  .op (.waitDma2 (amS o) (amRow o) (amRow 0) (View.wordExact_bits rfl) (View.wordExact_bits rfl)) fun _ =>
  .op (.waitDma2 (amR o) (amRow 0) (amRow o) (View.wordExact_bits rfl) (View.wordExact_bits rfl)) fun _ => k
/-- Distances 1 to 7 in order. -/
def eachO (f : Fin 8 → PG F → PG F) (k : PG F) : PG F := f 1 <| f 2 <| f 3 <| f 4 <| f 5 <| f 6 <| f 7 k
/-- The exchange of the maxima: everyone's maximum to everyone. -/
def amStep (c : Dev nD) (a : F .f32) (k : F .f32 → PG F) : PG F :=
  .op (.load amM (aRect 0).toLoadRect (View.loadsAt_vmem h_S1x128)) fun _ =>
  .op (.store amM (aRect 0) (rowOf a) Finset.univ (View.stores_vmem_bits_univ h_S1x128 rfl) (.inl rfl)) fun _ =>
  eachO (amSend c) <| eachO amWait <|
  .op (.load amM (Rect.unit (s := S8x128) ![0, 0] S8x128.size inb_S8x128_S8x128_0_0).toLoadRect (View.loadsAt_vmem h_S8x128)) fun (v : Vec F S8x128 .f32) =>
  k (scaleOf (topRows v))
/-- Quantise quarter `j` of a result buffer. -/
def quantOne (sc : F .f32) (p d : Bool) (j : Fin 4) (k : PG F) : PG F :=
  ldY p d j fun v => ldY p d j fun _ => stY p d j (sameQ (quantQ sc v)) k
/-- The slab that a result buffer fills. -/
def slab (p d : Bool) : Fin 4 := match p, d with | false, false => 0 | false, true => 1 | true, false => 2 | true, true => 3
/-- Quantise a result buffer and start copying it out. -/
def quantBuf (sc : F .f32) (p d : Bool) (k : PG F) : PG F :=
  quantOne sc p d 0 <| quantOne sc p d 1 <| quantOne sc p d 2 <| quantOne sc p d 3 <|
  .op (.enqueueDma (yb p d) (.here (outSlab (slab p d))) (.dma (locS (slab p d))) (yb_whole p d).wordExact (View.wordExact_bits rfl)
    ⟨Or.inl rfl, trivial⟩) fun _ => k
/-- Wait for a copy out. -/
def locWait (p d : Bool) (k : PG F) : PG F :=
  .op (.waitDma2 (locS (slab p d)) (yb p d) (outSlab (slab p d)) (yb_whole p d).wordExact (View.wordExact_bits rfl)) fun _ => k
/-- A phase's seven steps. -/
def ringPart (c : Dev nD) (p : Bool) (k : PG F) : PG F :=
  firstStep c p <| midStep c p 2 (by decide) true <| midStep c p 3 (by decide) false <| midStep c p 4 (by decide) true <|
  midStep c p 5 (by decide) false <| midStep c p 6 (by decide) true <| lastStep c p k
/-- The end: quantise and copy out. -/
def outPart (sc : F .f32) (k : PG F) : PG F :=
  quantBuf sc false false <| quantBuf sc false true <| quantBuf sc true false <| quantBuf sc true true <|
  locWait false false <| locWait false true <| locWait true false <| locWait true true k
/-- The barrier at the start. -/
def barPart (c : Dev nD) (k : PG F) : PG F := sig1 (lft c) barS <| sig1 (rgt c) barS <| waitN barS 2#32 k
/-- The body on device `c`. -/
def bodyAt (c : Dev nD) : PG F :=
  barPart c <| ringPart c false <| giveCred c <|
  topStep false false (Scalar.ofBits .f32 0x00000000#32) fun a₁ => topStep false true a₁ fun a₂ =>
  takeCred <| ringPart c true <| topStep true false a₂ fun a₃ => topStep true true a₃ fun a₄ =>
  amStep c a₄ fun sc => outPart sc (.ret ⟨⟩)

/-- The printed body is the structured one. -/
theorem body_eq : Gen.bodyAt0 (F := F) Gen.t0_0 = .op .deviceId fun c => bodyAt c := by
  chain_rfl

end Cert.KernelIdeal.Own

end
-- ==== Proof.ProtoIdeal.lean ====
/-
  What the devices compute at each step, as functions of the launch's blocks of `x` and `w`; and the protocol between
  them: for each semaphore who pays each round, how much, and what is handed over, contents included.

  * barrier, round 0: ring `d`'s duty is paid by the device ring `d` sends to; it hands over its slot 1 of ring `d`
    (ring `false` hands over its rows 1 to 7 of the maxima besides).
  * credit of ring `d`, round `r`: paid by the device ring `d` sends to, at the end of step `r + 1` (steps counted through
    both phases); it hands over the slot that step `r + 2` writes, that it has reached the round of the receive
    semaphore that step pays, and (ring `false`) the rows of maxima still to be passed on.
  * send semaphores: the sender's own slot comes back.
  * receive semaphores: the slot comes with the previous device's sum.
  * maxima: row 0's share comes back; row `o` comes with the maximum of the device `o` places to the left.
  * copies out: the buffer and the slab of the result come back, the slab written.
-/
module

public import proofs.«01_k».proof.Proof.StepsIdeal
public import proofs.«01_k».proof.Proof.Mem
public import Idealize.ShloMosaic.Lib.Transfers
public import Mathlib.Tactic.DeriveFintype

@[expose] public section

set_option maxRecDepth 100000

noncomputable section

namespace Cert.KernelIdeal.Own

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Facts₀ Facts

variable {F : FTy → Type} [FloatOps F] [Facts]

/-- The rounds of this kernel's semaphores, beside the pipeline's. -/
abbrev UB : Type := URounds (GSem nD τ sig) Bool
/-- Both. -/
abbrev UU : Type := UR sig nD τ × UB

local notation "𝕄" => MT nD τ sig ℕ (Elt F) ℕ UU ℕ

/-- The pipeline's part. -/
abbrev EP : Emb (UR sig nD τ) (MT nD τ sig ℕ (Elt F) ℕ UU ℕ) := embL
/-- This kernel's part. -/
abbrev ER : Emb UB (MT nD τ sig ℕ (Elt F) ℕ UU ℕ) := embR

/-! ## Neighbours -/

/-- Back one place round the ring and forward again. -/
theorem nxt_prv (d : Bool) (c : Dev nD) : nxt d (prv d c) = c := by revert d c; decide
/-- Forward one place round the ring and back again. -/
theorem prv_nxt (d : Bool) (c : Dev nD) : prv d (nxt d c) = c := by revert d c; decide
/-- The device `o` places to the right. -/
def dv (o : Fin 8) (c : Dev nD) : Dev nD := ⟨(c.val + o.val) % 8, Nat.mod_lt _ (by decide)⟩
/-- The device `o` places to the left. -/
def bk (o : Fin 8) (c : Dev nD) : Dev nD := ⟨(c.val + (8 - o.val)) % 8, Nat.mod_lt _ (by decide)⟩
/-- The device the program names in the exchange of maxima. -/
theorem amDev_eq (o : Fin 8) (c : Dev nD) : amDev o c = dv o c := by revert o c; decide
/-- Going back some places and forward again. -/
theorem dv_bk (o : Fin 8) (c : Dev nD) : dv o (bk o c) = c := by revert o c; decide
/-- Going forward some places and back again. -/
theorem bk_dv (o : Fin 8) (c : Dev nD) : bk o (dv o c) = c := by revert o c; decide
/-- One more place from the neighbour before. -/
theorem dv_prv (o o' : Fin 8) (h : o'.val = o.val + 1) (c : Dev nD) : dv o' (prv false c) = dv o c := by
  revert o o' c; decide
/-- No places on. -/
theorem dv_zero (c : Dev nD) : dv 0 c = c := by revert c; decide
/-- The neighbour is one place on. -/
theorem nxt_false (c : Dev nD) : nxt false c = dv 1 c := by revert c; decide

/-! ## Indices -/

/-- An index of a matrix. -/
def mk2 {n m : Nat} (a : Fin n) (b : Fin m) : Shape.Idx ⟨2, ![n, m]⟩ := fun k => match k with | 0 => a | 1 => b
/-- An index of a matrix with a leading axis. -/
def mk3 {l n m : Nat} (a : Fin l) (b : Fin n) (c : Fin m) : Shape.Idx ⟨3, ![l, n, m]⟩ :=
  fun k => match k with | 0 => a | 1 => b | 2 => c

/-- Four quarters side by side. -/
def glue (q : Fin 4 → FVec F S512x512 .f32) : FVec F S512x2048 .f32 := fun i =>
  q ⟨(i 1).val / 512, by have := (i 1).isLt; change (i 1).val < 2048 at this; omega⟩
    (mk2 (i 0) ⟨(i 1).val % 512, Nat.mod_lt _ (by decide)⟩)
/-- Four quarters of a slot side by side. -/
def glueC (q : Fin 4 → FVec F S1x512x512 .bf16) : FVec F S1x512x2048 .bf16 := fun i =>
  q ⟨(i 2).val / 512, by have := (i 2).isLt; change (i 2).val < 2048 at this; omega⟩
    (mk3 (i 0) (i 1) ⟨(i 2).val % 512, Nat.mod_lt _ (by decide)⟩)

/-! ## Values -/

section Values

variable (X : Dev nD → FVec F S4096x512 .f32) (W : Dev nD → FVec F S512x8192 .f32)

/-- A block of rows lies in the left argument. -/
theorem rows_inb (k : Nat) (hk : k < 8) : ∀ a, (![512 * k, 0] : Fin 2 → Nat) a + S512x512.size a ≤ S4096x512.size a := by
  intro a; match a with
  | 0 => show 512 * k + 512 ≤ 4096; omega
  | 1 => exact Nat.le_refl 512
/-- Rows `512 k …` of a device's columns of `x`. -/
def rowsOf (x : FVec F S4096x512 .f32) (k : Nat) (hk : k < 8) : FVec F S512x512 .f32 :=
  fun i => x ((Rect.unit (s := S4096x512) ![512 * k, 0] S512x512.size (rows_inb k hk)).emb i)
/-- Columns `512 b …` of a device's rows of `w`. -/
def colsOf (w : FVec F S512x8192 .f32) (b : Nat) (hb : b < 16) : FVec F S512x512 .f32 := fun i => w ((wRect b hb).emb i)

/-- There are eight blocks. -/
theorem chunk_lt (d : Bool) (s : Nat) (c : Dev nD) : chunk d s c < 8 := by
  cases d <;> exact Nat.mod_lt _ (by decide)

/-- Device `c`'s rows of `x` for ring `d` at step `s`. -/
def xs (d : Bool) (s : Nat) (c : Dev nD) : FVec F S512x512 .f32 :=
  shapeCast S512x512 (rowsOf (X c) (chunk d s c) (chunk_lt d s c)) shapeCasts_S512x512_S512x512
/-- Device `c`'s partial product for ring `d`, phase `p`, step `s`, quarter `j`. -/
def part (p d : Bool) (s : Nat) (c : Dev nD) (j : Fin 4) : FVec F S512x512 .f32 :=
  dotW (xs X d s c) (colsOf (W c) (cb p d j) (cb_lt p d j))
/-- The sum device `c` holds after `s` additions. -/
def SA (p d : Bool) : Nat → Dev nD → Fin 4 → FVec F S1x512x512 .bf16
  | 0, c, j => packQ (part X W p d 0 c j)
  | s + 1, c, j => packQ (addf (unpackQ (SA p d s (prv d c) j)) (sameQ (part X W p d (s + 1) c j)))
/-- The finished quarter of device `c`'s block. -/
def FA (p d : Bool) (c : Dev nD) (j : Fin 4) : FVec F S512x512 .f32 :=
  sameQ (reluQ (addf (unpackQ (SA X W p d 6 (prv d c) j)) (sameQ (part X W p d 7 c j))))
/-- A finished buffer. -/
def YA (p d : Bool) (c : Dev nD) : FVec F S512x2048 .f32 := glue (FA X W p d c)
/-- The running maximum after some buffers. -/
def am1 (c : Dev nD) : F .f32 := Scalar.maximumf (Scalar.ofBits .f32 0x00000000#32) (topOf (YA X W false false c))
/-- The next. -/
def am2 (c : Dev nD) : F .f32 := Scalar.maximumf (am1 X W c) (topOf (YA X W false true c))
/-- The next. -/
def am3 (c : Dev nD) : F .f32 := Scalar.maximumf (am2 X W c) (topOf (YA X W true false c))
/-- Device `c`'s maximum. -/
def AM (c : Dev nD) : F .f32 := Scalar.maximumf (am3 X W c) (topOf (YA X W true true c))
/-- The eight rows of maxima on device `c`. -/
def GM (c : Dev nD) : FVec F S8x128 .f32 := fun i => rowOf (AM X W (bk (i 0) c)) (mk2 0 (i 1))
/-- The scale. -/
def SC (c : Dev nD) : F .f32 := scaleOf (topRows (GM X W c))
/-- A quantised quarter. -/
def QA (p d : Bool) (c : Dev nD) (j : Fin 4) : FVec F S512x512 .f32 := sameQ (quantQ (SC X W c) (FA X W p d c j))
/-- A quantised buffer. -/
def ZA (p d : Bool) (c : Dev nD) : FVec F S512x2048 .f32 := glue (QA X W p d c)
/-- Device `c`'s block of the result. -/
def OUT (c : Dev nD) : FVec F S512x8192 .f32 := fun i =>
  ZA X W (decide (4096 ≤ (i 1).val)) (decide (2048 ≤ (i 1).val % 4096)) c
    (mk2 (i 0) ⟨(i 1).val % 2048, Nat.mod_lt _ (by decide)⟩)

end Values

/-! ## Holdings -/

/-- Device `c` holds quarter `j` of ring `d`'s slot `ss`. -/
def qtr (c : Dev nD) (d ss : Bool) (j : Fin 4) (x : FVec F S1x512x512 .bf16) : sProp 𝕄 :=
  ownsTc c ((comm d).slice (qRect ss j) (fun _ => rfl)) fullShare x
/-- Device `c` holds ring `d`'s slot `ss`, any contents. -/
def slotAny (c : Dev nD) (d ss : Bool) : sProp 𝕄 := bigSep Finset.univ fun j : Fin 4 => iprop(∃ x, qtr c d ss j x)
/-- Device `c` holds ring `d`'s slot `ss` at the quarters `x`. -/
def slotAt (c : Dev nD) (d ss : Bool) (x : Fin 4 → FVec F S1x512x512 .bf16) : sProp 𝕄 :=
  bigSep Finset.univ fun j : Fin 4 => qtr c d ss j (x j)
/-- Device `c` holds quarter `j` of a result buffer. -/
def yq (c : Dev nD) (p d : Bool) (j : Fin 4) (x : FVec F S512x512 .f32) : sProp 𝕄 :=
  ownsTc c ((yb p d).slice (tRect j) (fun _ => rfl)) fullShare x
/-- Device `c` holds a result buffer, any contents. -/
def yAny (c : Dev nD) (p d : Bool) : sProp 𝕄 := bigSep Finset.univ fun j : Fin 4 => iprop(∃ x, yq c p d j x)
/-- Device `c` holds a result buffer at the quarters `x`. -/
def yAt (c : Dev nD) (p d : Bool) (x : Fin 4 → FVec F S512x512 .f32) : sProp 𝕄 :=
  bigSep Finset.univ fun j : Fin 4 => yq c p d j (x j)
/-- Device `c` holds row `o` of the maxima, any contents. -/
def amAny (c : Dev nD) (o : Fin 8) : sProp 𝕄 := iprop(∃ x, ownsTc c (amRow o) fullShare x)
/-- The rows of maxima still travelling when device `c` starts step `g`: rows `g` to 7 of the device `g` places on. -/
def amRows (c : Dev nD) (g : Nat) : sProp 𝕄 :=
  bigSep (Finset.univ.filter fun o : Fin 8 => g ≤ o.val) fun o => amAny (dv ⟨g % 8, Nat.mod_lt _ (by decide)⟩ c) o

/-- A quarter may be handed over by a semaphore. -/
instance qtr_storable (c : Dev nD) (d ss : Bool) (j : Fin 4) (x) : BI.Storable (upEmb : UEmb _ 𝕄) (qtr (F := F) c d ss j x) := by
  unfold qtr; infer_instance
/-- So may a slot with contents unnamed. -/
instance slotAny_storable (c : Dev nD) (d ss : Bool) : BI.Storable (upEmb : UEmb _ 𝕄) (slotAny (F := F) c d ss) := by
  unfold slotAny; infer_instance
/-- So may a slot. -/
instance slotAt_storable (c : Dev nD) (d ss : Bool) (x) : BI.Storable (upEmb : UEmb _ 𝕄) (slotAt (F := F) c d ss x) := by
  unfold slotAt; infer_instance
/-- So may a row of maxima with contents unnamed. -/
instance amAny_storable (c : Dev nD) (o) : BI.Storable (upEmb : UEmb _ 𝕄) (amAny (F := F) c o) := by
  unfold amAny; infer_instance
/-- So may several. -/
instance amRows_storable (c : Dev nD) (g) : BI.Storable (upEmb : UEmb _ 𝕄) (amRows (F := F) c g) := by
  unfold amRows; infer_instance

/-! ## The semaphores by kind -/

/-- The kernel's own semaphores. -/
inductive Kd where
  | bar | cred (d : Bool) | bigS (d ss : Bool) | bigR (d ss : Bool) | subS (d : Bool) (j : Fin 4) | subR (d : Bool) (j : Fin 4)
  | amS (o : Fin 8) | amR (o : Fin 8) | loc (p d : Bool)
  deriving DecidableEq, Fintype

/-- A kind's semaphore. -/
def semOf : Kd → SemLoc sig
  | .bar => .reg barS
  | .cred d => .reg (credS d)
  | .bigS d ss => .dma (bigS d ss)
  | .bigR d ss => .dma (bigR d ss)
  | .subS d j => .dma (subS d j)
  | .subR d j => .dma (subR d j)
  | .amS o => .dma (amS o)
  | .amR o => .dma (amR o)
  | .loc p d => .dma (locS (slab p d))

/-- A DMA semaphore's kind by its number. -/
def kindD (n : Nat) : Option Kd :=
  if n < 2 then none
  else if n < 10 then
    if (n - 2) % 4 < 2 then some (.bigS (decide (6 ≤ n)) (decide (n % 2 = 1)))
    else some (.bigR (decide (6 ≤ n)) (decide (n % 2 = 1)))
  else if n < 18 then some (.subS (decide (n % 2 = 1)) ⟨(n - 10) / 2 % 4, Nat.mod_lt _ (by decide)⟩)
  else if n < 26 then some (.subR (decide (n % 2 = 1)) ⟨(n - 18) / 2 % 4, Nat.mod_lt _ (by decide)⟩)
  else if n < 34 then some (.amS ⟨(n - 26) % 8, Nat.mod_lt _ (by decide)⟩)
  else if n < 42 then some (.amR ⟨(n - 34) % 8, Nat.mod_lt _ (by decide)⟩)
  else some (.loc (decide (44 ≤ n)) (decide (n % 2 = 1)))
/-- A semaphore's kind. -/
def kindOf : SemLoc sig → Option Kd
  | .reg s => if s = barS then some .bar else if s = credS false then some (.cred false)
      else if s = credS true then some (.cred true) else none
  | .dma q => kindD q.val

/-- A kind's semaphore is of that kind. -/
theorem kindOf_semOf (k : Kd) : kindOf (semOf k) = some k := by
  cases k with
  | bar => rfl
  | cred d => cases d <;> rfl
  | bigS d ss => cases d <;> cases ss <;> rfl
  | bigR d ss => cases d <;> cases ss <;> rfl
  | subS d j => cases d <;> fin_cases j <;> rfl
  | subR d j => cases d <;> fin_cases j <;> rfl
  | amS o => fin_cases o <;> rfl
  | amR o => fin_cases o <;> rfl
  | loc p d => cases p <;> cases d <;> rfl

/-- Different kinds have different semaphores. -/
theorem semOf_injective : Function.Injective semOf := fun a b h => by
  have := congrArg kindOf h
  rw [kindOf_semOf, kindOf_semOf] at this
  exact Option.some.inj this

/-- Device `c`'s semaphore of a kind. -/
abbrev cell (c : Dev nD) (k : Kd) : GSem nD τ sig := ((c : Thread nD τ), semOf k)

/-! ## The schedule -/

/-- Who pays in round `r`. -/
def kDuties : Kd → ℕ → Finset Bool
  | .bar, r => if r = 0 then Finset.univ else ∅
  | .cred _, r => if r < 13 then {false} else ∅
  | .bigS _ _, r => if r < 6 then {false} else ∅
  | .bigR _ _, r => if r < 6 then {false} else ∅
  | .subS _ _, r => if r < 2 then {false} else ∅
  | .subR _ _, r => if r < 2 then {false} else ∅
  | .amS o, r => if r = 0 ∧ o ≠ 0 then {false} else ∅
  | .amR o, r => if r = 0 ∧ o ≠ 0 then {false} else ∅
  | .loc _ _, r => if r = 0 then {false} else ∅

/-- How much a duty pays. -/
def kAmt : Kd → ℕ
  | .bar => 1
  | .cred _ => 1
  | .bigS d _ => (slotM d true).view.dmaCredit
  | .bigR d _ => (slotM d true).view.dmaCredit
  | .subS d _ => (subM d true 0).view.dmaCredit
  | .subR d _ => (subM d true 0).view.dmaCredit
  | .amS _ => (amRow 0).view.dmaCredit
  | .amR _ => (amRow 0).view.dmaCredit
  | .loc _ _ => (outSlab 0).view.dmaCredit

/-- Every payment is of a positive amount. -/
theorem kAmt_pos (k : Kd) : 0 < kAmt k := by
  cases k <;> first | exact Nat.one_pos | exact View.dmaCredit_pos _ (by decide)

/-- The slot that step `r + 2` writes. -/
def credSlot (r : ℕ) : Bool := if r < 6 then decide (r % 2 = 1) else decide (r % 2 = 0)
/-- That device `c` has reached the round of its receive semaphore that step `r + 2` pays. -/
def credReach (c : Dev nD) (d : Bool) (r : ℕ) : sProp 𝕄 :=
  if r = 6 then bigSep Finset.univ fun j : Fin 4 => reached ER (cell c (.subR d j)) 1
  else reached ER (cell c (.bigR d (credSlot r))) ((if r < 6 then r else r - 1) / 2)

/-- So may the record of a credit's round. -/
instance credReach_storable (c : Dev nD) (d) (r) : BI.Storable (upEmb : UEmb _ 𝕄) (credReach (F := F) c d r) := by
  unfold credReach; split <;> infer_instance

section Pay

variable (X : Dev nD → FVec F S4096x512 .f32) (W : Dev nD → FVec F S512x8192 .f32)

/-- What a credit hands over. -/
def credPay (c : Dev nD) (d : Bool) (r : ℕ) : sProp 𝕄 :=
  iprop(slotAny (nxt d c) d (credSlot r) ∗ credReach (nxt d c) d r ∗ if d then iprop(emp) else amRows c (r + 2))
/-- What the barrier hands over. -/
def barPay (c : Dev nD) (d : Bool) : sProp 𝕄 :=
  iprop(slotAny (nxt d c) d true ∗ if d then iprop(emp) else amRows c 1)
/-- What a slot's arrival hands over. -/
def bigPay (c : Dev nD) (d rs : Bool) (r : ℕ) : sProp 𝕄 :=
  iprop(slotAt c d rs (SA X W (decide (6 ≤ 2 * r + rs.toNat)) d ((2 * r + rs.toNat) % 6 + 1) (prv d c))
    ∗ reached ER (cell (prv d c) (.cred d)) (2 * r + rs.toNat + 1 + (decide (6 ≤ 2 * r + rs.toNat)).toNat))
/-- What the arrival of a first step's quarter hands over. -/
def subPay (c : Dev nD) (d : Bool) (j : Fin 4) (r : ℕ) : sProp 𝕄 :=
  iprop(qtr c d true j (SA X W (decide (r = 1)) d 0 (prv d c) j) ∗ reached ER (cell (prv d c) (.cred d)) (7 * r))
/-- What a copy out hands back. -/
def locPay (c : Dev nD) (p d : Bool) : sProp 𝕄 :=
  iprop(ownsTc c (yb p d) fullShare (ZA X W p d c) ∗ ownsTc c (outSlab (slab p d)) fullShare (ZA X W p d c))

/-- What round `r` of a kind hands over on device `c`. -/
def kPay (c : Dev nD) : Kd → ℕ → Bool → sProp 𝕄
  | .bar, _, d => barPay c d
  | .cred d, r, _ => credPay c d r
  | .bigS d ss, _, _ => slotAny c d ss
  | .bigR d rs, r, _ => bigPay X W c d rs r
  | .subS d j, _, _ => iprop(∃ x, qtr c d false j x)
  | .subR d j, r, _ => subPay X W c d j r
  | .amS o, _, _ => ownsTc c (amRow 0) (shareTokN fullShare o.val) (rowOf (AM X W c))
  | .amR o, _, _ => ownsTc c (amRow o) fullShare (rowOf (AM X W (bk o c)))
  | .loc p d, _, _ => locPay X W c p d

/-- So may what the barrier hands over. -/
instance barPay_storable (c : Dev nD) (d : Bool) : BI.Storable (upEmb : UEmb _ 𝕄) (barPay (F := F) c d) := by
  cases d
  · exact inferInstanceAs (BI.Storable (upEmb : UEmb _ 𝕄) iprop(slotAny (F := F) (nxt false c) false true ∗ amRows c 1))
  · exact inferInstanceAs (BI.Storable (upEmb : UEmb _ 𝕄) iprop(slotAny (F := F) (nxt true c) true true ∗ iprop(emp)))
/-- So may what a credit hands over. -/
instance credPay_storable (c : Dev nD) (d : Bool) (r : ℕ) : BI.Storable (upEmb : UEmb _ 𝕄) (credPay (F := F) c d r) := by
  cases d
  · exact inferInstanceAs (BI.Storable (upEmb : UEmb _ 𝕄)
      iprop(slotAny (F := F) (nxt false c) false (credSlot r) ∗ credReach (nxt false c) false r ∗ amRows c (r + 2)))
  · exact inferInstanceAs (BI.Storable (upEmb : UEmb _ 𝕄)
      iprop(slotAny (F := F) (nxt true c) true (credSlot r) ∗ credReach (nxt true c) true r ∗ iprop(emp)))
/-- So may what a whole slot's transfer hands over. -/
instance bigPay_storable (c : Dev nD) (d rs : Bool) (r : ℕ) : BI.Storable (upEmb : UEmb _ 𝕄) (bigPay X W c d rs r) := by
  unfold bigPay; infer_instance
/-- So may what a quarter's transfer hands over. -/
instance subPay_storable (c : Dev nD) (d : Bool) (j) (r : ℕ) : BI.Storable (upEmb : UEmb _ 𝕄) (subPay X W c d j r) := by
  unfold subPay; infer_instance
/-- So may what a copy out hands over. -/
instance locPay_storable (c : Dev nD) (p d : Bool) : BI.Storable (upEmb : UEmb _ 𝕄) (locPay X W c p d) := by
  unfold locPay; infer_instance

/-- So may what any kind of semaphore hands over. -/
instance kPay_storable (c : Dev nD) (k : Kd) (r : ℕ) (d : Bool) : BI.Storable (upEmb : UEmb _ 𝕄) (kPay X W c k r d) := by
  cases k with
  | bar => exact inferInstanceAs (BI.Storable (upEmb : UEmb _ 𝕄) (barPay c d))
  | cred e => exact inferInstanceAs (BI.Storable (upEmb : UEmb _ 𝕄) (credPay c e r))
  | bigS d ss => exact inferInstanceAs (BI.Storable (upEmb : UEmb _ 𝕄) (slotAny c d ss))
  | bigR d ss => exact inferInstanceAs (BI.Storable (upEmb : UEmb _ 𝕄) (bigPay X W c d ss r))
  | subS d j => exact inferInstanceAs (BI.Storable (upEmb : UEmb _ 𝕄) iprop(∃ x, qtr c d false j x))
  | subR d j => exact inferInstanceAs (BI.Storable (upEmb : UEmb _ 𝕄) (subPay X W c d j r))
  | amS o => exact inferInstanceAs (BI.Storable (upEmb : UEmb _ 𝕄) (ownsTc c (amRow 0) (shareTokN fullShare o.val) (rowOf (AM X W c))))
  | amR o => exact inferInstanceAs (BI.Storable (upEmb : UEmb _ 𝕄) (ownsTc c (amRow o) fullShare (rowOf (AM X W (bk o c)))))
  | loc p d => exact inferInstanceAs (BI.Storable (upEmb : UEmb _ 𝕄) (locPay X W c p d))

/-- The schedule of every cell. -/
def Rd : Rounds.Schedule (GSem nD τ sig) Bool 𝕄 where
  duties g r := if g.1.2 = .tc then (match kindOf g.2 with | some k => kDuties k r | none => ∅) else ∅
  unitless _ := False
  amount g _ _ := match kindOf g.2 with | some k => kAmt k | none => 1
  payload g r d := match kindOf g.2 with | some k => kPay X W g.1.1 k r d | none => iprop(emp)
  amount_pos g _ _ _ := by
    cases kindOf g.2 with
    | some k => exact kAmt_pos k
    | none => exact Nat.one_pos

/-- So may every payload of the protocol. -/
instance Rd_payload_storable (g : GSem nD τ sig) (r : ℕ) (d : Bool) :
    BI.Storable (upEmb : UEmb _ 𝕄) ((Rd X W).payload g r d) := by
  show BI.Storable upEmb (match kindOf g.2 with | some k => kPay X W g.1.1 k r d | none => iprop(emp))
  cases kindOf g.2 with
  | some k => exact inferInstanceAs (BI.Storable (upEmb : UEmb _ 𝕄) (kPay X W g.1.1 k r d))
  | none => exact inferInstanceAs (BI.Storable (upEmb : UEmb _ 𝕄) iprop(emp))

variable (c : Dev nD) (k : Kd)

/-- Who pays on a semaphore in a round. -/
theorem Rd_duties (r : ℕ) : (Rd X W).duties (cell c k) r = kDuties k r := by
  show (if (cell c k).1.2 = .tc then (match kindOf (semOf k) with | some k => kDuties k r | none => ∅) else ∅) = _
  rw [kindOf_semOf, if_pos rfl]
/-- How much they pay. -/
theorem Rd_amount (r : ℕ) (d : Bool) : (Rd X W).amount (cell c k) r d = kAmt k := by
  show (match kindOf (semOf k) with | some k => kAmt k | none => 1) = _
  rw [kindOf_semOf]
/-- What they hand over. -/
theorem Rd_payload (r : ℕ) (d : Bool) : (Rd X W).payload (cell c k) r d = kPay X W c k r d := by
  show (match kindOf (semOf k) with | some k' => kPay X W c k' r d | none => iprop(emp)) = _
  rw [kindOf_semOf]
/-- A round of one duty is paid by that duty's amount, -/
theorem Rd_expect (r : ℕ) (h : kDuties k r = {false}) : (Rd X W).expect (cell c k) r = kAmt k := by
  unfold Schedule.expect Schedule.amountOf
  rw [Rd_duties, h, Finset.sum_singleton, Rd_amount]
/-- and hands over that duty's payload. -/
theorem Rd_rest (r : ℕ) (h : kDuties k r = {false}) :
    bigSep ((Rd X W).duties (cell c k) r \ ∅) (fun d => (Rd X W).payload (cell c k) r d) = kPay X W c k r false := by
  rw [Finset.sdiff_empty, Rd_duties, h, bigSep_singleton, Rd_payload]
/-- The barrier waits for two. -/
theorem Rd_expect_bar : (Rd X W).expect (cell c .bar) 0 = 2 := by
  unfold Schedule.expect Schedule.amountOf
  rw [Rd_duties, Finset.sum_congr rfl fun d _ => Rd_amount X W c .bar 0 d]
  rfl
/-- What the barrier's wait is given. -/
theorem Rd_rest_bar :
    bigSep ((Rd X W).duties (cell c .bar) 0 \ ∅) (fun d => (Rd X W).payload (cell c .bar) 0 d)
      = iprop(barPay c false ∗ barPay c true) := by
  rw [Finset.sdiff_empty, Rd_duties, show kDuties .bar 0 = Finset.univ from rfl,
    bigSep_univ_eq_bigSepL [false, true] (by decide) (by decide), bigSepL_cons_cons, bigSepL_singleton, Rd_payload, Rd_payload]
  rfl

end Pay

end Cert.KernelIdeal.Own

end
-- ==== Proof.MovesIdeal.lean ====
/-
  One effect of the body at a time: a signal, a wait, a transfer, each against the list of what the device still has
  to pay, the list of what it will be paid, and the tokens of its own semaphores, all in program order.
-/
module

public import proofs.«01_k».proof.Proof.ProtoIdeal
public import proofs.«01_k».proof.Proof.Gen.KernelIdeal.Launch

@[expose] public section

set_option maxRecDepth 100000

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open _root_.Own
open Facts₀ Facts

variable {F : FTy → Type} [FloatOps F] [Facts]

local notation "𝕄" => MT nD τ sig ℕ (Elt F) ℕ UU ℕ

/-! ## What is owed -/

/-- A payment to another device: the semaphore's kind, its round, the duty, when it is waited for, and whose it is. -/
structure Pay where
  kd : Kd
  r : ℕ
  d : Bool
  ι : ℕ
  tgt : Dev nD → Dev nD

/-- The units a list of payments amounts to. -/
def oweOf (c : Dev nD) : List Pay → CellTallies nD τ sig ℕ
  | [] => 0
  | q :: l => oweOf c l + tallyAt (cell (q.tgt c) q.kd) q.ι (kAmt q.kd)
/-- The tokens of a list of payments. -/
def TokL (c : Dev nD) : List Pay → sProp 𝕄
  | [] => iprop(emp)
  | q :: l => iprop(dutyTok ER (cell (q.tgt c) q.kd) q.r q.d ∗ TokL c l)
/-- The payments device `c` still has to make. -/
def Due (c : Dev nD) (l : List Pay) : sProp 𝕄 := iprop((∃ V, owes (c : Thread nD τ) (oweOf c l) V) ∗ TokL c l)
/-- The payments device `c` will still get. -/
def CredL (c : Dev nD) : List Pay → sProp 𝕄
  | [] => iprop(emp)
  | q :: l => iprop(cred (tallyAt (cell c q.kd) q.ι (kAmt q.kd)) ∗ CredL c l)
/-- The tokens device `c` has on its own semaphores. -/
def TokO (c : Dev nD) : List (Kd × ℕ) → sProp 𝕄
  | [] => iprop(emp)
  | q :: l => iprop(dutyTok ER (cell c q.1) q.2 false ∗ TokO c l)
/-- Device `c` is at round `r` of its semaphore. -/
def At (c : Dev nD) (k : Kd) (r : ℕ) : sProp 𝕄 := iprop(atPos ER (cell c k) r ∅ 0 ∗ reached ER (cell c k) r)

/-- What is owed, first payment apart. -/
theorem Due_cons (c : Dev nD) (q : Pay) (l : List Pay) :
    (Due c (q :: l) : sProp 𝕄) ⊢ iprop(∃ V, owes (c : Thread nD τ) (oweOf c (q :: l)) V
      ∗ dutyTok ER (cell (q.tgt c) q.kd) q.r q.d ∗ TokL c l) := by
  show iprop((∃ V, owes (c : Thread nD τ) (oweOf c (q :: l)) V) ∗ (dutyTok ER (cell (q.tgt c) q.kd) q.r q.d ∗ TokL c l)) ⊢ _
  iintro ⟨⟨%V, H⟩, Ht, Hl⟩
  iexists V; iframe H Ht Hl
/-- What is owed, from the launch's form. -/
theorem Due_mk (c : Dev nD) (l : List Pay) (V) :
    iprop(owes (c : Thread nD τ) (oweOf c l) V ∗ TokL c l) ⊢ (Due c l : sProp 𝕄) := by
  unfold Due
  iintro ⟨H, Hl⟩
  iframe Hl
  iexists V; iexact H

/-- What is owed on a semaphore comes from a payment on the list. -/
theorem oweOf_pos {c : Dev nD} {l : List Pay} {g : GSem nD τ sig} {ι : ℕ} (h : 0 < oweOf c l g ι) :
    ∃ q ∈ l, g = cell (q.tgt c) q.kd ∧ ι = q.ι := by
  induction l with
  | nil => exact absurd h (Nat.lt_irrefl 0)
  | cons q l ih =>
    unfold oweOf at h
    rw [Pi.add_apply, Finsupp.add_apply, tallyAt_apply] at h
    by_cases hq : g = cell (q.tgt c) q.kd ∧ ι = q.ι
    · exact ⟨q, List.mem_cons_self, hq⟩
    · rw [if_neg hq, Nat.add_zero] at h
      obtain ⟨q', hq', h'⟩ := ih h
      exact ⟨q', List.mem_cons_of_mem _ hq', h'⟩

/-! ## Levels: a unit's index is when it is waited for, and its level -/

/-- The indices in use. -/
def L (g : GSem nD τ sig) : Finset ℕ := if g.1.2 = .tc then Finset.range 256 else ∅
/-- The level of an index. -/
def lv (_ : GSem nD τ sig) (ι : ℕ) : ℕ := ι
/-- Every payment of the list is waited for after `ι`. -/
def Above (ι : ℕ) (l : List Pay) : Prop := ∀ q ∈ l, ι < q.ι ∧ q.ι < 256

/-- A lower bound on the levels may be lowered. -/
theorem Above.mono {ι ι' : ℕ} {l : List Pay} (h : Above ι l) (h' : ι' ≤ ι) : Above ι' l :=
  fun q hq => ⟨Nat.lt_of_le_of_lt h' (h q hq).1, (h q hq).2⟩
/-- Two lists one after the other. -/
theorem Above.append {ι : ℕ} {l l' : List Pay} (h : Above ι l) (h' : Above ι l') : Above ι (l ++ l') :=
  fun q hq => (List.mem_append.mp hq).elim (h q) (h' q)
/-- One more payment. -/
theorem Above.cons {ι : ℕ} {q : Pay} {l : List Pay} (hq : ι < q.ι ∧ q.ι < 256) (h : Above ι l) : Above ι (q :: l) :=
  fun q' hq' => (List.mem_cons.mp hq').elim (fun e => e ▸ hq) (h q')
/-- The empty list. -/
theorem Above.nil {ι : ℕ} : Above ι [] := fun q hq => absurd hq List.not_mem_nil

/-- A wait is allowed below everything owed. -/
theorem mayWait_of (c : Dev nD) (sm : SemLoc sig) (ι : ℕ) (l : List Pay) (hι : ι < 256) (h : Above ι l) :
    (levAts L lv : sProp 𝕄) ⊢ MayWait (c : Thread nD τ) sm ι (oweOf c l) :=
  MayOwe.of_cut (L := L) (lev := lv) ι
    (fun p hp => by
      rw [Finset.mem_singleton] at hp; subst hp
      show ι ∈ (if _ then Finset.range 256 else ∅)
      rw [if_pos rfl]; exact Finset.mem_range.mpr hι)
    (fun g ι' hg => by
      obtain ⟨q, hq, rfl, rfl⟩ := oweOf_pos hg
      show q.ι ∈ (if _ then Finset.range 256 else ∅)
      rw [if_pos rfl]; exact Finset.mem_range.mpr (h q hq).2)
    (fun p hp => by rw [Finset.mem_singleton] at hp; subst hp; exact Nat.le_refl ι)
    (fun g ι' hg => by obtain ⟨q, hq, rfl, rfl⟩ := oweOf_pos hg; exact (h q hq).1)

/-! ## The body's surroundings -/

variable (X : Dev nD → FVec F S4096x512 .f32) (W : Dev nD → FVec F S512x8192 .f32) (κ : Dev nD × Kd → ℕ)

/-- Every semaphore's schedule, that every semaphore has started, the levels. -/
def Env : sProp 𝕄 :=
  iprop((bigSep Finset.univ fun ck : Dev nD × Kd => cellInv ER (Rd X W) (κ ck) (cell ck.1 ck.2))
    ∗ (bigSep Finset.univ fun ck : Dev nD × Kd => reached ER (cell ck.1 ck.2) 0) ∗ levAts L lv)
/-- The common knowledge may be used again and again. -/
instance Env_persistent : BI.Persistent (Env X W κ) := by unfold Env; infer_instance

/-- It gives each semaphore's invariant. -/
theorem Env_inv (c : Dev nD) (k : Kd) : Env X W κ ⊢ cellInv ER (Rd X W) (κ (c, k)) (cell c k) := by
  unfold Env; iintro ⟨H, -, -⟩
  iapply (show (bigSep Finset.univ fun ck : Dev nD × Kd => cellInv ER (Rd X W) (κ ck) (cell ck.1 ck.2)) ⊢ cellInv ER (Rd X W) (κ (c, k)) (cell c k)
    from bigSep_elim (Finset.mem_univ (c, k))); iexact H
/-- It gives that each semaphore has reached round zero. -/
theorem Env_reached (c : Dev nD) (k : Kd) : Env X W κ ⊢ reached ER (cell c k) 0 := by
  unfold Env; iintro ⟨-, H, -⟩
  iapply (show (bigSep Finset.univ fun ck : Dev nD × Kd => (reached ER (cell ck.1 ck.2) 0 : sProp 𝕄)) ⊢ reached ER (cell c k) 0
    from bigSep_elim (Finset.mem_univ (c, k))); iexact H
/-- A wait is allowed below the levels of all that is owed. -/
theorem Env_mayWait (c : Dev nD) (sm : SemLoc sig) (ι : ℕ) (l : List Pay) (hι : ι < 256) (h : Above ι l) :
    Env X W κ ⊢ MayWait (c : Thread nD τ) sm ι (oweOf c l) := by
  unfold Env; iintro ⟨-, -, H⟩
  iapply (mayWait_of c sm ι l hι h); iexact H

/-- No loops with variants. -/
abbrev 𝒱₀ : Variants := Variants.none
/-- The weakest precondition of a program on device `c`. -/
abbrev WP (c : Dev nD) (p : PG F) (Q : PUnit → sProp (MT nD τ sig ℕ (Elt F) ℕ UU ℕ)) : sProp (MT nD τ sig ℕ (Elt F) ℕ UU ℕ) :=
  wp frame (wpE (defs₀ (F := F)) 𝒱₀ (c : Thread nD τ) none) Set.univ p Q

variable (c : Dev nD) (Q : PUnit → sProp (MT nD τ sig ℕ (Elt F) ℕ UU ℕ))

/-- A signal makes the next payment. -/
theorem op_sig (q : Pay) (l : List Pay) (s : Sem sig) (k : PG F) (hs : semOf q.kd = .reg s) (hd : q.d ∈ kDuties q.kd q.r)
    (ha : kAmt q.kd = 1) :
    iprop(Env X W κ ∗ Due c (q :: l) ∗ kPay X W (q.tgt c) q.kd q.r q.d ∗ reached ER (cell (q.tgt c) q.kd) q.r)
      ⊢ iprop((Due c l -∗ WP c k Q) -∗ WP c (sig1 (q.tgt c) s k) Q) := by
  rw [show sig1 (q.tgt c) s k = .op (.semSignal (q.tgt c, .tc) s ((1 : ℕ) : ℤ)) fun _ => k from rfl]
  iintro ⟨#HE, HD, Hp, Hr⟩ Hk
  ihave HD := (Due_cons c q l) $$ HD
  icases HD with ⟨%V, HO, Ht, Htl⟩
  ihave HI := (Env_inv X W κ (q.tgt c) q.kd) $$ HE
  have e₂ := Rd_duties X W (q.tgt c) q.kd q.r
  have f₂ := Rd_amount X W (q.tgt c) q.kd q.r q.d
  have g₂ := Rd_payload X W (q.tgt c) q.kd q.r q.d
  have ho : oweOf c (q :: l) = oweOf c l + tallyAt (cell (q.tgt c) q.kd) q.ι (kAmt q.kd) := rfl
  unfold cell at *
  rw [hs] at e₂ f₂ g₂ ho ⊢
  rw [ha] at ho f₂
  iapply (Rounds.wp_signal 𝒱₀ ER (Rd X W) (c : Thread nD τ) none (dst := ((q.tgt c, .tc) : Thread nD τ)) (κ := κ (q.tgt c, q.kd)) (r := q.r)
      (d := q.d) (k' := 1) (by rw [e₂]; exact hd) f₂ q.ι (oweOf c l) ho (W := V)) $$ [HI HO Ht Hp Hr]
  · rw [g₂]
    iframe HI HO Ht Hp Hr
  iintro HO
  iapply Hk
  iapply (Due_mk c l V); iframe HO Htl

/-- A wait takes a round of one duty. -/
theorem op_wait (k : Kd) (r ι : ℕ) (l : List Pay) (w : TpuEff nD τ sig (Elt F) Λ₀ .tc PUnit) (p : PG F)
    (hw : ∀ K : PUnit → sProp 𝕄, wpE (defs₀ (F := F)) 𝒱₀ (c : Thread nD τ) none Set.univ w K
      = waitSpec (c : Thread nD τ) Set.univ (semOf k) (kAmt k) K)
    (hd : kDuties k r = {false}) (hι : ι < 256) (hl : Above ι l) :
    iprop(Env X W κ ∗ Due c l ∗ cred (tallyAt (cell c k) ι (kAmt k)) ∗ At c k r)
      ⊢ iprop((Due c l ∗ At c k (r + 1) ∗ kPay X W c k r false -∗ WP c p Q) -∗ WP c (.op w fun _ => p) Q) := by
  unfold Due At
  iintro ⟨#HE, ⟨⟨%V, HO⟩, Htl⟩, Hc, Hat, -⟩ Hk
  ihave HI := (Env_inv X W κ c k) $$ HE
  ihave HM := (Env_mayWait X W κ c (semOf k) ι l hι hl) $$ HE
  iapply (Rounds.wp_wait_rest_token 𝒱₀ ER (Rd X W) (c : Thread nD τ) none (κ := κ (c, k)) hw (Set.mem_univ _) ι (O := oweOf c l)
    (W := V) (R := r) (m := 0) (T := ∅) (by rw [Nat.zero_add, Rd_expect X W c k r hd])) $$ [HI Hc HO HM Hat]
  · iframe HI Hc HO HM Hat
  iintro ⟨HO, Hat, Hr, Hp⟩
  ihave Hp := (Entails.of_eq (Rd_rest X W c k r hd)) $$ Hp
  iapply Hk
  iframe Hat Hr Hp Htl
  iexists _; iexact HO

/-- A transfer to another device makes the next payment, with the sender's own semaphore's round. -/
theorem op_send (q : Pay) (l : List Pay) (k₁ : Kd) (r₁ ι' : ℕ) {sp sp' : Space} {s : Shape} {e : EltTy}
    (src : Memref sig .tc sp s e) (dst : Memref sig .tc sp' s e) (sS sR : DmaSem sig) (hsc : dst.view.ref.isScScratch = false)
    (hsrc : src.view.WordExact) (hdst : dst.view.WordExact)
    (hsem : DmaTarget.Typed sp (.dma sR) (.remote (Dev.tc (q.tgt c) : Thread nD τ) dst (.dma sS) hsc)) (p : PG F)
    (qs : PosShare TreeShare) (x y : s.Idx → Elt F e) (P : sProp 𝕄)
    (hs₁ : semOf k₁ = .dma sS) (hs₂ : semOf q.kd = .dma sR) (hd₁ : false ∈ kDuties k₁ r₁) (hd₂ : q.d ∈ kDuties q.kd q.r)
    (ha₁ : kAmt k₁ = dst.view.dmaCredit) (ha₂ : kAmt q.kd = dst.view.dmaCredit)
    (hpay₁ : ownsTc c src qs x ⊢ kPay X W c k₁ r₁ false)
    (hpay₂ : iprop(ownsTc (q.tgt c) dst fullShare x ∗ P) ⊢ kPay X W (q.tgt c) q.kd q.r q.d) :
    iprop(Env X W κ ∗ Due c (q :: l) ∗ ownsTc c src qs x ∗ ownsTc (q.tgt c) dst fullShare y ∗ P
        ∗ dutyTok ER (cell c k₁) r₁ false ∗ reached ER (cell c k₁) r₁ ∗ reached ER (cell (q.tgt c) q.kd) q.r)
      ⊢ iprop((Due c l ∗ cred (tallyAt (cell c k₁) ι' (kAmt k₁)) -∗ WP c p Q)
        -∗ WP c (.op (.enqueueDma src (.remote (Dev.tc (q.tgt c)) dst (.dma sS) hsc) (.dma sR) hsrc hdst hsem) fun _ => p) Q) := by
  iintro ⟨#HE, HD, Hs, Hd, HP, Ht₁, Hr₁, Hr₂⟩ Hk
  ihave HD := (Due_cons c q l) $$ HD
  icases HD with ⟨%V, HO, Ht₂, Htl⟩
  ihave HI₁ := (Env_inv X W κ c k₁) $$ HE
  ihave HI₂ := (Env_inv X W κ (q.tgt c) q.kd) $$ HE
  have e₁ := Rd_duties X W c k₁ r₁
  have e₂ := Rd_duties X W (q.tgt c) q.kd q.r
  have f₁ := Rd_amount X W c k₁ r₁ false
  have f₂ := Rd_amount X W (q.tgt c) q.kd q.r q.d
  have g₁ := Rd_payload X W c k₁ r₁ false
  have g₂ := Rd_payload X W (q.tgt c) q.kd q.r q.d
  have ho : oweOf c (q :: l) = oweOf c l + tallyAt (cell (q.tgt c) q.kd) q.ι (kAmt q.kd) := rfl
  unfold cell at *
  rw [hs₁] at e₁ f₁ g₁ ⊢
  rw [hs₂] at e₂ f₂ g₂ ho ⊢
  rw [ha₁]
  rw [ha₂] at ho
  iapply (wp_send_owns (c : Thread nD τ) 𝒱₀ ER (Rd X W) none qs x y (P := P) (r₁ := r₁) (r₂ := q.r) (d₁ := false) (d₂ := q.d)
    (κ₁ := κ (c, k₁)) (κ₂ := κ (q.tgt c, q.kd))
    (by rw [e₁]; exact hd₁) (by rw [e₂]; exact hd₂) q.ι ι' dst.view.dmaCredit rfl (f₁.trans ha₁) (f₂.trans ha₂)
    (oweOf c l) ho (V := V) (by rw [g₁]; exact hpay₁) (by rw [g₂]; exact hpay₂) (by routes)) $$ [HI₁ HI₂ HO Ht₂ Hs Hd HP Ht₁ Hr₁ Hr₂]
  · iframe HI₁ HI₂ Hs Hd HP HO Ht₁ Hr₁ Ht₂ Hr₂
  iintro ⟨Hc, HO⟩
  iapply Hk
  iframe Hc
  iapply (Due_mk c l V); iframe HO Htl

/-- A local transfer makes the round of its own semaphore. -/
theorem op_copy (k₁ : Kd) (r₁ ι' : ℕ) {sp sp' : Space} {s : Shape} {e : EltTy}
    (src : Memref sig .tc sp s e) (dst : Memref sig .tc sp' s e) (sS : DmaSem sig)
    (hsrc : src.view.WordExact) (hdst : dst.view.WordExact) (hsem : DmaTarget.Typed (nD := nD) (τ := τ) (p := .tc) sp (.dma sS) (.here dst)) (p : PG F)
    (x y : s.Idx → Elt F e) (hs₁ : semOf k₁ = .dma sS) (hd₁ : false ∈ kDuties k₁ r₁) (ha₁ : kAmt k₁ = dst.view.dmaCredit)
    (hpay : iprop(ownsTc c dst fullShare x ∗ ownsTc c src fullShare x) ⊢ kPay X W c k₁ r₁ false) :
    iprop(Env X W κ ∗ ownsTc c src fullShare x ∗ ownsTc c dst fullShare y ∗ dutyTok ER (cell c k₁) r₁ false ∗ reached ER (cell c k₁) r₁)
      ⊢ iprop((cred (tallyAt (cell c k₁) ι' (kAmt k₁)) -∗ WP c p Q)
        -∗ WP c (.op (.enqueueDma src (.here dst) (.dma sS) hsrc hdst hsem) fun _ => p) Q) := by
  iintro ⟨#HE, Hs, Hd, Ht₁, Hr₁⟩ Hk
  ihave HI₁ := (Env_inv X W κ c k₁) $$ HE
  have e₁ := Rd_duties X W c k₁ r₁
  have f₁ := Rd_amount X W c k₁ r₁ false
  have g₁ := Rd_payload X W c k₁ r₁ false
  unfold cell at *
  rw [hs₁] at e₁ f₁ g₁ ⊢
  rw [ha₁]
  iapply (wp_copy_owns (c : Thread nD τ) 𝒱₀ ER (Rd X W) none fullShare x y (r := r₁) (d := false) (κ := κ (c, k₁))
    (by rw [e₁]; exact hd₁) ι' dst.view.dmaCredit rfl (f₁.trans ha₁) (by rw [g₁]; exact hpay)) $$ [HI₁ Hs Hd Ht₁ Hr₁]
  · iframe HI₁ Hs Hd Ht₁ Hr₁
  iexact Hk

end Cert.KernelIdeal.Own

end
-- ==== Proof.PartsIdeal.lean ====
/-
  The buffers and their parts: a slot is its four quarters, a result buffer its four quarters, the maxima their eight
  rows, the result its four slabs.
-/
module

public import proofs.«01_k».proof.Proof.ProtoIdeal

@[expose] public section

set_option maxRecDepth 100000

noncomputable section

namespace Cert.KernelIdeal.Own

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open _root_.Own
open Facts₀ Facts

variable {F : FTy → Type} [FloatOps F] [Facts]

local notation "𝕄" => MT nD τ sig ℕ (Elt F) ℕ UU ℕ

/-- Every float format has a value. -/
instance (t : FTy) : Nonempty (F t) := ⟨FloatOps.ofBits t 0⟩
/-- Every element type has a value. -/
instance : ∀ e, Nonempty (Elt F e)
  | .i1 => ⟨(0 : BitVec 1)⟩ | .i4 => ⟨(0 : BitVec 4)⟩ | .i8 => ⟨(0 : BitVec 8)⟩ | .i16 => ⟨(0 : BitVec 16)⟩
  | .i32 => ⟨(0 : BitVec 32)⟩ | .i64 => ⟨(0 : BitVec 64)⟩
  | .fp8e4m3 => ⟨FloatOps.ofBits .fp8e4m3 0⟩ | .fp8e5m2 => ⟨FloatOps.ofBits .fp8e5m2 0⟩
  | .bf16 => ⟨FloatOps.ofBits .bf16 0⟩ | .f16 => ⟨FloatOps.ofBits .f16 0⟩ | .f32 => ⟨FloatOps.ofBits .f32 0⟩

/-- Equal assertions entail each other. -/
theorem same (P Q : sProp 𝕄) (h : P = Q) : P ⊢ Q := Entails.of_eq h
/-- Something owned is something owned. -/
theorem any_intro {α : Type} (P : α → sProp 𝕄) (a : α) : P a ⊢ iprop(∃ x, P x) := by iintro H; iexists a; iexact H

/-- A memref is cut along rectangles that cover it; -/
theorem tc_rects {T : Type} [Fintype T] (c : Dev nD) {sp : Space} {sh : Shape} {e : EltTy} (m : Memref sig .tc sp sh e)
    (q : PosShare TreeShare) (r : T → Rect sh) (hr : ∀ t a, (r t).stride a = 1) (hd : ∀ t t', t ≠ t' → Disjoint (r t).set (r t').set)
    (hcov : (Finset.univ : Finset T).biUnion (fun t => (r t).set) = Finset.univ) (X : sh.Idx → Elt F e) :
    (ownsTc c m q X : sProp 𝕄) ⊢ bigSep Finset.univ fun t => ownsTc c (m.slice (r t) (hr t)) q (fun j => X ((r t).emb j)) := by
  classical exact owns_rects (Val := Elt F) (c : Thread nD τ) m q r hr hd hcov X
/-- and joined again. -/
theorem tc_of_rects {T : Type} [Fintype T] (c : Dev nD) {sp : Space} {sh : Shape} {e : EltTy} (m : Memref sig .tc sp sh e)
    (q : PosShare TreeShare) (r : T → Rect sh) (hr : ∀ t a, (r t).stride a = 1) (hd : ∀ t t', t ≠ t' → Disjoint (r t).set (r t').set)
    (hcov : (Finset.univ : Finset T).biUnion (fun t => (r t).set) = Finset.univ) (X : sh.Idx → Elt F e) :
    (bigSep Finset.univ fun t => ownsTc c (m.slice (r t) (hr t)) q (fun j => X ((r t).emb j))) ⊢ (ownsTc c m q X : sProp 𝕄) := by
  classical exact owns_of_rects (Val := Elt F) (c : Thread nD τ) m q r hr hd hcov X

/-- Over both directions. -/
theorem both (Φ : Bool → sProp 𝕄) : bigSep Finset.univ Φ = iprop(Φ false ∗ Φ true) := by
  rw [bigSep_univ_eq_bigSepL [false, true] (by decide) (by decide), bigSepL_cons_cons, bigSepL_singleton]; rfl

/-! ## Four quarters of a matrix -/

/-- An entry of four quarters side by side. -/
theorem glue_at (q : Fin 4 → FVec F S512x512 .f32) (i : S512x2048.Idx) (j : Fin 4) (i' : S512x512.Idx) (h0 : (i 0).val = (i' 0).val)
    (h1 : (i 1).val = 512 * j.val + (i' 1).val) : glue q i = q j i' := by
  have hl : (i' 1).val < 512 := (i' 1).isLt
  unfold glue
  refine congr (congrArg q (Fin.ext (by show (i 1).val / 512 = j.val; omega))) (funext fun a => ?_)
  match a with
  | 0 => exact Fin.ext h0
  | 1 => exact Fin.ext (by show (i 1).val % 512 = (i' 1).val; omega)
/-- The same of a slot. -/
theorem glueC_at (q : Fin 4 → FVec F S1x512x512 .bf16) (i : S1x512x2048.Idx) (j : Fin 4) (i' : S1x512x512.Idx) (h0 : (i 0).val = (i' 0).val)
    (h1 : (i 1).val = (i' 1).val) (h2 : (i 2).val = 512 * j.val + (i' 2).val) : glueC q i = q j i' := by
  have hl : (i' 2).val < 512 := (i' 2).isLt
  unfold glueC
  refine congr (congrArg q (Fin.ext (by show (i 2).val / 512 = j.val; omega))) (funext fun a => ?_)
  match a with
  | 0 => exact Fin.ext h0
  | 1 => exact Fin.ext h1
  | 2 => exact Fin.ext (by show (i 2).val % 512 = (i' 2).val; omega)

/-- The quarter an index of a buffer is in. -/
def tOf (x : S512x2048.Idx) : Fin 4 := ⟨(x 1).val / 512, by have : (x 1).val < 2048 := (x 1).isLt; omega⟩
/-- Where in it. -/
def jOf (x : S512x2048.Idx) : S512x512.Idx := mk2 (x 0) ⟨(x 1).val % 512, Nat.mod_lt _ (by decide)⟩
/-- The row of an entry of a quarter. -/
theorem tRect_emb0 (j : Fin 4) (i : S512x512.Idx) : (((tRect j).emb i) 0).val = (i 0).val := by
  show 0 + 1 * (i 0).val = _; omega
/-- The column of an entry of a quarter. -/
theorem tRect_emb1 (j : Fin 4) (i : S512x512.Idx) : (((tRect j).emb i) 1).val = 512 * j.val + (i 1).val := by
  show 512 * j.val + 1 * (i 1).val = _; omega
/-- The quarters cover the buffer. -/
theorem tRect_cover : (Finset.univ : Finset (Fin 4)).biUnion (fun t => (tRect t).set) = Finset.univ :=
  rects_cover tRect tOf jOf fun x => funext fun a => by
    match a with
    | 0 => exact Fin.ext ((tRect_emb0 _ _).trans rfl)
    | 1 => exact Fin.ext ((tRect_emb1 _ _).trans (by show 512 * ((x 1).val / 512) + (x 1).val % 512 = (x 1).val; omega))
/-- The quarters do not overlap. -/
theorem tRect_disj : ∀ t t' : Fin 4, t ≠ t' → Disjoint (tRect t).set (tRect t').set :=
  rects_disjoint tRect tOf fun t j => Fin.ext (by
    have hl : (j 1).val < 512 := (j 1).isLt
    show (((tRect t).emb j) 1).val / 512 = t.val
    rw [tRect_emb1 t j]; omega)
/-- A quarter of four quarters side by side. -/
theorem glue_tRect (q : Fin 4 → FVec F S512x512 .f32) (j : Fin 4) : (fun i => glue q ((tRect j).emb i)) = q j :=
  funext fun i => glue_at q _ j i (tRect_emb0 j i) (tRect_emb1 j i)

/-- Cutting a result buffer. -/
theorem y_split (c : Dev nD) (p d : Bool) (x : Fin 4 → FVec F S512x512 .f32) :
    (ownsTc c (yb p d) fullShare (glue x) : sProp 𝕄) ⊢ yAt c p d x := by
  refine (tc_rects c (yb p d) fullShare tRect (fun _ _ => rfl) tRect_disj tRect_cover (glue x)).trans ?_
  exact bigSep_mono fun j _ => by rw [glue_tRect]; exact same _ _ rfl
/-- Joining it. -/
theorem y_join (c : Dev nD) (p d : Bool) (x : Fin 4 → FVec F S512x512 .f32) :
    yAt c p d x ⊢ (ownsTc c (yb p d) fullShare (glue x) : sProp 𝕄) := by
  refine .trans ?_ (tc_of_rects c (yb p d) fullShare tRect (fun _ _ => rfl) tRect_disj tRect_cover (glue x))
  exact bigSep_mono fun j _ => by rw [glue_tRect]; exact same _ _ rfl
/-- Cutting one of any contents. -/
theorem y_any (c : Dev nD) (p d : Bool) (x : FVec F S512x2048 .f32) :
    (ownsTc c (yb p d) fullShare x : sProp 𝕄) ⊢ yAny c p d := by
  refine (tc_rects c (yb p d) fullShare tRect (fun _ _ => rfl) tRect_disj tRect_cover x).trans ?_
  exact bigSep_mono fun j _ => any_intro (fun x => yq c p d j x) _
/-- Forgetting contents. -/
theorem yAt_any (c : Dev nD) (p d : Bool) (x : Fin 4 → FVec F S512x512 .f32) : yAt c p d x ⊢ (yAny c p d : sProp 𝕄) :=
  bigSep_mono fun j _ => any_intro (fun x => yq c p d j x) _

/-! ## Four quarters of a slot -/

/-- A quarter of a slot lies in the slot. -/
theorem kRect_inb (j : Fin 4) : ∀ a, (![0, 0, 512 * j.val] : Fin 3 → Nat) a + S1x512x512.size a ≤ S1x512x2048.size a := by
  intro a; match a with
  | 0 => exact Nat.le_refl 1
  | 1 => exact Nat.le_refl 512
  | 2 => show 512 * j.val + 512 ≤ 2048; omega
/-- Quarter `j` within a slot. -/
abbrev kRect (j : Fin 4) : Rect S1x512x2048 := Rect.unit (s := S1x512x2048) ![0, 0, 512 * j.val] S1x512x512.size (kRect_inb j)
/-- The leading coordinate of an entry of a slot's quarter. -/
theorem kRect_emb0 (j : Fin 4) (i : S1x512x512.Idx) : (((kRect j).emb i) 0).val = (i 0).val := by
  show 0 + 1 * (i 0).val = _; omega
/-- The row of an entry of a slot's quarter. -/
theorem kRect_emb1 (j : Fin 4) (i : S1x512x512.Idx) : (((kRect j).emb i) 1).val = (i 1).val := by
  show 0 + 1 * (i 1).val = _; omega
/-- The column of an entry of a slot's quarter. -/
theorem kRect_emb2 (j : Fin 4) (i : S1x512x512.Idx) : (((kRect j).emb i) 2).val = 512 * j.val + (i 2).val := by
  show 512 * j.val + 1 * (i 2).val = _; omega
/-- The quarters cover the slot. -/
theorem kRect_cover : (Finset.univ : Finset (Fin 4)).biUnion (fun t => (kRect t).set) = Finset.univ :=
  rects_cover kRect (fun x => ⟨(x 2).val / 512, by have : (x 2).val < 2048 := (x 2).isLt; omega⟩)
    (fun x => (mk3 (x 0) (x 1) ⟨(x 2).val % 512, Nat.mod_lt _ (by decide)⟩ : S1x512x512.Idx)) fun x => funext fun a => by
    match a with
    | 0 => exact Fin.ext ((kRect_emb0 _ _).trans rfl)
    | 1 => exact Fin.ext ((kRect_emb1 _ _).trans rfl)
    | 2 => exact Fin.ext ((kRect_emb2 _ _).trans (by show 512 * ((x 2).val / 512) + (x 2).val % 512 = (x 2).val; omega))
/-- The quarters of a slot do not overlap. -/
theorem kRect_disj : ∀ t t' : Fin 4, t ≠ t' → Disjoint (kRect t).set (kRect t').set :=
  rects_disjoint kRect (fun x => (⟨(x 2).val / 512, by have : (x 2).val < 2048 := (x 2).isLt; omega⟩ : Fin 4)) fun t j => Fin.ext (by
    have hl : (j 2).val < 512 := (j 2).isLt
    show (((kRect t).emb j) 2).val / 512 = t.val
    rw [kRect_emb2 t j]; omega)
/-- A quarter of a slot made of four quarters. -/
theorem glueC_kRect (q : Fin 4 → FVec F S1x512x512 .bf16) (j : Fin 4) : (fun i => glueC q ((kRect j).emb i)) = q j :=
  funext fun i => glueC_at q _ j i (kRect_emb0 j i) (kRect_emb1 j i) (kRect_emb2 j i)

/-- A quarter within its slot is that quarter of the buffer. -/
theorem quarter_eq (c : Dev nD) (d ss : Bool) (j : Fin 4) (x : FVec F S1x512x512 .bf16) :
    (ownsTc c (((comm d).slice (sRect ss) (fun _ => rfl)).slice (kRect j) (fun _ => rfl)) fullShare x : sProp 𝕄) = qtr c d ss j x :=
  owns_slice_slice (Val := Elt F) (Ix := ℕ) (Name := ℕ) (U := UU) (Lvl := ℕ) (c : Thread nD τ) (comm d) fullShare (sRect ss) (fun _ => rfl) (kRect j) (fun _ => rfl) (qRect ss j) (fun _ => rfl)
    (Equiv.refl _) (fun i => funext fun a => Fin.ext (by
      match a with
      | 0 => show ss.toNat + 1 * (0 + 1 * (i 0).val) = ss.toNat + 1 * (i 0).val; omega
      | 1 => show 0 + 1 * (0 + 1 * (i 1).val) = 0 + 1 * (i 1).val; omega
      | 2 => show 0 + 1 * (512 * j.val + 1 * (i 2).val) = 512 * j.val + 1 * (i 2).val; omega)) x

/-- A slot read as a matrix. -/
def flat (x : Fin 4 → FVec F S1x512x512 .bf16) : FVec F S512x2048 .bf16 :=
  fun i => glueC x (Shape.reshapeEquiv squeezes_S1x512x2048_S512x2048.numel_eq i)
/-- Joining a slot. -/
theorem slot_join (c : Dev nD) (d ss : Bool) (x : Fin 4 → FVec F S1x512x512 .bf16) :
    slotAt c d ss x ⊢ (ownsTc c (slotM d ss) fullShare (flat x) : sProp 𝕄) := by
  unfold flat slotM ownsTc
  rw [owns_squeeze]
  refine .trans ?_ (tc_of_rects c ((comm d).slice (sRect ss) (fun _ => rfl)) fullShare kRect (fun _ _ => rfl)
    kRect_disj kRect_cover (glueC x))
  exact bigSep_mono fun j _ => by
    rw [show (fun i => glueC x ((kRect j).emb i)) = x j from glueC_kRect x j]
    exact Entails.of_eq (quarter_eq c d ss j (x j)).symm
/-- Cutting a slot. -/
theorem slot_split (c : Dev nD) (d ss : Bool) (x : Fin 4 → FVec F S1x512x512 .bf16) :
    (ownsTc c (slotM d ss) fullShare (flat x) : sProp 𝕄) ⊢ slotAt c d ss x := by
  unfold flat slotM ownsTc
  rw [owns_squeeze]
  refine (tc_rects c ((comm d).slice (sRect ss) (fun _ => rfl)) fullShare kRect (fun _ _ => rfl)
    kRect_disj kRect_cover (glueC x)).trans ?_
  exact bigSep_mono fun j _ => by
    rw [show (fun i => glueC x ((kRect j).emb i)) = x j from glueC_kRect x j]
    exact Entails.of_eq (quarter_eq c d ss j (x j))
/-- Forgetting a slot's contents, -/
theorem slotAt_any (c : Dev nD) (d ss : Bool) (x : Fin 4 → FVec F S1x512x512 .bf16) : slotAt c d ss x ⊢ (slotAny c d ss : sProp 𝕄) :=
  bigSep_mono fun j _ => any_intro (fun x => qtr c d ss j x) _
/-- and naming them. -/
theorem slotAny_at (c : Dev nD) (d ss : Bool) :
    slotAny c d ss ⊢ (iprop(∃ x : Fin 4 → FVec F S1x512x512 .bf16, slotAt c d ss x) : sProp 𝕄) :=
  BI.bigSep_exists_pi Finset.univ (fun (j : Fin 4) (x : FVec F S1x512x512 .bf16) => qtr c d ss j x)
/-- A result buffer with contents unnamed is four quarters with contents unnamed. -/
theorem yAny_at (c : Dev nD) (p d : Bool) :
    yAny c p d ⊢ (iprop(∃ x : Fin 4 → FVec F S512x512 .f32, yAt c p d x) : sProp 𝕄) :=
  BI.bigSep_exists_pi Finset.univ (fun (j : Fin 4) (x : FVec F S512x512 .f32) => yq c p d j x)

/-- A quarter read as a matrix. -/
def flatQ (x : FVec F S1x512x512 .bf16) : FVec F S512x512 .bf16 :=
  fun i => x (Shape.reshapeEquiv squeezes_S1x512x512_S512x512.numel_eq i)
/-- A quarter of a slot, as its transfer names it. -/
theorem sub_eq (c : Dev nD) (d ss : Bool) (j : Fin 4) (x : FVec F S1x512x512 .bf16) :
    (ownsTc c (subM d ss j) fullShare (flatQ x) : sProp 𝕄) = qtr c d ss j x :=
  owns_squeeze (Val := Elt F) (Ix := ℕ) (Name := ℕ) (U := UU) (Lvl := ℕ) (c : Thread nD τ) ((comm d).slice (qRect ss j) (fun _ => rfl)) fullShare S512x512 squeezes_S1x512x512_S512x512 x

/-! ## The exchange buffers whole -/

/-- A slot's quarter by its place in the buffer. -/
abbrev qqRect (t : Bool × Fin 4) : Rect S2x512x2048 := qRect t.1 t.2
/-- The eight quarters of the two slots cover the ring's buffer. -/
theorem qqRect_cover : (Finset.univ : Finset (Bool × Fin 4)).biUnion (fun t => (qqRect t).set) = Finset.univ :=
  rects_cover qqRect (fun x => (decide ((x 0).val = 1), ⟨(x 2).val / 512, by have : (x 2).val < 2048 := (x 2).isLt; omega⟩))
    (fun x => (mk3 0 (x 1) ⟨(x 2).val % 512, Nat.mod_lt _ (by decide)⟩ : S1x512x512.Idx)) fun x => funext fun a => by
    match a with
    | 0 =>
      refine Fin.ext ?_
      have h : (x 0).val < 2 := (x 0).isLt
      show (decide ((x 0).val = 1)).toNat + 1 * 0 = (x 0).val
      by_cases h1 : (x 0).val = 1
      · rw [decide_eq_true h1]; exact h1.symm
      · rw [decide_eq_false h1]; show 0 = _; omega
    | 1 => exact Fin.ext (by show 0 + 1 * (x 1).val = (x 1).val; omega)
    | 2 => exact Fin.ext (by show 512 * ((x 2).val / 512) + 1 * ((x 2).val % 512) = (x 2).val; omega)
/-- They do not overlap. -/
theorem qqRect_disj : ∀ t t' : Bool × Fin 4, t ≠ t' → Disjoint (qqRect t).set (qqRect t').set :=
  rects_disjoint qqRect (fun x => ((decide ((x 0).val = 1), ⟨(x 2).val / 512, by have : (x 2).val < 2048 := (x 2).isLt; omega⟩) : Bool × Fin 4))
    fun t j => by
      have hl : (j 2).val < 512 := (j 2).isLt
      have h0 : (j 0).val < 1 := (j 0).isLt
      refine Prod.ext ?_ (Fin.ext ?_)
      · show decide (t.1.toNat + 1 * (j 0).val = 1) = t.1
        rw [show (j 0).val = 0 by omega]
        cases t.1 <;> rfl
      · show (512 * t.2.val + 1 * (j 2).val) / 512 = t.2.val
        omega
/-- Cutting an exchange buffer. -/
theorem comm_any (c : Dev nD) (d : Bool) (x : FVec F S2x512x2048 .bf16) :
    (ownsTc c (comm d) fullShare x : sProp 𝕄) ⊢ iprop(slotAny c d false ∗ slotAny c d true) := by
  refine (tc_rects c (comm d) fullShare qqRect (fun _ _ => rfl) qqRect_disj qqRect_cover x).trans ?_
  rw [bigSep_univ_prod, both]
  exact BI.sep_mono (bigSep_mono fun j _ => any_intro (fun x => qtr c d _ j x) _)
    (bigSep_mono fun j _ => any_intro (fun x => qtr c d _ j x) _)
/-- Joining it. -/
theorem comm_join (c : Dev nD) (d : Bool) :
    (iprop(slotAny c d false ∗ slotAny c d true) : sProp 𝕄) ⊢ iprop(∃ x, ownsTc c (comm d) fullShare x) := by
  iintro ⟨H0, H1⟩
  ihave H0 := (slotAny_at c d false) $$ H0
  ihave H1 := (slotAny_at c d true) $$ H1
  icases H0 with ⟨%x0, H0⟩
  icases H1 with ⟨%x1, H1⟩
  iexists (fun i => glueC (if (i 0).val = 1 then x1 else x0) (mk3 0 (i 1) (i 2)))
  iapply (tc_of_rects c (comm d) fullShare qqRect (fun _ _ => rfl) qqRect_disj qqRect_cover _)
  rw [bigSep_univ_prod, both]
  isplitl [H0]
  · iapply (show slotAt c d false x0 ⊢ _ from bigSep_mono fun j _ => by
      rw [show (fun i => (fun i => glueC (if (i 0).val = 1 then x1 else x0) (mk3 0 (i 1) (i 2)) : FVec F S2x512x2048 .bf16) ((qqRect (false, j)).emb i)) = x0 j
        from funext fun (i : S1x512x512.Idx) => by
          have h0 : (i 0).val < 1 := (i 0).isLt
          show glueC (if 0 + 1 * (i 0).val = 1 then x1 else x0) _ = x0 j i
          rw [if_neg (by omega)]
          exact glueC_at x0 _ j i (by show 0 = (i 0).val; omega) (by show 0 + 1 * (i 1).val = _; omega) (by show 512 * j.val + 1 * (i 2).val = _; omega)]
      exact same _ _ rfl)
    iexact H0
  · iapply (show slotAt c d true x1 ⊢ _ from bigSep_mono fun j _ => by
      rw [show (fun i => (fun i => glueC (if (i 0).val = 1 then x1 else x0) (mk3 0 (i 1) (i 2)) : FVec F S2x512x2048 .bf16) ((qqRect (true, j)).emb i)) = x1 j
        from funext fun (i : S1x512x512.Idx) => by
          have h0 : (i 0).val < 1 := (i 0).isLt
          show glueC (if 1 + 1 * (i 0).val = 1 then x1 else x0) _ = x1 j i
          rw [if_pos (by omega)]
          exact glueC_at x1 _ j i (by show 0 = (i 0).val; omega) (by show 0 + 1 * (i 1).val = _; omega) (by show 512 * j.val + 1 * (i 2).val = _; omega)]
      exact same _ _ rfl)
    iexact H1

/-! ## The rows of maxima -/

/-- The eight rows cover the buffer of maxima. -/
theorem aRect_cover : (Finset.univ : Finset (Fin 8)).biUnion (fun t => (aRect t).set) = Finset.univ :=
  rects_cover aRect (fun x => ⟨(x 0).val, (x 0).isLt⟩) (fun x => (mk2 0 (x 1) : S1x128.Idx)) fun x => funext fun a => by
    match a with
    | 0 => exact Fin.ext (by show (x 0).val + 1 * 0 = (x 0).val; omega)
    | 1 => exact Fin.ext (by show 0 + 1 * (x 1).val = (x 1).val; omega)
/-- They do not overlap. -/
theorem aRect_disj : ∀ t t' : Fin 8, t ≠ t' → Disjoint (aRect t).set (aRect t').set :=
  rects_disjoint aRect (fun x => (⟨(x 0).val, (x 0).isLt⟩ : Fin 8)) fun t j => Fin.ext (by
    have h0 : (j 0).val < 1 := (j 0).isLt
    show t.val + 1 * (j 0).val = t.val
    omega)
/-- Cutting the maxima. -/
theorem am_split (c : Dev nD) (x : FVec F S8x128 .f32) :
    (ownsTc c amM fullShare x : sProp 𝕄) ⊢ bigSep Finset.univ fun o : Fin 8 => amAny c o := by
  refine (tc_rects c amM fullShare aRect (fun _ _ => rfl) aRect_disj aRect_cover x).trans ?_
  exact bigSep_mono fun o _ => any_intro (fun x => ownsTc c (amRow o) fullShare x) _
/-- Joining the maxima once every device's has come. -/
theorem am_join (X : Dev nD → FVec F S4096x512 .f32) (W : Dev nD → FVec F S512x8192 .f32) (c : Dev nD) :
    (bigSep Finset.univ fun o : Fin 8 => (ownsTc c (amRow o) fullShare (rowOf (AM X W (bk o c))) : sProp 𝕄))
      ⊢ ownsTc c amM fullShare (GM X W c) := by
  refine .trans ?_ (tc_of_rects c amM fullShare aRect (fun _ _ => rfl) aRect_disj aRect_cover (GM X W c))
  exact bigSep_mono fun o _ => by
    rw [show (fun i => GM X W c ((aRect o).emb i)) = rowOf (AM X W (bk o c)) from funext fun (i : S1x128.Idx) => by
      have h0 : (i 0).val < 1 := (i 0).isLt
      unfold GM
      rw [show ((aRect o).emb i) 0 = o from Fin.ext (by show o.val + 1 * (i 0).val = o.val; omega)]
      refine congrArg _ (funext fun a => ?_)
      match a with
      | 0 => exact Fin.ext (by show 0 = (i 0).val; omega)
      | 1 => exact Fin.ext (by show 0 + 1 * (i 1).val = (i 1).val; omega)]
    exact same _ _ rfl

/-! ## The result's slabs -/

/-- The four parts cover the result. -/
theorem oRect_cover : (Finset.univ : Finset (Fin 4)).biUnion (fun t => (oRect t).set) = Finset.univ :=
  rects_cover oRect (fun x => ⟨(x 1).val / 2048, by have : (x 1).val < 8192 := (x 1).isLt; omega⟩)
    (fun x => (mk2 (x 0) ⟨(x 1).val % 2048, Nat.mod_lt _ (by decide)⟩ : S512x2048.Idx)) fun x => funext fun a => by
    match a with
    | 0 => exact Fin.ext (by show 0 + 1 * (x 0).val = (x 0).val; omega)
    | 1 => exact Fin.ext (by show 2048 * ((x 1).val / 2048) + 1 * ((x 1).val % 2048) = (x 1).val; omega)
/-- They do not overlap. -/
theorem oRect_disj : ∀ t t' : Fin 4, t ≠ t' → Disjoint (oRect t).set (oRect t').set :=
  rects_disjoint oRect (fun x => (⟨(x 1).val / 2048, by have : (x 1).val < 8192 := (x 1).isLt; omega⟩ : Fin 4)) fun t j => Fin.ext (by
    have h0 : (j 1).val < 2048 := (j 1).isLt
    show (2048 * t.val + 1 * (j 1).val) / 2048 = t.val
    omega)
/-- Cutting the result. -/
theorem out_split (c : Dev nD) (x : FVec F S512x8192 .f32) :
    (ownsTc c outM fullShare x : sProp 𝕄) ⊢ bigSep Finset.univ fun i : Fin 4 => iprop(∃ x, ownsTc c (outSlab i) fullShare x) := by
  refine (tc_rects c outM fullShare oRect (fun _ _ => rfl) oRect_disj oRect_cover x).trans ?_
  exact bigSep_mono fun o _ => any_intro (fun x => ownsTc c (outSlab o) fullShare x) _
/-- A slab of the result. -/
theorem OUT_slab (X : Dev nD → FVec F S4096x512 .f32) (W : Dev nD → FVec F S512x8192 .f32) (c : Dev nD) (p d : Bool) :
    (fun i => OUT X W c ((oRect (slab p d)).emb i)) = ZA X W p d c := funext fun (i : S512x2048.Idx) => by
  have h1 : (i 1).val < 2048 := (i 1).isLt
  have hs : (((oRect (slab p d)).emb i) 1).val = 4096 * p.toNat + 2048 * d.toNat + (i 1).val := by
    show 2048 * (slab p d).val + 1 * (i 1).val = _
    cases p <;> cases d <;> simp only [slab, Bool.toNat_false, Bool.toNat_true] <;> omega
  have hp : decide (4096 ≤ (((oRect (slab p d)).emb i) 1).val) = p := by
    rw [hs]; cases p <;> cases d <;> simp <;> omega
  have hd : decide (2048 ≤ (((oRect (slab p d)).emb i) 1).val % 4096) = d := by
    rw [hs]; cases p <;> cases d <;> simp <;> omega
  unfold OUT
  rw [hp, hd]
  refine congrArg _ (funext fun a => ?_)
  match a with
  | 0 => exact Fin.ext (by show 0 + 1 * (i 0).val = (i 0).val; omega)
  | 1 =>
    refine Fin.ext ?_
    show (((oRect (slab p d)).emb i) 1).val % 2048 = (i 1).val
    rw [hs]; cases p <;> cases d <;> simp <;> omega
/-- Joining the result. -/
theorem out_join (X : Dev nD → FVec F S4096x512 .f32) (W : Dev nD → FVec F S512x8192 .f32) (c : Dev nD) :
    (iprop(ownsTc c (outSlab (slab false false)) fullShare (ZA X W false false c) ∗ ownsTc c (outSlab (slab false true)) fullShare (ZA X W false true c)
      ∗ ownsTc c (outSlab (slab true false)) fullShare (ZA X W true false c) ∗ ownsTc c (outSlab (slab true true)) fullShare (ZA X W true true c)) : sProp 𝕄)
      ⊢ ownsTc c outM fullShare (OUT X W c) := by
  refine .trans ?_ (tc_of_rects c outM fullShare oRect (fun _ _ => rfl) oRect_disj oRect_cover (OUT X W c))
  rw [bigSep_univ_eq_bigSepL [slab false false, slab false true, slab true false, slab true true] (by decide) (by decide),
    bigSepL_cons_cons, bigSepL_cons_cons, bigSepL_cons_cons, bigSepL_singleton, ← OUT_slab, ← OUT_slab, ← OUT_slab, ← OUT_slab]
  exact same _ _ rfl

end Cert.KernelIdeal.Own

end
-- ==== Proof.ElemIdeal.lean ====
/-
  The body's small parts: one load or store of a quarter, one partial product, one sum, one finished quarter; and eight
  quarters in order.
-/
module

public import proofs.«01_k».proof.Proof.MovesIdeal
public import proofs.«01_k».proof.Proof.PartsIdeal

@[expose] public section

set_option maxRecDepth 100000

noncomputable section

namespace Cert.KernelIdeal.Own

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open _root_.Own
open Facts₀ Facts

variable {F : FTy → Type} [FloatOps F] [Facts]

local notation "𝕄" => MT nD τ sig ℕ (Elt F) ℕ UU ℕ

/-- Both directions. -/
def two (Φ : Bool → sProp (MT nD τ sig ℕ (Elt F) ℕ UU ℕ)) : sProp (MT nD τ sig ℕ (Elt F) ℕ UU ℕ) := iprop(Φ false ∗ Φ true)
/-- Both directions' quarters in order. -/
def eachP (Φ : Bool → Fin 4 → sProp (MT nD τ sig ℕ (Elt F) ℕ UU ℕ)) : sProp (MT nD τ sig ℕ (Elt F) ℕ UU ℕ) :=
  iprop(Φ false 0 ∗ Φ true 0 ∗ Φ false 1 ∗ Φ true 1 ∗ Φ false 2 ∗ Φ true 2 ∗ Φ false 3 ∗ Φ true 3)
/-- Four quarters. -/
theorem four (Φ : Fin 4 → sProp 𝕄) : bigSep Finset.univ Φ = iprop(Φ 0 ∗ Φ 1 ∗ Φ 2 ∗ Φ 3) := by
  rw [bigSep_univ_eq_bigSepL [0, 1, 2, 3] (by decide) (by decide), bigSepL_cons_cons, bigSepL_cons_cons, bigSepL_cons_cons, bigSepL_singleton]; rfl
/-- Both rings, under an entailment for each. -/
theorem two_mono (Φ Ψ : Bool → sProp 𝕄) (h : ∀ d, Φ d ⊢ Ψ d) : two Φ ⊢ two Ψ := BI.sep_mono (h false) (h true)
/-- All quarters of both rings, under an entailment for each. -/
theorem each_mono (Φ Ψ : Bool → Fin 4 → sProp 𝕄) (h : ∀ d j, Φ d j ⊢ Ψ d j) : eachP Φ ⊢ eachP Ψ :=
  BI.sep_mono (h _ _) (BI.sep_mono (h _ _) (BI.sep_mono (h _ _) (BI.sep_mono (h _ _) (BI.sep_mono (h _ _) (BI.sep_mono (h _ _)
    (BI.sep_mono (h _ _) (h _ _)))))))
/-- Two families over all quarters, as one family of pairs. -/
theorem each_sep (Φ Ψ : Bool → Fin 4 → sProp 𝕄) : iprop(eachP Φ ∗ eachP Ψ) ⊢ eachP fun d j => iprop(Φ d j ∗ Ψ d j) := by
  unfold eachP
  iintro ⟨⟨A0, A1, A2, A3, A4, A5, A6, A7⟩, B0, B1, B2, B3, B4, B5, B6, B7⟩
  iframe A0 A1 A2 A3 A4 A5 A6 A7 B0 B1 B2 B3 B4 B5 B6 B7
/-- And apart again. -/
theorem sep_each (Φ Ψ : Bool → Fin 4 → sProp 𝕄) : (eachP fun d j => iprop(Φ d j ∗ Ψ d j)) ⊢ iprop(eachP Φ ∗ eachP Ψ) := by
  unfold eachP
  iintro ⟨⟨A0, B0⟩, ⟨A1, B1⟩, ⟨A2, B2⟩, ⟨A3, B3⟩, ⟨A4, B4⟩, ⟨A5, B5⟩, ⟨A6, B6⟩, A7, B7⟩
  iframe A0 A1 A2 A3 A4 A5 A6 A7 B0 B1 B2 B3 B4 B5 B6 B7
/-- A product for each ring over its quarters is a product over all quarters. -/
theorem each_of_two (Φ : Bool → Fin 4 → sProp 𝕄) : (two fun d => bigSep Finset.univ fun j => Φ d j) ⊢ eachP Φ := by
  unfold two eachP
  beta_reduce
  rw [four, four]
  iintro ⟨⟨A0, A2, A4, A6⟩, A1, A3, A5, A7⟩
  iframe A0 A1 A2 A3 A4 A5 A6 A7
/-- And back. -/
theorem two_of_each (Φ : Bool → Fin 4 → sProp 𝕄) : eachP Φ ⊢ (two fun d => bigSep Finset.univ fun j => Φ d j) := by
  unfold two eachP
  beta_reduce
  rw [four, four]
  iintro ⟨A0, A1, A2, A3, A4, A5, A6, A7⟩
  iframe A0 A1 A2 A3 A4 A5 A6 A7
/-- Two pairs over the rings, as one pair. -/
theorem two_sep (Φ Ψ : Bool → sProp 𝕄) : iprop(two Φ ∗ two Ψ) ⊢ two fun d => iprop(Φ d ∗ Ψ d) := by
  unfold two; iintro ⟨⟨A0, A1⟩, B0, B1⟩; iframe A0 A1 B0 B1
/-- And apart again. -/
theorem sep_two (Φ Ψ : Bool → sProp 𝕄) : (two fun d => iprop(Φ d ∗ Ψ d)) ⊢ iprop(two Φ ∗ two Ψ) := by
  unfold two; iintro ⟨⟨A0, B0⟩, A1, B1⟩; iframe A0 A1 B0 B1

variable (X : Dev nD → FVec F S4096x512 .f32) (W : Dev nD → FVec F S512x8192 .f32) (κ : Dev nD × Kd → ℕ)
variable (c : Dev nD) (Q : PUnit → sProp (MT nD τ sig ℕ (Elt F) ℕ UU ℕ))

/-- Device `c` holds its blocks of `x` and `w`. -/
def XW : sProp (MT nD τ sig ℕ (Elt F) ℕ UU ℕ) := iprop(ownsTc c xM fullShare (X c) ∗ ownsTc c wM fullShare (W c))

/-! ## Loads and stores -/

/-- Loading a block of rows of the left argument. -/
theorem ldX_wp (d : Bool) (s : Nat) (hs : s < 8) (k : FVec F S512x512 .f32 → PG F) :
    (ownsTc c xM fullShare (X c) : sProp 𝕄) ⊢ iprop((ownsTc c xM fullShare (X c) -∗ WP c (k (xs X d s c)) Q) -∗ WP c (ldX d s hs c k) Q) := by
  have e : (fun j => X c ((Rect.unit (s := S4096x512) (xOff d s c) S512x512.size (xRect_inb d s hs c)).emb j))
      = rowsOf (X c) (chunk d s c) (chunk_lt d s c) := by
    funext j
    unfold rowsOf
    refine congrArg (X c) (funext fun a => Fin.ext ?_)
    exact congrArg (fun f : Fin 2 → Nat => f a + 1 * (j a).val) (xOff_eq d ⟨s, hs⟩ c)
  have h : (ownsTc c xM fullShare (X c) : sProp 𝕄) ⊢ iprop((ownsTc c xM fullShare (X c)
      -∗ WP c (k (shapeCast S512x512 (fun j => X c ((Rect.unit (s := S4096x512) (xOff d s c) S512x512.size (xRect_inb d s hs c)).emb j)) shapeCasts_S512x512_S512x512)) Q)
      -∗ WP c (ldX d s hs c k) Q) := wp_load_of (c : Thread nD τ) 𝒱₀ none Set.univ (defs := defs₀ (F := F)) (Q := Q) (m := xM)
    (r := Rect.unit (s := S4096x512) (xOff d s c) S512x512.size (xRect_inb d s hs c)) (hl := View.loadsAt_vmem h_S512x512)
    (k := fun v => k (shapeCast S512x512 v shapeCasts_S512x512_S512x512)) fullShare (X c)
  rw [e] at h
  exact h
/-- Loading a block of columns of the right argument. -/
theorem ldW_wp (b : Nat) (hb : b < 16) (k : FVec F S512x512 .f32 → PG F) :
    (ownsTc c wM fullShare (W c) : sProp 𝕄) ⊢ iprop((ownsTc c wM fullShare (W c) -∗ WP c (k (colsOf (W c) b hb)) Q) -∗ WP c (ldW b hb k) Q) :=
  wp_load_of (c : Thread nD τ) 𝒱₀ none Set.univ (defs := defs₀ (F := F)) (Q := Q) (m := wM)
    (r := wRect b hb) (hl := View.loadsAt_vmem h_S512x512) (k := fun v => k v) fullShare (W c)
/-- Loading a quarter of a slot. -/
theorem ldC_wp (d ss : Bool) (j : Fin 4) (x : FVec F S1x512x512 .bf16) (k : FVec F S1x512x512 .bf16 → PG F) :
    (qtr c d ss j x : sProp 𝕄) ⊢ iprop((qtr c d ss j x -∗ WP c (k x) Q) -∗ WP c (ldC d ss j k) Q) :=
  wp_load_part (c : Thread nD τ) 𝒱₀ none Set.univ (defs := defs₀ (F := F)) (Q := Q) (m := comm d)
    (r := qRect ss j) (hl := View.loadsAt_vmem h_S1x512x512) (k := fun v => k v) (fun _ => rfl) fullShare x
/-- Storing a quarter of a slot. -/
theorem stC_wp (d ss : Bool) (j : Fin 4) (x v : FVec F S1x512x512 .bf16) (k : PG F) :
    (qtr c d ss j x : sProp 𝕄) ⊢ iprop((qtr c d ss j v -∗ WP c k Q) -∗ WP c (stC d ss j v k) Q) :=
  wp_store_part (c : Thread nD τ) 𝒱₀ none Set.univ (defs := defs₀ (F := F)) (Q := Q) (m := comm d)
    (r := qRect ss j) (k := fun _ => k) (fun _ => rfl) x
/-- Loading a quarter of a result buffer. -/
theorem ldY_wp (p d : Bool) (j : Fin 4) (x : FVec F S512x512 .f32) (k : FVec F S512x512 .f32 → PG F) :
    (yq c p d j x : sProp 𝕄) ⊢ iprop((yq c p d j x -∗ WP c (k x) Q) -∗ WP c (ldY p d j k) Q) :=
  wp_load_part (c : Thread nD τ) 𝒱₀ none Set.univ (defs := defs₀ (F := F)) (Q := Q) (m := yb p d)
    (r := tRect j) (hl := View.loadsAt_vmem h_S512x512) (k := fun v => k v) (fun _ => rfl) fullShare x
/-- Storing a quarter of a result buffer. -/
theorem stY_wp (p d : Bool) (j : Fin 4) (x v : FVec F S512x512 .f32) (k : PG F) :
    (yq c p d j x : sProp 𝕄) ⊢ iprop((yq c p d j v -∗ WP c k Q) -∗ WP c (stY p d j v k) Q) :=
  wp_store_part (c : Thread nD τ) 𝒱₀ none Set.univ (defs := defs₀ (F := F)) (Q := Q) (m := yb p d)
    (r := tRect j) (k := fun _ => k) (fun _ => rfl) x

/-! ## Eight quarters in order -/

/-- The place of a quarter in the order. -/
def idx (d : Bool) (j : Fin 4) : Nat := 2 * j.val + d.toNat
/-- Eight steps in order, each with its own holdings and a state passed along. -/
theorem eachQ_wp (f : Bool → Fin 4 → PG F → PG F) (A B : Bool → Fin 4 → sProp (MT nD τ sig ℕ (Elt F) ℕ UU ℕ))
    (T : Nat → sProp (MT nD τ sig ℕ (Elt F) ℕ UU ℕ)) (k : PG F)
    (h : ∀ d j k, iprop(A d j ∗ T (idx d j)) ⊢ iprop((B d j ∗ T (idx d j + 1) -∗ WP c k Q) -∗ WP c (f d j k) Q)) :
    iprop(eachP A ∗ T 0) ⊢ iprop((eachP B ∗ T 8 -∗ WP c k Q) -∗ WP c (eachQ f k) Q) := by
  unfold eachP eachQ
  iintro ⟨⟨A0, A1, A2, A3, A4, A5, A6, A7⟩, HT⟩ Hk
  iapply (h false 0 _) $$ [A0 HT]
  · iframe A0 HT
  iintro ⟨B0, HT⟩
  iapply (h true 0 _) $$ [A1 HT]
  · iframe A1 HT
  iintro ⟨B1, HT⟩
  iapply (h false 1 _) $$ [A2 HT]
  · iframe A2 HT
  iintro ⟨B2, HT⟩
  iapply (h true 1 _) $$ [A3 HT]
  · iframe A3 HT
  iintro ⟨B3, HT⟩
  iapply (h false 2 _) $$ [A4 HT]
  · iframe A4 HT
  iintro ⟨B4, HT⟩
  iapply (h true 2 _) $$ [A5 HT]
  · iframe A5 HT
  iintro ⟨B5, HT⟩
  iapply (h false 3 _) $$ [A6 HT]
  · iframe A6 HT
  iintro ⟨B6, HT⟩
  iapply (h true 3 _) $$ [A7 HT]
  · iframe A7 HT
  iintro ⟨B7, HT⟩
  iapply Hk
  iframe B0 B1 B2 B3 B4 B5 B6 B7 HT

/-! ## Arithmetic steps -/

/-- One quarter of a partial product is computed and stored. -/
theorem partOne_wp (p d : Bool) (j : Fin 4) (s : Nat) (k : PG F) :
    iprop(ownsTc c wM fullShare (W c) ∗ ∃ y, yq c true d j y)
      ⊢ iprop((ownsTc c wM fullShare (W c) ∗ yq c true d j (sameQ (part X W p d s c j)) -∗ WP c k Q)
        -∗ WP c (partOne p d j (xs X d s c) k) Q) := by
  unfold partOne
  iintro ⟨Hw, %y, Hy⟩ Hk
  iapply (ldW_wp W c Q (cb p d j) (cb_lt p d j) _) $$ Hw
  iintro Hw
  iapply (ldY_wp c Q true d j y _) $$ Hy
  iintro Hy
  iapply (stY_wp c Q true d j y _ _) $$ Hy
  iintro Hy
  iapply Hk
  iframe Hw
  iexact Hy

/-- The four quarters of a partial product are computed and stored. -/
theorem partInto_wp (p d : Bool) (s : Nat) (hs : s < 8) (k : PG F) :
    iprop(XW X W c ∗ yAny c true d)
      ⊢ iprop((XW X W c ∗ yAt c true d (fun j => sameQ (part X W p d s c j)) -∗ WP c k Q) -∗ WP c (partInto c p d s hs k) Q) := by
  unfold partInto XW yAny yAt
  rw [four, four]
  iintro ⟨⟨Hx, Hw⟩, Y0, Y1, Y2, Y3⟩ Hk
  iapply (ldX_wp X c Q d s hs _) $$ Hx
  iintro Hx
  iapply (partOne_wp X W c Q p d 0 s _) $$ [Hw Y0]
  · iframe Hw Y0
  iintro ⟨Hw, Y0⟩
  iapply (partOne_wp X W c Q p d 1 s _) $$ [Hw Y1]
  · iframe Hw Y1
  iintro ⟨Hw, Y1⟩
  iapply (partOne_wp X W c Q p d 2 s _) $$ [Hw Y2]
  · iframe Hw Y2
  iintro ⟨Hw, Y2⟩
  iapply (partOne_wp X W c Q p d 3 s _) $$ [Hw Y3]
  · iframe Hw Y3
  iintro ⟨Hw, Y3⟩
  iapply Hk
  iframe Hx Hw Y0 Y1 Y2 Y3

/-- A partial product is added to what came round the ring. -/
theorem accum_wp (d rs : Bool) (j : Fin 4) (v : FVec F S1x512x512 .bf16) (t : FVec F S512x512 .f32) (k : PG F) :
    (iprop(qtr c d rs j v ∗ yq c true d j t) : sProp 𝕄)
      ⊢ iprop((qtr c d rs j (packQ (addf (unpackQ v) t)) ∗ yq c true d j t -∗ WP c k Q) -∗ WP c (accum d rs j k) Q) := by
  unfold accum
  iintro ⟨Hc, Hy⟩ Hk
  iapply (ldC_wp c Q d rs j v _) $$ Hc
  iintro Hc
  iapply (ldY_wp c Q true d j t _) $$ Hy
  iintro Hy
  iapply (ldC_wp c Q d rs j v _) $$ Hc
  iintro Hc
  iapply (stC_wp c Q d rs j v _ _) $$ Hc
  iintro Hc
  iapply Hk
  iframe Hc Hy

/-- What a finished quarter starts from: in the first phase the buffer it goes to besides. -/
def yPre (p d : Bool) (j : Fin 4) (t : FVec F S512x512 .f32) : sProp (MT nD τ sig ℕ (Elt F) ℕ UU ℕ) :=
  iprop(yq c true d j t ∗ if p then iprop(emp) else iprop(∃ y, yq c false d j y))
/-- What a finished quarter leaves. -/
def yPost (p d : Bool) (j : Fin 4) (v : FVec F S512x512 .f32) : sProp (MT nD τ sig ℕ (Elt F) ℕ UU ℕ) :=
  iprop(yq c p d j v ∗ if p then iprop(emp) else iprop(∃ y, yq c true d j y))

/-- The last partial product is added, and the relu stored. -/
theorem final_wp (p d : Bool) (j : Fin 4) (v : FVec F S1x512x512 .bf16) (t : FVec F S512x512 .f32) (k : PG F) :
    (iprop(qtr c d true j v ∗ yPre c p d j t) : sProp 𝕄)
      ⊢ iprop((qtr c d true j v ∗ yPost c p d j (sameQ (reluQ (addf (unpackQ v) t))) -∗ WP c k Q) -∗ WP c (final p d j k) Q) := by
  unfold final yPre yPost
  cases p
  · rw [if_neg Bool.false_ne_true, if_neg Bool.false_ne_true]
    iintro ⟨Hc, Hy, %z, Hz⟩ Hk
    iapply (ldC_wp c Q d true j v _) $$ Hc
    iintro Hc
    iapply (ldY_wp c Q true d j t _) $$ Hy
    iintro Hy
    iapply (ldY_wp c Q false d j z _) $$ Hz
    iintro Hz
    iapply (stY_wp c Q false d j z _ _) $$ Hz
    iintro Hz
    iapply Hk
    iframe Hc Hz
    iexists t; iexact Hy
  · rw [if_pos rfl, if_pos rfl]
    iintro ⟨Hc, Hy, -⟩ Hk
    iapply (ldC_wp c Q d true j v _) $$ Hc
    iintro Hc
    iapply (ldY_wp c Q true d j t _) $$ Hy
    iintro Hy
    iapply (ldY_wp c Q true d j t _) $$ Hy
    iintro Hy
    iapply (stY_wp c Q true d j t _ _) $$ Hy
    iintro Hy
    iapply Hk
    iframe Hc Hy

end Cert.KernelIdeal.Own

end
-- ==== Proof.RingIdeal.lean ====
/-
  The steps of a phase: credits, the first step's quarters, a slot's transfer, and the seven steps in order.
-/
module

public import proofs.«01_k».proof.Proof.ElemIdeal

@[expose] public section

set_option maxRecDepth 100000

noncomputable section

namespace Cert.KernelIdeal.Own

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open _root_.Own
open Facts₀ Facts

variable {F : FTy → Type} [FloatOps F] [Facts]

local notation "𝕄" => MT nD τ sig ℕ (Elt F) ℕ UU ℕ

/-! ## The payments in order -/

/-- The credits of round `r`. -/
def credPays (r : ℕ) : List Pay := [⟨.cred false, r, false, 10 * (r + 2) + 1, prv false⟩, ⟨.cred true, r, false, 10 * (r + 2) + 1, prv true⟩]
/-- The payment of the first step's quarter. -/
def subPay1 (p d : Bool) (j : Fin 4) : Pay := ⟨.subR d j, p.toNat, false, 10 * (7 * p.toNat + 1) + 3, nxt d⟩
/-- The first step's payments. -/
def subPays (p : Bool) : List Pay :=
  [subPay1 p false 0, subPay1 p true 0, subPay1 p false 1, subPay1 p true 1, subPay1 p false 2, subPay1 p true 2, subPay1 p false 3, subPay1 p true 3]
/-- The sender's tokens of the first step. -/
def subOwn (p : Bool) : List (Kd × ℕ) :=
  [(.subS false 0, p.toNat), (.subS true 0, p.toNat), (.subS false 1, p.toNat), (.subS true 1, p.toNat),
   (.subS false 2, p.toNat), (.subS true 2, p.toNat), (.subS false 3, p.toNat), (.subS true 3, p.toNat)]
/-- The payment of a slot's transfer. -/
def bigPay1 (g : ℕ) (rs : Bool) (ρ : ℕ) (d : Bool) : Pay := ⟨.bigR d rs, ρ, false, 10 * g + 3, nxt d⟩
/-- The payments of step `g`'s transfers. -/
def bigPays (g : ℕ) (rs : Bool) (ρ : ℕ) : List Pay := [bigPay1 g rs ρ false, bigPay1 g rs ρ true]
/-- The sender's tokens of them. -/
def bigOwn (ss : Bool) (ρ : ℕ) : List (Kd × ℕ) := [(.bigS false ss, ρ), (.bigS true ss, ρ)]

/-- The levels of the credits' payments. -/
theorem Above_credPays {ι r : ℕ} (h : ι < 10 * (r + 2) + 1) (hr : r < 13) : Above ι (credPays r) :=
  .cons ⟨h, by show 10 * (r + 2) + 1 < 256; omega⟩ (.cons ⟨h, by show 10 * (r + 2) + 1 < 256; omega⟩ .nil)
/-- The levels of the whole slots' payments. -/
theorem Above_bigPays {ι g ρ : ℕ} {rs : Bool} (h : ι < 10 * g + 3) (hg : g < 15) : Above ι (bigPays g rs ρ) :=
  .cons ⟨h, by show 10 * g + 3 < 256; omega⟩ (.cons ⟨h, by show 10 * g + 3 < 256; omega⟩ .nil)
/-- The levels of the quarters' payments. -/
theorem Above_subPays {ι : ℕ} {p : Bool} (h : ι < 10 * (7 * p.toNat + 1) + 3) : Above ι (subPays p) := by
  have hp : p.toNat ≤ 1 := by cases p <;> decide
  have hq : ∀ d j, ι < (subPay1 p d j).ι ∧ (subPay1 p d j).ι < 256 := fun d j =>
    ⟨h, by show 10 * (7 * p.toNat + 1) + 3 < 256; omega⟩
  exact .cons (hq _ _) (.cons (hq _ _) (.cons (hq _ _) (.cons (hq _ _) (.cons (hq _ _) (.cons (hq _ _) (.cons (hq _ _) (.cons (hq _ _) .nil)))))))

variable (X : Dev nD → FVec F S4096x512 .f32) (W : Dev nD → FVec F S512x8192 .f32) (κ : Dev nD × Kd → ℕ)
variable (c : Dev nD) (Q : PUnit → sProp (MT nD τ sig ℕ (Elt F) ℕ UU ℕ))

/-- The positions of the credit semaphores. -/
def CredAt (r : ℕ) : sProp (MT nD τ sig ℕ (Elt F) ℕ UU ℕ) := two fun d => At c (.cred d) r
/-- The positions of the first step's semaphores. -/
def SubAt (r : ℕ) : sProp (MT nD τ sig ℕ (Elt F) ℕ UU ℕ) := eachP fun d j => iprop(At c (.subS d j) r ∗ At c (.subR d j) r)
/-- The positions of the semaphores of the transfers out of slot `ss`. -/
def BigAt (ss : Bool) (ρ : ℕ) : sProp (MT nD τ sig ℕ (Elt F) ℕ UU ℕ) := two fun d => iprop(At c (.bigS d ss) ρ ∗ At c (.bigR d (!ss)) ρ)

/-- A semaphore has reached the round it is at. -/
theorem At_reached (k : Kd) (r : ℕ) : (At c k r : sProp 𝕄) ⊢ iprop(At c k r ∗ reached ER (cell c k) r) := by
  unfold At; iintro ⟨H, #Hr⟩; iframe H Hr

/-! ## Rows of maxima -/

/-- The row kept at step `g`. -/
def amKeep (g : ℕ) : sProp (MT nD τ sig ℕ (Elt F) ℕ UU ℕ) :=
  if h : g < 8 then amAny (dv ⟨g, h⟩ c) ⟨g, h⟩ else iprop(emp)

/-- Of the rows of maxima passed on, the device keeps the first and the rest go on to the next. -/
theorem amRows_split (g : ℕ) : (amRows c g : sProp 𝕄) ⊢ iprop(amKeep c g ∗ amRows (prv false c) (g + 1)) := by
  unfold amRows amKeep
  by_cases h : g < 8
  · rw [dif_pos h]
    have e : (Finset.univ.filter fun o : Fin 8 => g ≤ o.val) = insert (⟨g, h⟩ : Fin 8) (Finset.univ.filter fun o : Fin 8 => g + 1 ≤ o.val) := by
      ext o
      simp only [Finset.mem_filter, Finset.mem_univ, _root_.true_and, Finset.mem_insert]
      rw [Fin.ext_iff]; show g ≤ o.val ↔ o.val = g ∨ g + 1 ≤ o.val; omega
    rw [e, bigSep_insert (by simp)]
    have e1 : (⟨g % 8, Nat.mod_lt _ (by decide)⟩ : Fin 8) = ⟨g, h⟩ := Fin.ext (Nat.mod_eq_of_lt h)
    rw [e1]
    refine BI.sep_mono (same _ _ rfl) ?_
    by_cases h' : g + 1 < 8
    · rw [dv_prv ⟨g, h⟩ ⟨(g + 1) % 8, Nat.mod_lt _ (by decide)⟩ (by show (g + 1) % 8 = g + 1; omega)]
      exact same _ _ rfl
    · have e2 : (Finset.univ.filter fun o : Fin 8 => g + 1 ≤ o.val) = ∅ := by
        ext o; simp only [Finset.mem_filter, Finset.mem_univ, _root_.true_and, Finset.notMem_empty, iff_false]; omega
      rw [e2, bigSep_empty, bigSep_empty]; exact same _ _ rfl
  · rw [dif_neg h]
    have e1 : (Finset.univ.filter fun o : Fin 8 => g ≤ o.val) = ∅ := by
      ext o; simp only [Finset.mem_filter, Finset.mem_univ, _root_.true_and, Finset.notMem_empty, iff_false]; omega
    have e2 : (Finset.univ.filter fun o : Fin 8 => g + 1 ≤ o.val) = ∅ := by
      ext o; simp only [Finset.mem_filter, Finset.mem_univ, _root_.true_and, Finset.notMem_empty, iff_false]; omega
    rw [e1, e2, bigSep_empty, bigSep_empty]
    iintro -
    isplitl <;> iempintro

/-! ## Credits -/

/-- What the giver of the credits of round `r` parts with. -/
def credGive (r : ℕ) : sProp (MT nD τ sig ℕ (Elt F) ℕ UU ℕ) :=
  iprop((two fun d => iprop(slotAny c d (credSlot r) ∗ credReach c d r ∗ reached ER (cell (prv d c) (.cred d)) r)) ∗ amRows (prv false c) (r + 2))
/-- What the taker of the credits of round `r` gets. -/
def credTake (r : ℕ) : sProp (MT nD τ sig ℕ (Elt F) ℕ UU ℕ) :=
  iprop((two fun d => iprop(slotAny (nxt d c) d (credSlot r) ∗ credReach (nxt d c) d r)) ∗ amRows c (r + 2))

/-- The credits of a step are given. -/
theorem giveCred_wp (r : ℕ) (hr : r < 13) (l : List Pay) (k : PG F) :
    iprop(Env X W κ ∗ Due c (credPays r ++ l) ∗ credGive c r) ⊢ iprop((Due c l -∗ WP c k Q) -∗ WP c (giveCred c k) Q) := by
  unfold giveCred credGive two
  iintro ⟨#HE, HD, ⟨⟨S0, R0, C0⟩, S1, R1, C1⟩, HA⟩ Hk
  have hd : false ∈ kDuties (.cred false) r := by show false ∈ (if r < 13 then {false} else ∅ : Finset Bool); rw [if_pos hr]; exact Finset.mem_singleton_self _
  have hd' : false ∈ kDuties (.cred true) r := hd
  iapply (op_sig X W κ c Q ⟨.cred false, r, false, 10 * (r + 2) + 1, prv false⟩ _ (credS false) _ rfl hd rfl) $$ [HD S0 R0 C0 HA]
  · iframe HE C0
    isplitl [HD]
    · iexact HD
    · iapply (show iprop(slotAny c false (credSlot r) ∗ credReach c false r ∗ amRows (prv false c) (r + 2))
        ⊢ kPay X W (prv false c) (.cred false) r false from by
          show _ ⊢ credPay (prv false c) false r
          unfold credPay
          rw [nxt_prv, if_neg Bool.false_ne_true])
      iframe S0 R0 HA
  iintro HD
  iapply (op_sig X W κ c Q ⟨.cred true, r, false, 10 * (r + 2) + 1, prv true⟩ l (credS true) _ rfl hd' rfl) $$ [HD S1 R1 C1]
  · iframe HE C1 HD
    iapply (show iprop(slotAny c true (credSlot r) ∗ credReach c true r)
        ⊢ kPay X W (prv true c) (.cred true) r false from by
          show _ ⊢ credPay (prv true c) true r
          unfold credPay
          rw [nxt_prv, if_pos rfl]
          iintro ⟨A, B⟩; iframe A B)
    iframe S1 R1
  iexact Hk

/-- The credits of a step are awaited. -/
theorem takeCred_wp (r : ℕ) (hr : r < 13) (l l' : List Pay) (hl : Above (10 * (r + 2) + 1) l) (k : PG F) :
    iprop(Env X W κ ∗ Due c l ∗ CredL c (credPays r ++ l') ∗ CredAt c r)
      ⊢ iprop((Due c l ∗ CredL c l' ∗ CredAt c (r + 1) ∗ credTake c r -∗ WP c k Q) -∗ WP c (takeCred k) Q) := by
  unfold takeCred credTake CredAt two
  iintro ⟨#HE, HD, HC, A0, A1⟩ Hk
  have hd : kDuties (.cred false) r = {false} := if_pos hr
  have hd' : kDuties (.cred true) r = {false} := if_pos hr
  ihave HC := (show CredL c (credPays r ++ l') ⊢ iprop(cred (tallyAt (cell c (.cred false)) (10 * (r + 2) + 1) (kAmt (.cred false)))
    ∗ cred (tallyAt (cell c (.cred true)) (10 * (r + 2) + 1) (kAmt (.cred true))) ∗ CredL c l') from .rfl) $$ HC
  icases HC with ⟨C0, C1, HC⟩
  iapply (op_wait X W κ c Q (.cred false) r (10 * (r + 2) + 1) l (.semWait (credS false) (1#32 : BitVec 32).toInt) _
    (fun K => (wpE_semWait_eq (k := 1) 𝒱₀ (c : Thread nD τ) none Set.univ K : _ = waitSpec (c : Thread nD τ) Set.univ _ 1 K)) hd (by omega) hl) $$ [HD C0 A0]
  · iframe HE HD C0 A0
  iintro ⟨HD, A0, P0⟩
  iapply (op_wait X W κ c Q (.cred true) r (10 * (r + 2) + 1) l (.semWait (credS true) (1#32 : BitVec 32).toInt) _
    (fun K => (wpE_semWait_eq (k := 1) 𝒱₀ (c : Thread nD τ) none Set.univ K : _ = waitSpec (c : Thread nD τ) Set.univ _ 1 K)) hd' (by omega) hl) $$ [HD C1 A1]
  · iframe HE HD C1 A1
  iintro ⟨HD, A1, P1⟩
  iapply Hk
  ihave P0 := (show kPay X W c (.cred false) r false ⊢ iprop(slotAny (nxt false c) false (credSlot r) ∗ credReach (nxt false c) false r ∗ amRows c (r + 2)) from .rfl) $$ P0
  ihave P1 := (show kPay X W c (.cred true) r false ⊢ iprop(slotAny (nxt true c) true (credSlot r) ∗ credReach (nxt true c) true r ∗ emp) from .rfl) $$ P1
  icases P0 with ⟨S0, R0, HA⟩
  icases P1 with ⟨S1, R1, -⟩
  iframe HD HC A0 A1 S0 R0 S1 R1 HA

/-! ## The first step's quarters -/

/-- A quarter is sent. -/
theorem subSend_wp (p d : Bool) (j : Fin 4) (l : List Pay) (k : PG F) :
    iprop(Env X W κ ∗ ownsTc c wM fullShare (W c) ∗ Due c (subPay1 p d j :: l) ∗ dutyTok ER (cell c (.subS d j)) p.toNat false
        ∗ (∃ x, qtr c d false j x) ∗ (∃ y, qtr (nxt d c) d true j y) ∗ reached ER (cell (nxt d c) (.subR d j)) p.toNat
        ∗ reached ER (cell c (.subS d j)) p.toNat ∗ reached ER (cell c (.cred d)) (7 * p.toNat))
      ⊢ iprop((ownsTc c wM fullShare (W c) ∗ Due c l ∗ cred (tallyAt (cell c (.subS d j)) (10 * (7 * p.toNat + 1) + 3) (kAmt (.subS d j))) -∗ WP c k Q)
        -∗ WP c (subSend c p d j (xs X d 0 c) k) Q) := by
  unfold subSend
  iintro ⟨#HE, Hw, HD, Ht, ⟨%x, Hx⟩, ⟨%y, Hy⟩, Rn, Rs, Rc⟩ Hk
  have hp : p.toNat < 2 := by cases p <;> decide
  iapply (ldW_wp W c Q (cb p d j) (cb_lt p d j) _) $$ Hw
  iintro Hw
  iapply (ldC_wp c Q d false j x _) $$ Hx
  iintro Hx
  iapply (stC_wp c Q d false j x _ _) $$ Hx
  iintro Hx
  ihave Hx := (show qtr c d false j (packQ (dotW (xs X d 0 c) (colsOf (W c) (cb p d j) (cb_lt p d j)))) ⊢ _ from same _ _ (sub_eq c d false j (SA X W p d 0 c j)).symm) $$ Hx
  ihave Hy := (same _ _ (sub_eq (nxt d c) d true j y).symm) $$ Hy
  have hd₁ : false ∈ kDuties (.subS d j) p.toNat := by
    show false ∈ (if p.toNat < 2 then {false} else ∅ : Finset Bool); rw [if_pos hp]; exact Finset.mem_singleton_self _
  have hd₂ : false ∈ kDuties (.subR d j) p.toNat := hd₁
  iapply (op_send X W κ c Q (subPay1 p d j) l (.subS d j) p.toNat (10 * (7 * p.toNat + 1) + 3) (subM d false j) (subM d true j) (subS d j) (subR d j)
    rfl (subM_exact d false j) (subM_exact d true j) ⟨⟨rfl, Or.inl rfl⟩, trivial⟩ _ fullShare (flatQ (SA X W p d 0 c j)) (flatQ y)
    (reached ER (cell c (.cred d)) (7 * p.toNat)) rfl rfl hd₁ hd₂ rfl rfl
    (by rw [sub_eq]; exact any_intro (fun x => qtr c d false j x) _)
    (by
      show iprop(ownsTc (nxt d c) (subM d true j) fullShare (flatQ (SA X W p d 0 c j)) ∗ reached ER (cell c (.cred d)) (7 * p.toNat)) ⊢ subPay X W (nxt d c) d j p.toNat
      unfold subPay
      rw [sub_eq, prv_nxt, show decide (p.toNat = 1) = p by cases p <;> rfl])) $$ [HD Hx Hy Rc Ht Rs Rn]
  · iframe HE HD Hx Rc Ht Rs
    isplitl [Hy]
    · iexact Hy
    · iexact Rn
  iintro ⟨HD, Hc⟩
  iapply Hk
  iframe Hw HD Hc

/-- A quarter's transfer is awaited at both ends. -/
theorem subWait_wp (p d : Bool) (j : Fin 4) (l : List Pay) (hl : Above (10 * (7 * p.toNat + 1) + 3) l) (k : PG F) :
    iprop(Env X W κ ∗ Due c l ∗ cred (tallyAt (cell c (.subS d j)) (10 * (7 * p.toNat + 1) + 3) (kAmt (.subS d j)))
        ∗ cred (tallyAt (cell c (.subR d j)) (10 * (7 * p.toNat + 1) + 3) (kAmt (.subR d j)))
        ∗ At c (.subS d j) p.toNat ∗ At c (.subR d j) p.toNat)
      ⊢ iprop((Due c l ∗ At c (.subS d j) (p.toNat + 1) ∗ At c (.subR d j) (p.toNat + 1) ∗ (∃ x, qtr c d false j x)
          ∗ qtr c d true j (SA X W p d 0 (prv d c) j) ∗ reached ER (cell (prv d c) (.cred d)) (7 * p.toNat) -∗ WP c k Q)
        -∗ WP c (subWait d j k) Q) := by
  unfold subWait
  iintro ⟨#HE, HD, C0, C1, A0, A1⟩ Hk
  have hp : p.toNat < 2 := by cases p <;> decide
  have hd₁ : kDuties (.subS d j) p.toNat = {false} := if_pos hp
  have hd₂ : kDuties (.subR d j) p.toNat = {false} := if_pos hp
  iapply (op_wait X W κ c Q (.subS d j) p.toNat (10 * (7 * p.toNat + 1) + 3) l
    (.waitDma2 (subS d j) (subM d true j) (subM d false j) (subM_exact d true j) (subM_exact d false j)) _
    (fun K => wpE_waitDma2_eq 𝒱₀ (c : Thread nD τ) none Set.univ K) hd₁ (by omega) hl) $$ [HD C0 A0]
  · iframe HE HD C0 A0
  iintro ⟨HD, A0, P0⟩
  iapply (op_wait X W κ c Q (.subR d j) p.toNat (10 * (7 * p.toNat + 1) + 3) l
    (.waitDma2 (subR d j) (subM d false j) (subM d true j) (subM_exact d false j) (subM_exact d true j)) _
    (fun K => wpE_waitDma2_eq 𝒱₀ (c : Thread nD τ) none Set.univ K) hd₂ (by omega) hl) $$ [HD C1 A1]
  · iframe HE HD C1 A1
  iintro ⟨HD, A1, P1⟩
  iapply Hk
  ihave P1 := (show kPay X W c (.subR d j) p.toNat false
      ⊢ iprop(qtr c d true j (SA X W p d 0 (prv d c) j) ∗ reached ER (cell (prv d c) (.cred d)) (7 * p.toNat)) from by
    show subPay X W c d j p.toNat ⊢ _
    unfold subPay
    rw [show decide (p.toNat = 1) = p by cases p <;> rfl]) $$ P1
  icases P1 with ⟨P1, P2⟩
  iframe HD A0 A1 P1 P2
  iapply (show kPay X W c (.subS d j) p.toNat false ⊢ iprop(∃ x, qtr c d false j x) from .rfl)
  iexact P0

/-! ## A slot's transfer -/

/-- A whole slot is sent. -/
theorem bigSend_wp (p d ss : Bool) (n ρ : ℕ) (hn : n ≤ 5) (hρ : 2 * ρ + (!ss).toNat = 6 * p.toNat + n) (l : List Pay) (k : PG F) :
    iprop(Env X W κ ∗ Due c (bigPay1 (7 * p.toNat + n + 2) (!ss) ρ d :: l) ∗ dutyTok ER (cell c (.bigS d ss)) ρ false
        ∗ slotAt c d ss (SA X W p d (n + 1) c) ∗ slotAny (nxt d c) d (!ss) ∗ reached ER (cell (nxt d c) (.bigR d (!ss))) ρ
        ∗ reached ER (cell c (.bigS d ss)) ρ ∗ reached ER (cell c (.cred d)) (7 * p.toNat + n + 1))
      ⊢ iprop((Due c l ∗ cred (tallyAt (cell c (.bigS d ss)) (10 * (7 * p.toNat + n + 2) + 3) (kAmt (.bigS d ss))) -∗ WP c k Q)
        -∗ WP c (bigSend c d ss k) Q) := by
  unfold bigSend
  iintro ⟨#HE, HD, Ht, Hx, Hy, Rn, Rs, Rc⟩ Hk
  have hp : p.toNat ≤ 1 := by cases p <;> decide
  have hs : (!ss).toNat ≤ 1 := by cases ss <;> decide
  have hdec : decide (6 ≤ 2 * ρ + (!ss).toNat) = p := by rw [hρ]; cases p <;> simp <;> omega
  have hmod : (2 * ρ + (!ss).toNat) % 6 = n := by rw [hρ]; omega
  have hsum : 2 * ρ + (!ss).toNat + 1 + p.toNat = 7 * p.toNat + n + 1 := by omega
  ihave Hy := (slotAny_at (nxt d c) d (!ss)) $$ Hy
  icases Hy with ⟨%y, Hy⟩
  ihave Hx := (slot_join c d ss _) $$ Hx
  ihave Hy := (slot_join (nxt d c) d (!ss) y) $$ Hy
  have hd₁ : false ∈ kDuties (.bigS d ss) ρ := by
    show false ∈ (if ρ < 6 then {false} else ∅ : Finset Bool); rw [if_pos (by omega)]; exact Finset.mem_singleton_self _
  have hd₂ : false ∈ kDuties (.bigR d (!ss)) ρ := hd₁
  iapply (op_send X W κ c Q (bigPay1 (7 * p.toNat + n + 2) (!ss) ρ d) l (.bigS d ss) ρ (10 * (7 * p.toNat + n + 2) + 3) (slotM d ss) (slotM d (!ss)) (bigS d ss) (bigR d (!ss))
    rfl (slotM_exact d ss) (slotM_exact d (!ss)) ⟨⟨rfl, Or.inl rfl⟩, trivial⟩ _ fullShare (flat (SA X W p d (n + 1) c)) (flat y)
    (reached ER (cell c (.cred d)) (7 * p.toNat + n + 1)) rfl rfl hd₁ hd₂ rfl rfl
    ((slot_split c d ss _).trans (slotAt_any c d ss _))
    (by
      show iprop(ownsTc (nxt d c) (slotM d (!ss)) fullShare (flat (SA X W p d (n + 1) c)) ∗ reached ER (cell c (.cred d)) (7 * p.toNat + n + 1)) ⊢ bigPay X W (nxt d c) d (!ss) ρ
      unfold bigPay
      rw [prv_nxt, hdec, hmod, hsum]
      exact BI.sep_mono (slot_split (nxt d c) d (!ss) _) (same _ _ rfl))) $$ [HD Hx Hy Rc Ht Rs Rn]
  · iframe HE HD Hx Rc Ht Rs
    isplitl [Hy]
    · iexact Hy
    · iexact Rn
  iintro ⟨HD, Hc⟩
  iapply Hk
  iframe HD Hc

/-- A whole slot's transfer is awaited at both ends. -/
theorem bigWait_wp (p d ss : Bool) (n ρ : ℕ) (hn : n ≤ 5) (hρ : 2 * ρ + (!ss).toNat = 6 * p.toNat + n) (l : List Pay)
    (hl : Above (10 * (7 * p.toNat + n + 2) + 3) l) (k : PG F) :
    iprop(Env X W κ ∗ Due c l ∗ cred (tallyAt (cell c (.bigS d ss)) (10 * (7 * p.toNat + n + 2) + 3) (kAmt (.bigS d ss)))
        ∗ cred (tallyAt (cell c (.bigR d (!ss))) (10 * (7 * p.toNat + n + 2) + 3) (kAmt (.bigR d (!ss))))
        ∗ At c (.bigS d ss) ρ ∗ At c (.bigR d (!ss)) ρ)
      ⊢ iprop((Due c l ∗ At c (.bigS d ss) (ρ + 1) ∗ At c (.bigR d (!ss)) (ρ + 1) ∗ slotAny c d ss
          ∗ slotAt c d (!ss) (SA X W p d (n + 1) (prv d c)) ∗ reached ER (cell (prv d c) (.cred d)) (7 * p.toNat + n + 1) -∗ WP c k Q)
        -∗ WP c (bigWait d ss k) Q) := by
  unfold bigWait
  iintro ⟨#HE, HD, C0, C1, A0, A1⟩ Hk
  have hp : p.toNat ≤ 1 := by cases p <;> decide
  have hs : (!ss).toNat ≤ 1 := by cases ss <;> decide
  have hdec : decide (6 ≤ 2 * ρ + (!ss).toNat) = p := by rw [hρ]; cases p <;> simp <;> omega
  have hmod : (2 * ρ + (!ss).toNat) % 6 = n := by rw [hρ]; omega
  have hsum : 2 * ρ + (!ss).toNat + 1 + p.toNat = 7 * p.toNat + n + 1 := by omega
  have hd₁ : kDuties (.bigS d ss) ρ = {false} := if_pos (by omega)
  have hd₂ : kDuties (.bigR d (!ss)) ρ = {false} := if_pos (by omega)
  iapply (op_wait X W κ c Q (.bigS d ss) ρ (10 * (7 * p.toNat + n + 2) + 3) l
    (.waitDma2 (bigS d ss) (slotM d (!ss)) (slotM d ss) (slotM_exact d (!ss)) (slotM_exact d ss)) _
    (fun K => wpE_waitDma2_eq 𝒱₀ (c : Thread nD τ) none Set.univ K) hd₁ (by omega) hl) $$ [HD C0 A0]
  · iframe HE HD C0 A0
  iintro ⟨HD, A0, P0⟩
  iapply (op_wait X W κ c Q (.bigR d (!ss)) ρ (10 * (7 * p.toNat + n + 2) + 3) l
    (.waitDma2 (bigR d (!ss)) (slotM d ss) (slotM d (!ss)) (slotM_exact d ss) (slotM_exact d (!ss))) _
    (fun K => wpE_waitDma2_eq 𝒱₀ (c : Thread nD τ) none Set.univ K) hd₂ (by omega) hl) $$ [HD C1 A1]
  · iframe HE HD C1 A1
  iintro ⟨HD, A1, P1⟩
  iapply Hk
  ihave P1 := (show kPay X W c (.bigR d (!ss)) ρ false
      ⊢ iprop(slotAt c d (!ss) (SA X W p d (n + 1) (prv d c)) ∗ reached ER (cell (prv d c) (.cred d)) (7 * p.toNat + n + 1)) from by
    show bigPay X W c d (!ss) ρ ⊢ _
    unfold bigPay
    rw [hdec, hmod, hsum]) $$ P1
  icases P1 with ⟨P1, P2⟩
  iframe HD A0 A1 P1 P2
  iapply (show kPay X W c (.bigS d ss) ρ false ⊢ slotAny c d ss from .rfl)
  iexact P0

end Cert.KernelIdeal.Own

end
-- ==== Proof.PhaseIdeal.lean ====
/-
  A phase's steps in order: the first step, the five middle steps, the last step, and all seven.
-/
module

public import proofs.«01_k».proof.Proof.RingIdeal

@[expose] public section

set_option maxRecDepth 100000

noncomputable section

namespace Cert.KernelIdeal.Own

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open _root_.Own
open Facts₀ Facts

variable {F : FTy → Type} [FloatOps F] [Facts]

local notation "𝕄" => MT nD τ sig ℕ (Elt F) ℕ UU ℕ

variable (X : Dev nD → FVec F S4096x512 .f32) (W : Dev nD → FVec F S512x8192 .f32) (κ : Dev nD × Kd → ℕ)
variable (c : Dev nD) (Q : PUnit → sProp (MT nD τ sig ℕ (Elt F) ℕ UU ℕ))

/-- The three lists: payments to make, payments to get, tokens to use. -/
def Lst (a b : List Pay) (t : List (Kd × ℕ)) : sProp (MT nD τ sig ℕ (Elt F) ℕ UU ℕ) := iprop(Due c a ∗ CredL c b ∗ TokO c t)

/-- Both rings' slots as all their quarters. -/
theorem slot_each (ss : Bool) (v : Bool → Fin 4 → FVec F S1x512x512 .bf16) :
    (two fun d => slotAt c d ss (v d)) ⊢ (eachP fun d j => qtr c d ss j (v d j) : sProp 𝕄) := each_of_two _
/-- And back. -/
theorem each_slot (ss : Bool) (v : Bool → Fin 4 → FVec F S1x512x512 .bf16) :
    (eachP fun d j => qtr c d ss j (v d j) : sProp 𝕄) ⊢ two fun d => slotAt c d ss (v d) := two_of_each _
/-- Both rings' result buffers as all their quarters. -/
theorem y_each (p : Bool) (v : Bool → Fin 4 → FVec F S512x512 .f32) :
    (two fun d => yAt c p d (v d)) ⊢ (eachP fun d j => yq c p d j (v d j) : sProp 𝕄) := each_of_two _
/-- And back. -/
theorem each_y (p : Bool) (v : Bool → Fin 4 → FVec F S512x512 .f32) :
    (eachP fun d j => yq c p d j (v d j) : sProp 𝕄) ⊢ two fun d => yAt c p d (v d) := two_of_each _
/-- All quarters with contents unnamed are both slots with contents unnamed. -/
theorem each_slotAny (ss : Bool) : (eachP fun d j => iprop(∃ x, qtr c d ss j x) : sProp 𝕄) ⊢ two fun d => slotAny c d ss := two_of_each _
/-- And back. -/
theorem slotAny_each (ss : Bool) : (two fun d => slotAny c d ss) ⊢ (eachP fun d j => iprop(∃ x, qtr c d ss j x) : sProp 𝕄) := each_of_two _
/-- The neighbours' slots as all their quarters. -/
theorem nslot_each (ss : Bool) : (two fun d => slotAny (nxt d c) d ss) ⊢ (eachP fun d j => iprop(∃ x, qtr (nxt d c) d ss j x) : sProp 𝕄) :=
  each_of_two _

/-- What may be used again on each ring may be used again on both. -/
instance two_persistent (Φ : Bool → sProp 𝕄) [∀ d, BI.Persistent (Φ d)] : BI.Persistent (two Φ) := by
  unfold two; infer_instance

/-- Both rings' partial products. -/
theorem parts_wp (p : Bool) (s : Nat) (hs : s < 8) (k : PG F) :
    iprop(XW X W c ∗ two fun d => yAny c true d)
      ⊢ iprop((XW X W c ∗ (two fun d => yAt c true d (fun j => sameQ (part X W p d s c j))) -∗ WP c k Q)
        -∗ WP c (partInto c p false s hs <| partInto c p true s hs k) Q) := by
  unfold two
  iintro ⟨Hx, Y0, Y1⟩ Hk
  iapply (partInto_wp X W c Q p false s hs _) $$ [Hx Y0]
  · iframe Hx Y0
  iintro ⟨Hx, Y0⟩
  iapply (partInto_wp X W c Q p true s hs _) $$ [Hx Y1]
  · iframe Hx Y1
  iintro ⟨Hx, Y1⟩
  iapply Hk
  iframe Hx Y0 Y1

/-- Both rings' sums. -/
theorem accums_wp (rs : Bool) (v : Bool → Fin 4 → FVec F S1x512x512 .bf16) (t : Bool → Fin 4 → FVec F S512x512 .f32) (k : PG F) :
    (iprop((two fun d => slotAt c d rs (v d)) ∗ two fun d => yAt c true d (t d)) : sProp 𝕄)
      ⊢ iprop(((two fun d => slotAt c d rs (fun j => packQ (addf (unpackQ (v d j)) (t d j)))) ∗ (two fun d => yAny c true d) -∗ WP c k Q)
        -∗ WP c (eachQ (fun d => accum d rs) k) Q) := by
  iintro ⟨Hs, Hy⟩ Hk
  ihave Hs := (slot_each c rs v) $$ Hs
  ihave Hy := (y_each c true t) $$ Hy
  ihave H := (each_sep (fun d j => qtr c d rs j (v d j)) (fun d j => yq c true d j (t d j))) $$ [Hs Hy]
  · iframe Hs Hy
  iapply (eachQ_wp c Q (fun d => accum d rs) (fun d j => iprop(qtr c d rs j (v d j) ∗ yq c true d j (t d j)))
    (fun d j => iprop(qtr c d rs j (packQ (addf (unpackQ (v d j)) (t d j))) ∗ yq c true d j (t d j))) (fun _ => iprop(emp)) k
    (fun d j k => by
      iintro ⟨H, -⟩ Hk
      iapply (accum_wp c Q d rs j (v d j) (t d j) k) $$ H
      iintro H
      iapply Hk
      iframe H)) $$ [H]
  · iframe H
  iintro ⟨H, -⟩
  ihave H := (sep_each (fun d j => qtr c d rs j (packQ (addf (unpackQ (v d j)) (t d j)))) (fun d j => yq c true d j (t d j))) $$ H
  icases H with ⟨Hs, Hy⟩
  iapply Hk
  isplitl [Hs]
  · iapply (each_slot c rs (fun d j => packQ (addf (unpackQ (v d j)) (t d j)))); iexact Hs
  · iapply (two_mono (fun d => yAt c true d (t d)) (fun d => yAny c true d) (fun d => yAt_any c true d (t d)))
    iapply (each_y c true t); iexact Hy

/-! ## The first step -/

/-- What a phase's first step starts from. -/
def FirstPre (p : Bool) : sProp (MT nD τ sig ℕ (Elt F) ℕ UU ℕ) :=
  iprop(XW X W c ∗ SubAt c p.toNat ∗ CredAt c (7 * p.toNat) ∗ BigAt c true (3 * p.toNat)
    ∗ (two fun d => slotAny c d false) ∗ (two fun d => slotAny (nxt d c) d true)
    ∗ (eachP fun d j => reached ER (cell (nxt d c) (.subR d j)) p.toNat)
    ∗ (two fun d => yAny c true d) ∗ amRows c (7 * p.toNat + 1))
/-- What it leaves. -/
def FirstPost (p : Bool) : sProp (MT nD τ sig ℕ (Elt F) ℕ UU ℕ) :=
  iprop(XW X W c ∗ SubAt c (p.toNat + 1) ∗ CredAt c (7 * p.toNat) ∗ BigAt c true (3 * p.toNat)
    ∗ (two fun d => slotAt c d true (SA X W p d 1 c)) ∗ (two fun d => yAny c true d) ∗ amKeep c (7 * p.toNat + 1))

/-- The payments of the quarters, one apart. -/
theorem subPays_drop (p d : Bool) (j : Fin 4) (l : List Pay) :
    (subPays p ++ l).drop (idx d j) = subPay1 p d j :: (subPays p ++ l).drop (idx d j + 1) := by
  cases d <;> fin_cases j <;> rfl
/-- A device's own payments for the quarters, one apart. -/
theorem subOwn_drop (p d : Bool) (j : Fin 4) (l : List (Kd × ℕ)) :
    (subOwn p ++ l).drop (idx d j) = (.subS d j, p.toNat) :: (subOwn p ++ l).drop (idx d j + 1) := by
  cases d <;> fin_cases j <;> rfl

/-- The quarters' semaphores have reached the round they are at. -/
theorem SubAt_reached (r : ℕ) : (SubAt c r : sProp 𝕄) ⊢ iprop(SubAt c r ∗ (eachP fun d j => reached ER (cell c (.subS d j)) r)
    ∗ eachP fun d j => reached ER (cell c (.subR d j)) r) := by
  unfold SubAt
  iintro H
  ihave H := (each_mono (fun d j => iprop(At c (.subS d j) r ∗ At c (.subR d j) r))
    (fun d j => iprop((At c (.subS d j) r ∗ At c (.subR d j) r) ∗ reached ER (cell c (.subS d j)) r ∗ reached ER (cell c (.subR d j)) r))
    (fun d j => by
      unfold At; iintro ⟨⟨A, #B⟩, C, #D⟩; iframe A B C D)) $$ H
  ihave H := (sep_each _ _) $$ H
  icases H with ⟨H, H'⟩
  ihave H' := (sep_each _ _) $$ H'
  icases H' with ⟨H', H''⟩
  iframe H H' H''
/-- So have the credits'. -/
theorem CredAt_reached (r : ℕ) : (CredAt c r : sProp 𝕄) ⊢ iprop(CredAt c r ∗ two fun d => reached ER (cell c (.cred d)) r) := by
  unfold CredAt two At; iintro ⟨⟨A, #B⟩, C, #D⟩; iframe A B C D
/-- So have the whole slots'. -/
theorem BigAt_reached (ss : Bool) (r : ℕ) : (BigAt c ss r : sProp 𝕄) ⊢ iprop(BigAt c ss r ∗ (two fun d => reached ER (cell c (.bigS d ss)) r)
    ∗ two fun d => reached ER (cell c (.bigR d (!ss))) r) := by
  unfold BigAt two At; iintro ⟨⟨⟨A, #B⟩, C, #D⟩, ⟨E, #F⟩, G, #H⟩; iframe A B C D E F G H

/-- Eight sends. -/
theorem subSends_wp (p : Bool) (xv : Bool → FVec F S512x512 .f32) (hx : ∀ d, xv d = xs X d 0 c) (l : List Pay) (t : List (Kd × ℕ)) (k : PG F) :
    iprop(Env X W κ ∗ ownsTc c wM fullShare (W c) ∗ Due c (subPays p ++ l) ∗ TokO c (subOwn p ++ t)
        ∗ (two fun d => slotAny c d false) ∗ (two fun d => slotAny (nxt d c) d true)
        ∗ (eachP fun d j => reached ER (cell (nxt d c) (.subR d j)) p.toNat) ∗ (eachP fun d j => reached ER (cell c (.subS d j)) p.toNat)
        ∗ (two fun d => reached ER (cell c (.cred d)) (7 * p.toNat)))
      ⊢ iprop((ownsTc c wM fullShare (W c) ∗ Due c l ∗ TokO c t
          ∗ (eachP fun d j => cred (tallyAt (cell c (.subS d j)) (10 * (7 * p.toNat + 1) + 3) (kAmt (.subS d j)))) -∗ WP c k Q)
        -∗ WP c (eachQ (fun d j => subSend c p d j (xv d)) k) Q) := by
  iintro ⟨#HE, Hw, HD, HT, Hs, Hn, Rn, Rs, #Rc⟩ Hk
  ihave Hs := (slotAny_each c false) $$ Hs
  ihave Hn := (nslot_each c true) $$ Hn
  ihave H := (each_sep _ _) $$ [Rn Rs]
  · iframe Rn Rs
  ihave H := (each_sep _ _) $$ [Hn H]
  · iframe Hn H
  ihave H := (each_sep _ _) $$ [Hs H]
  · iframe Hs H
  iapply (eachQ_wp c Q (fun d j => subSend c p d j (xv d))
    (fun d j => iprop((∃ x, qtr c d false j x) ∗ (∃ x, qtr (nxt d c) d true j x) ∗ reached ER (cell (nxt d c) (.subR d j)) p.toNat
      ∗ reached ER (cell c (.subS d j)) p.toNat))
    (fun d j => cred (tallyAt (cell c (.subS d j)) (10 * (7 * p.toNat + 1) + 3) (kAmt (.subS d j))))
    (fun n => iprop(Env X W κ ∗ (two fun d => reached ER (cell c (.cred d)) (7 * p.toNat)) ∗ ownsTc c wM fullShare (W c)
      ∗ Due c ((subPays p ++ l).drop n) ∗ TokO c ((subOwn p ++ t).drop n))) k
    (fun d j k => by
      rw [subPays_drop, subOwn_drop, hx d]
      iintro ⟨⟨Hs, Hn, Rn, Rs⟩, #HE, #Rc, Hw, HD, HT⟩ Hk
      ihave HT := (show TokO c ((.subS d j, p.toNat) :: (subOwn p ++ t).drop (idx d j + 1))
        ⊢ iprop(dutyTok ER (cell c (.subS d j)) p.toNat false ∗ TokO c ((subOwn p ++ t).drop (idx d j + 1))) from .rfl) $$ HT
      icases HT with ⟨Ht, HT⟩
      ihave Rd := (show (two fun d => reached ER (cell c (.cred d)) (7 * p.toNat)) ⊢ reached ER (cell c (.cred d)) (7 * p.toNat) from by
        unfold two; iintro ⟨A, B⟩; cases d
        · iexact A
        · iexact B) $$ Rc
      iapply (subSend_wp X W κ c Q p d j _ k) $$ [Hw HD Ht Hs Hn Rn Rs Rd]
      · iframe HE Hw HD Ht Hs Hn Rn Rs Rd
      iintro ⟨Hw, HD, Hc⟩
      iapply Hk
      iframe Hc HE Rc Hw HD HT)) $$ [H Hw HD HT]
  · iframe H HE Rc Hw
    isplitl [HD]
    · iexact HD
    · iexact HT
  iintro ⟨Hc, -, -, Hw, HD, HT⟩
  iapply Hk
  iframe Hc Hw
  isplitl [HD]
  · iexact HD
  · iexact HT

/-- Eight pairs of waits. -/
theorem subWaits_wp (p : Bool) (l l' : List Pay) (hl : Above (10 * (7 * p.toNat + 1) + 3) l) (k : PG F) :
    iprop(Env X W κ ∗ Due c l ∗ CredL c (subPays p ++ l')
        ∗ (eachP fun d j => cred (tallyAt (cell c (.subS d j)) (10 * (7 * p.toNat + 1) + 3) (kAmt (.subS d j)))) ∗ SubAt c p.toNat)
      ⊢ iprop((Due c l ∗ CredL c l' ∗ SubAt c (p.toNat + 1) ∗ (two fun d => slotAny c d false)
          ∗ (two fun d => slotAt c d true (SA X W p d 0 (prv d c))) ∗ (two fun d => reached ER (cell (prv d c) (.cred d)) (7 * p.toNat)) -∗ WP c k Q)
        -∗ WP c (eachQ subWait k) Q) := by
  iintro ⟨#HE, HD, HC, Hc, HA⟩ Hk
  unfold SubAt
  ihave H := (each_sep _ _) $$ [Hc HA]
  · iframe Hc HA
  iapply (eachQ_wp c Q subWait
    (fun d j => iprop(cred (tallyAt (cell c (.subS d j)) (10 * (7 * p.toNat + 1) + 3) (kAmt (.subS d j)))
      ∗ At c (.subS d j) p.toNat ∗ At c (.subR d j) p.toNat))
    (fun d j => iprop((At c (.subS d j) (p.toNat + 1) ∗ At c (.subR d j) (p.toNat + 1)) ∗ (∃ x, qtr c d false j x)
          ∗ qtr c d true j (SA X W p d 0 (prv d c) j) ∗ reached ER (cell (prv d c) (.cred d)) (7 * p.toNat)))
    (fun n => iprop(Env X W κ ∗ Due c l ∗ CredL c ((subPays p ++ l').drop n))) k
    (fun d j k => by
      rw [subPays_drop]
      iintro ⟨⟨Hc, A0, A1⟩, #HE, HD, HC⟩ Hk
      ihave HC := (show CredL c (subPay1 p d j :: (subPays p ++ l').drop (idx d j + 1))
        ⊢ iprop(cred (tallyAt (cell c (.subR d j)) (10 * (7 * p.toNat + 1) + 3) (kAmt (.subR d j))) ∗ CredL c ((subPays p ++ l').drop (idx d j + 1))) from .rfl) $$ HC
      icases HC with ⟨Hr, HC⟩
      iapply (subWait_wp X W κ c Q p d j l hl k) $$ [HD Hc Hr A0 A1]
      · iframe HE HD Hc Hr A0 A1
      iintro ⟨HD, A0, A1, Hx, Hq, Hr⟩
      iapply Hk
      iframe HE HD HC A0 A1 Hx Hq Hr)) $$ [H HD HC]
  · iframe H HE HD
    iexact HC
  iintro ⟨H, -, HD, HC⟩
  ihave H := (sep_each _ _) $$ H
  icases H with ⟨HA, H⟩
  ihave H := (sep_each _ _) $$ H
  icases H with ⟨Hx, H⟩
  ihave H := (sep_each _ _) $$ H
  icases H with ⟨Hq, Hr⟩
  iapply Hk
  iframe HD HA
  isplitl [HC]
  · iexact HC
  isplitl [Hx]
  · iapply (each_slotAny c false); iexact Hx
  isplitl [Hq]
  · iapply (each_slot c true (fun d => SA X W p d 0 (prv d c))); iexact Hq
  · unfold eachP two; icases Hr with ⟨R0, R1, -, -, -, -, -, -⟩; iframe R0 R1

/-- The slot a credit stands for in the middle of a phase. -/
theorem credSlot_mid (p : Bool) (n : ℕ) (ss : Bool) (ρ : ℕ) (hn : n ≤ 5) (hρ : 2 * ρ + (!ss).toNat = 6 * p.toNat + n) :
    credSlot (7 * p.toNat + n) = (!ss) := by
  have h : credSlot (7 * p.toNat + n) = decide ((6 * p.toNat + n) % 2 = 1) :=
    (show ∀ (p : Bool) (n : Fin 6), credSlot (7 * p.toNat + n.val) = decide ((6 * p.toNat + n.val) % 2 = 1) by decide) p ⟨n, by omega⟩
  rw [h, ← hρ]
  cases ss
  · exact decide_eq_true (by show (2 * ρ + 1) % 2 = 1; omega)
  · exact decide_eq_false (by show ¬ (2 * ρ + 0) % 2 = 1; omega)
/-- The round a credit shows in the middle of a phase. -/
theorem credReach_mid (d p : Bool) (n : ℕ) (ss : Bool) (ρ : ℕ) (hn : n ≤ 5) (hρ : 2 * ρ + (!ss).toNat = 6 * p.toNat + n) :
    (credReach c d (7 * p.toNat + n) : sProp 𝕄) = reached ER (cell c (.bigR d (!ss))) ρ := by
  have h6 : ¬ 7 * p.toNat + n = 6 := by cases p <;> simp <;> omega
  have hk : (if 7 * p.toNat + n < 6 then 7 * p.toNat + n else 7 * p.toNat + n - 1) / 2 = ρ := by
    have h : (if 7 * p.toNat + n < 6 then 7 * p.toNat + n else 7 * p.toNat + n - 1) / 2 = (6 * p.toNat + n) / 2 :=
      (show ∀ (p : Bool) (n : Fin 6), (if 7 * p.toNat + n.val < 6 then 7 * p.toNat + n.val else 7 * p.toNat + n.val - 1) / 2
        = (6 * p.toNat + n.val) / 2 by decide) p ⟨n, by omega⟩
    rw [h, ← hρ]
    cases ss
    · show (2 * ρ + 1) / 2 = ρ; omega
    · show (2 * ρ + 0) / 2 = ρ; omega
  unfold credReach
  rw [if_neg h6, credSlot_mid p n ss ρ hn hρ, hk]

/-- The first step of a phase. -/
theorem firstStep_wp (p : Bool) (l l' : List Pay) (t : List (Kd × ℕ)) (hl : Above (10 * (7 * p.toNat + 1) + 3) l) (k : PG F) :
    iprop(Env X W κ ∗ FirstPre X W c p ∗ Lst c (subPays p ++ credPays (7 * p.toNat) ++ l) (subPays p ++ l') (subOwn p ++ t))
      ⊢ iprop((FirstPost X W c p ∗ Lst c l l' t -∗ WP c k Q) -∗ WP c (firstStep c p k) Q) := by
  unfold firstStep FirstPre FirstPost Lst XW
  have hp : p.toNat ≤ 1 := by cases p <;> decide
  have hcs : credSlot (7 * p.toNat) = false := credSlot_mid p 0 true (3 * p.toNat) (by omega) (by show 2 * (3 * p.toNat) + 0 = _; omega)
  rw [List.append_assoc]
  iintro ⟨#HE, ⟨⟨Hx, Hw⟩, HSA, HCA, HBA, Hs, Hn, Rn, Hy, HR⟩, HD, HC, HT⟩ Hk
  iapply (ldX_wp X c Q false 0 _ _) $$ Hx
  iintro Hx
  iapply (ldX_wp X c Q true 0 _ _) $$ Hx
  iintro Hx
  ihave HSA := (SubAt_reached c p.toNat) $$ HSA
  icases HSA with ⟨HSA, Rs, -⟩
  ihave HCA := (CredAt_reached c (7 * p.toNat)) $$ HCA
  icases HCA with ⟨HCA, Rc⟩
  iapply (subSends_wp X W κ c Q p (fun d => match d with | false => xs X false 0 c | true => xs X true 0 c)
    (fun d => by cases d <;> rfl) (credPays (7 * p.toNat) ++ l) t _) $$ [Hw HD HT Hs Hn Rn Rs Rc]
  · iframe HE Hw HD HT Hs Hn Rn Rs Rc
  iintro ⟨Hw, HD, HT, Hc⟩
  iapply (parts_wp X W c Q p 1 _ _) $$ [Hx Hw Hy]
  · unfold XW; iframe Hx Hw Hy
  iintro ⟨HX, Hy⟩
  iapply (subWaits_wp X W κ c Q p (credPays (7 * p.toNat) ++ l) l'
    (.append (Above_credPays (by omega) (by omega)) hl) _) $$ [HD HC Hc HSA]
  · iframe HE HD HC Hc HSA
  iintro ⟨HD, HC, HSA, Hs, Hq, Rp⟩
  ihave HBA := (BigAt_reached c true (3 * p.toNat)) $$ HBA
  icases HBA with ⟨HBA, -, Rb⟩
  ihave HR := (amRows_split c (7 * p.toNat + 1)) $$ HR
  icases HR with ⟨HK, HR⟩
  iapply (giveCred_wp X W κ c Q (7 * p.toNat) (by omega) l _) $$ [HD Hs Rb Rp HR]
  · iframe HE HD
    unfold credGive
    iframe HR
    rw [hcs]
    have e : ∀ d, (credReach c d (7 * p.toNat) : sProp 𝕄) = reached ER (cell c (.bigR d false)) (3 * p.toNat) := fun d =>
      credReach_mid c d p 0 true (3 * p.toNat) (by omega) (by show 2 * (3 * p.toNat) + 0 = _; omega)
    rw [show (fun d => iprop(slotAny c d false ∗ credReach c d (7 * p.toNat) ∗ reached ER (cell (prv d c) (.cred d)) (7 * p.toNat)) : Bool → sProp 𝕄)
      = fun d => iprop(slotAny c d false ∗ reached ER (cell c (.bigR d false)) (3 * p.toNat) ∗ reached ER (cell (prv d c) (.cred d)) (7 * p.toNat))
      from funext fun d => by rw [e d]]
    iapply (two_sep _ _)
    iframe Hs
    iapply (two_sep _ _)
    iframe Rb Rp
  iintro HD
  iapply (accums_wp c Q true (fun d => SA X W p d 0 (prv d c)) (fun d j => sameQ (part X W p d 1 c j)) k) $$ [Hq Hy]
  · iframe Hq Hy
  iintro ⟨Hq, Hy⟩
  iapply Hk
  unfold XW
  iframe HX HSA HCA HBA Hy HK HD HC HT
  iexact Hq

/-! ## The middle steps -/

/-- What steps 2 to 7 start from. -/
def Mid (p : Bool) (n : ℕ) (ss : Bool) (ρ ρ' : ℕ) : sProp (MT nD τ sig ℕ (Elt F) ℕ UU ℕ) :=
  iprop(XW X W c ∗ CredAt c (7 * p.toNat + n) ∗ BigAt c ss ρ ∗ BigAt c (!ss) ρ'
    ∗ (two fun d => slotAt c d ss (SA X W p d (n + 1) c)) ∗ (two fun d => yAny c true d))

/-- The transfer of a whole slot with the partial product computed meanwhile. -/
theorem bigCore_wp (p : Bool) (n : ℕ) (hs : n + 2 < 8) (ss : Bool) (ρ : ℕ) (hρ : 2 * ρ + (!ss).toNat = 6 * p.toNat + n)
    (l l' : List Pay) (t : List (Kd × ℕ)) (hl : Above (10 * (7 * p.toNat + n + 2) + 3) l) (k : PG F) :
    iprop(Env X W κ ∗ (XW X W c ∗ CredAt c (7 * p.toNat + n) ∗ BigAt c ss ρ
          ∗ (two fun d => slotAt c d ss (SA X W p d (n + 1) c)) ∗ (two fun d => yAny c true d))
        ∗ Lst c (bigPays (7 * p.toNat + n + 2) (!ss) ρ ++ l) (credPays (7 * p.toNat + n) ++ bigPays (7 * p.toNat + n + 2) (!ss) ρ ++ l') (bigOwn ss ρ ++ t))
      ⊢ iprop(((XW X W c ∗ CredAt c (7 * p.toNat + n + 1) ∗ BigAt c ss (ρ + 1)
          ∗ (two fun d => slotAny c d ss) ∗ (two fun d => slotAt c d (!ss) (SA X W p d (n + 1) (prv d c)))
          ∗ (two fun d => reached ER (cell (prv d c) (.cred d)) (7 * p.toNat + n + 1))
          ∗ (two fun d => yAt c true d (fun j => sameQ (part X W p d (n + 2) c j))) ∗ amRows c (7 * p.toNat + n + 2))
          ∗ Lst c l l' t -∗ WP c k Q)
        -∗ WP c (bigCore c p (n + 2) hs ss k) Q) := by
  unfold bigCore Lst
  have hp : p.toNat ≤ 1 := by cases p <;> decide
  rw [List.append_assoc]
  iintro ⟨#HE, ⟨HX, HCA, HBA, Hs, Hy⟩, HD, HC, HT⟩ Hk
  iapply (takeCred_wp X W κ c Q (7 * p.toNat + n) (by omega) (bigPays (7 * p.toNat + n + 2) (!ss) ρ ++ l)
    (bigPays (7 * p.toNat + n + 2) (!ss) ρ ++ l') (.append (Above_bigPays (by omega) (by omega)) (hl.mono (by omega))) _) $$ [HD HC HCA]
  · iframe HE HD HC HCA
  iintro ⟨HD, HC, HCA, HP⟩
  unfold credTake
  icases HP with ⟨HP, HR⟩
  rw [credSlot_mid p n ss ρ (by omega) hρ]
  rw [show (fun d => iprop(slotAny (nxt d c) d (!ss) ∗ credReach (nxt d c) d (7 * p.toNat + n)) : Bool → sProp 𝕄)
      = fun d => iprop(slotAny (nxt d c) d (!ss) ∗ reached ER (cell (nxt d c) (.bigR d (!ss))) ρ)
      from funext fun d => by rw [credReach_mid (nxt d c) d p n ss ρ (by omega) hρ]]
  ihave HP := (sep_two _ _) $$ HP
  icases HP with ⟨HP, Rn⟩
  ihave HCA := (CredAt_reached c (7 * p.toNat + n + 1)) $$ HCA
  icases HCA with ⟨HCA, Rc⟩
  ihave HBA := (BigAt_reached c ss ρ) $$ HBA
  icases HBA with ⟨HBA, Rs, -⟩
  unfold BigAt two
  icases HP with ⟨P0, P1⟩
  icases Rn with ⟨N0, N1⟩
  icases Rc with ⟨C0, C1⟩
  icases Rs with ⟨S0, S1⟩
  icases Hs with ⟨Hs0, Hs1⟩
  ihave HT := (show TokO c (bigOwn ss ρ ++ t) ⊢ iprop(dutyTok ER (cell c (.bigS false ss)) ρ false ∗ dutyTok ER (cell c (.bigS true ss)) ρ false ∗ TokO c t)
    from .rfl) $$ HT
  icases HT with ⟨T0, T1, HT⟩
  ihave HC := (show CredL c (bigPays (7 * p.toNat + n + 2) (!ss) ρ ++ l')
    ⊢ iprop(cred (tallyAt (cell c (.bigR false (!ss))) (10 * (7 * p.toNat + n + 2) + 3) (kAmt (.bigR false (!ss))))
      ∗ cred (tallyAt (cell c (.bigR true (!ss))) (10 * (7 * p.toNat + n + 2) + 3) (kAmt (.bigR true (!ss)))) ∗ CredL c l') from .rfl) $$ HC
  icases HC with ⟨B0, B1, HC⟩
  iapply (bigSend_wp X W κ c Q p false ss n ρ (by omega) hρ (bigPay1 (7 * p.toNat + n + 2) (!ss) ρ true :: l) _) $$ [HD T0 Hs0 P0 N0 S0 C0]
  · iframe HE T0 Hs0 P0 N0 S0 C0
    iexact HD
  iintro ⟨HD, D0⟩
  iapply (bigSend_wp X W κ c Q p true ss n ρ (by omega) hρ l _) $$ [HD T1 Hs1 P1 N1 S1 C1]
  · iframe HE HD T1 Hs1 P1 N1 S1 C1
  iintro ⟨HD, D1⟩
  iapply (parts_wp X W c Q p (n + 2) hs _) $$ [HX Hy]
  · unfold two; iframe HX Hy
  iintro ⟨HX, Hy⟩
  icases HBA with ⟨⟨A0, A1⟩, A2, A3⟩
  iapply (bigWait_wp X W κ c Q p false ss n ρ (by omega) hρ l hl _) $$ [HD D0 B0 A0 A1]
  · iframe HE HD D0 B0 A0 A1
  iintro ⟨HD, A0, A1, Hs0, Hq0, R0⟩
  iapply (bigWait_wp X W κ c Q p true ss n ρ (by omega) hρ l hl _) $$ [HD D1 B1 A2 A3]
  · iframe HE HD D1 B1 A2 A3
  iintro ⟨HD, A2, A3, Hs1, Hq1, R1⟩
  iapply Hk
  unfold two
  iframe HD HC HT HX HCA A0 A1 A2 A3 Hs0 Hs1 Hq0 Hq1 R0 R1 Hy HR

/-- A step in the middle of a phase. -/
theorem midStep_wp (p : Bool) (n : ℕ) (hn : n ≤ 4) (hs : n + 2 < 8) (ss : Bool) (ρ ρ' : ℕ) (hρ : 2 * ρ + (!ss).toNat = 6 * p.toNat + n)
    (hρ' : 2 * ρ' + (!(!ss)).toNat = 6 * p.toNat + (n + 1))
    (l l' : List Pay) (t : List (Kd × ℕ)) (hl : Above (10 * (7 * p.toNat + n + 2) + 3) l) (k : PG F) :
    iprop(Env X W κ ∗ Mid X W c p n ss ρ ρ'
        ∗ Lst c (bigPays (7 * p.toNat + n + 2) (!ss) ρ ++ credPays (7 * p.toNat + (n + 1)) ++ l)
          (credPays (7 * p.toNat + n) ++ bigPays (7 * p.toNat + n + 2) (!ss) ρ ++ l') (bigOwn ss ρ ++ t))
      ⊢ iprop((Mid X W c p (n + 1) (!ss) ρ' (ρ + 1) ∗ amKeep c (7 * p.toNat + n + 2) ∗ Lst c l l' t -∗ WP c k Q)
        -∗ WP c (midStep c p (n + 2) hs ss k) Q) := by
  unfold midStep Mid
  have hp : p.toNat ≤ 1 := by cases p <;> decide
  rw [List.append_assoc (bigPays _ _ _)]
  iintro ⟨#HE, ⟨HX, HCA, HBA, HBA', Hs, Hy⟩, HL⟩ Hk
  iapply (bigCore_wp X W κ c Q p n hs ss ρ hρ (credPays (7 * p.toNat + (n + 1)) ++ l) l' t
    (.append (Above_credPays (by omega) (by omega)) hl) _) $$ [HX HCA HBA Hs Hy HL]
  · iframe HE HX HCA HBA Hs Hy HL
  iintro ⟨⟨HX, HCA, HBA, Hs, Hq, Rp, Hy, HR⟩, HL⟩
  unfold Lst
  icases HL with ⟨HD, HC, HT⟩
  ihave HBA' := (BigAt_reached c (!ss) ρ') $$ HBA'
  icases HBA' with ⟨HBA', -, Rb⟩
  ihave HR := (amRows_split c (7 * p.toNat + n + 2)) $$ HR
  icases HR with ⟨HK, HR⟩
  iapply (giveCred_wp X W κ c Q (7 * p.toNat + (n + 1)) (by omega) l _) $$ [HD Hs Rb Rp HR]
  · iframe HE HD
    unfold credGive
    iframe HR
    rw [credSlot_mid p (n + 1) (!ss) ρ' (by omega) hρ']
    rw [show (fun d => iprop(slotAny c d (!(!ss)) ∗ credReach c d (7 * p.toNat + (n + 1)) ∗ reached ER (cell (prv d c) (.cred d)) (7 * p.toNat + (n + 1))) : Bool → sProp 𝕄)
      = fun d => iprop(slotAny c d (!(!ss)) ∗ reached ER (cell c (.bigR d (!(!ss)))) ρ' ∗ reached ER (cell (prv d c) (.cred d)) (7 * p.toNat + (n + 1)))
      from funext fun d => by rw [credReach_mid c d p (n + 1) (!ss) ρ' (by omega) hρ']]
    iapply (two_sep _ _)
    isplitl [Hs]
    · rw [Bool.not_not]; iexact Hs
    iapply (two_sep _ _)
    iframe Rb
    iexact Rp
  iintro HD
  iapply (accums_wp c Q (!ss) (fun d => SA X W p d (n + 1) (prv d c)) (fun d j => sameQ (part X W p d (n + 2) c j)) k) $$ [Hq Hy]
  · iframe Hq Hy
  iintro ⟨Hq, Hy⟩
  iapply Hk
  rw [Bool.not_not]
  iframe HX HBA HBA' Hy HK HD HC HT
  isplitl [HCA]
  · iexact HCA
  · iexact Hq

/-! ## The last step -/

/-- What the last step needs of a phase's result buffers. -/
def LastY (p : Bool) : sProp (MT nD τ sig ℕ (Elt F) ℕ UU ℕ) := if p then iprop(emp) else two fun d => yAny c false d
/-- What it leaves of them. -/
def LastY' (p : Bool) : sProp (MT nD τ sig ℕ (Elt F) ℕ UU ℕ) := if p then iprop(emp) else two fun d => yAny c true d

/-- The last step of a phase. -/
theorem lastStep_wp (p : Bool) (ρ ρ' : ℕ) (hρ : 2 * ρ + 1 = 6 * p.toNat + 5)
    (l l' : List Pay) (t : List (Kd × ℕ)) (hl : Above (10 * (7 * p.toNat + 7) + 3) l) (k : PG F) :
    iprop(Env X W κ ∗ (Mid X W c p 5 false ρ ρ' ∗ LastY c p)
        ∗ Lst c (bigPays (7 * p.toNat + 7) true ρ ++ l) (credPays (7 * p.toNat + 5) ++ bigPays (7 * p.toNat + 7) true ρ ++ l') (bigOwn false ρ ++ t))
      ⊢ iprop(((XW X W c ∗ CredAt c (7 * p.toNat + 6) ∗ BigAt c false (ρ + 1) ∗ BigAt c true ρ'
          ∗ (two fun d => slotAny c d false) ∗ (two fun d => slotAny c d true)
          ∗ (two fun d => yAt c p d (FA X W p d c)) ∗ LastY' c p
          ∗ (two fun d => reached ER (cell (prv d c) (.cred d)) (7 * p.toNat + 6)) ∗ amRows c (7 * p.toNat + 7)) ∗ Lst c l l' t -∗ WP c k Q)
        -∗ WP c (lastStep c p k) Q) := by
  unfold lastStep Mid
  iintro ⟨#HE, ⟨⟨HX, HCA, HBA, HBA', Hs, Hy⟩, HY⟩, HL⟩ Hk
  iapply (bigCore_wp X W κ c Q p 5 _ false ρ hρ l l' t hl _) $$ [HX HCA HBA Hs Hy HL]
  · iframe HE HX HCA HBA Hs Hy HL
  iintro ⟨⟨HX, HCA, HBA, Hs, Hq, Rp, Hy, HR⟩, HL⟩
  ihave Hq := (show (two fun d => slotAt c d (!false) (SA X W p d (5 + 1) (prv d c))) ⊢ _ from slot_each c true (fun d => SA X W p d 6 (prv d c))) $$ Hq
  ihave Hy := (show (two fun d => yAt c true d (fun j => sameQ (part X W p d (5 + 2) c j))) ⊢ _ from y_each c true (fun d j => sameQ (part X W p d 7 c j))) $$ Hy
  ihave Hy := (show iprop((eachP fun d j => yq c true d j (sameQ (part X W p d 7 c j))) ∗ LastY c p)
      ⊢ eachP fun d j => yPre c p d j (sameQ (part X W p d 7 c j)) from by
    unfold LastY yPre
    cases p
    · simp only [Bool.false_eq_true, if_false]
      iintro ⟨A, B⟩
      iapply (each_sep _ _)
      iframe A
      iapply (each_of_two (fun d j => iprop(∃ y, yq c false d j y))); iexact B
    · simp only [if_true]
      iintro ⟨A, -⟩
      iapply (each_sep _ _)
      iframe A
      unfold eachP
      isplitr; · iempintro
      isplitr; · iempintro
      isplitr; · iempintro
      isplitr; · iempintro
      isplitr; · iempintro
      isplitr; · iempintro
      isplitr <;> iempintro) $$ [Hy HY]
  · iframe Hy HY
  ihave H := (each_sep _ _) $$ [Hq Hy]
  · iframe Hq Hy
  iapply (eachQ_wp c Q (final p) (fun d j => iprop(qtr c d true j (SA X W p d 6 (prv d c) j) ∗ yPre c p d j (sameQ (part X W p d 7 c j)))) (fun d j => iprop(qtr c d true j (SA X W p d 6 (prv d c) j) ∗ yPost c p d j (FA X W p d c j))) (fun _ => iprop(emp)) k
    (fun d j k => by
      iintro ⟨H, -⟩ Hk
      iapply (final_wp c Q p d j (SA X W p d 6 (prv d c) j) (sameQ (part X W p d 7 c j)) k) $$ H
      iintro ⟨A, B⟩
      iapply Hk
      iframe A
      iexact B)) $$ [H]
  · iframe H
  iintro ⟨H, -⟩
  ihave H := (sep_each _ _) $$ H
  icases H with ⟨Hq, Hy⟩
  unfold yPost
  ihave Hy := (sep_each _ _) $$ Hy
  icases Hy with ⟨Hy, HY⟩
  iapply Hk
  iframe HL HX HBA Hs HR
  isplitl [HCA]
  · iexact HCA
  isplitl [HBA']
  · iexact HBA'
  isplitl [Hq]
  · iapply (two_mono _ _ (fun d => slotAt_any c d true (SA X W p d 6 (prv d c))))
    iapply (each_slot c true (fun d => SA X W p d 6 (prv d c))); iexact Hq
  isplitl [Hy]
  · iapply (each_y c p (fun d => FA X W p d c)); iexact Hy
  isplitl [HY]
  · unfold LastY'
    cases p
    · simp only [Bool.false_eq_true, if_false]
      iapply (two_of_each (fun d j => iprop(∃ y, yq c true d j y))); iexact HY
    · simp only [if_true]
      iempintro
  · iexact Rp

end Cert.KernelIdeal.Own

end
-- ==== Proof.PhasesIdeal.lean ====
/-
  A phase's seven steps in order.
-/
module

public import proofs.«01_k».proof.Proof.PhaseIdeal

@[expose] public section

set_option maxRecDepth 100000

noncomputable section

namespace Cert.KernelIdeal.Own

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open _root_.Own
open Facts₀ Facts

variable {F : FTy → Type} [FloatOps F] [Facts]

local notation "𝕄" => MT nD τ sig ℕ (Elt F) ℕ UU ℕ

variable (X : Dev nD → FVec F S4096x512 .f32) (W : Dev nD → FVec F S512x8192 .f32) (κ : Dev nD × Kd → ℕ)
variable (c : Dev nD) (Q : PUnit → sProp (MT nD τ sig ℕ (Elt F) ℕ UU ℕ))

/-- The payments from step `n + 2` on. -/
def dl (p : Bool) (n : ℕ) (ss : Bool) (ρ : ℕ) (l : List Pay) : List Pay :=
  bigPays (7 * p.toNat + n + 2) (!ss) ρ ++ credPays (7 * p.toNat + (n + 1)) ++ l
/-- What is to be got from step `n + 2` on. -/
def cl (p : Bool) (n : ℕ) (ss : Bool) (ρ : ℕ) (l : List Pay) : List Pay :=
  credPays (7 * p.toNat + n) ++ bigPays (7 * p.toNat + n + 2) (!ss) ρ ++ l
/-- The last step's payments, then `l`. -/
def dEnd (p : Bool) (l : List Pay) : List Pay := bigPays (7 * p.toNat + 7) true (3 * p.toNat + 2) ++ l
/-- What is to be got at the last step, then `l`. -/
def cEnd (p : Bool) (l : List Pay) : List Pay := credPays (7 * p.toNat + 5) ++ bigPays (7 * p.toNat + 7) true (3 * p.toNat + 2) ++ l
/-- Steps 2 to 7's payments, then `l`. -/
def dTail (p : Bool) (l : List Pay) : List Pay :=
  dl p 0 true (3 * p.toNat) <| dl p 1 false (3 * p.toNat) <| dl p 2 true (3 * p.toNat + 1) <| dl p 3 false (3 * p.toNat + 1) <|
  dl p 4 true (3 * p.toNat + 2) <| dEnd p l
/-- A phase's payments, then `l`. -/
def ringD (p : Bool) (l : List Pay) : List Pay := subPays p ++ credPays (7 * p.toNat) ++ dTail p l
/-- What a phase is paid, then `l`. -/
def ringC (p : Bool) (l : List Pay) : List Pay :=
  subPays p ++ (cl p 0 true (3 * p.toNat) <| cl p 1 false (3 * p.toNat) <| cl p 2 true (3 * p.toNat + 1) <| cl p 3 false (3 * p.toNat + 1) <|
    cl p 4 true (3 * p.toNat + 2) <| cEnd p l)
/-- A phase's own tokens, then `t`. -/
def ringO (p : Bool) (t : List (Kd × ℕ)) : List (Kd × ℕ) :=
  subOwn p ++ (bigOwn true (3 * p.toNat) ++ (bigOwn false (3 * p.toNat) ++ (bigOwn true (3 * p.toNat + 1) ++ (bigOwn false (3 * p.toNat + 1) ++
    (bigOwn true (3 * p.toNat + 2) ++ (bigOwn false (3 * p.toNat + 2) ++ t))))))

/-- What is owed in the middle of a phase is above the step's waits. -/
theorem Above_dl (p : Bool) (n : ℕ) (hn : n ≤ 4) (ss : Bool) (ρ : ℕ) (l : List Pay) (h : Above (10 * (7 * p.toNat + n + 2) + 3) l) :
    Above (10 * (7 * p.toNat + n + 1) + 3) (dl p n ss ρ l) := by
  have hp : p.toNat ≤ 1 := by cases p <;> decide
  exact .append (.append (Above_bigPays (by omega) (by omega)) (Above_credPays (by omega) (by omega))) (h.mono (by omega))
/-- So is what is owed at its end. -/
theorem Above_dEnd (p : Bool) (l : List Pay) (h : Above (10 * (7 * p.toNat + 7) + 3) l) : Above (10 * (7 * p.toNat + 4 + 2) + 3) (dEnd p l) := by
  have hp : p.toNat ≤ 1 := by cases p <;> decide
  exact .append (Above_bigPays (by omega) (by omega)) (h.mono (by omega))
/-- So is what is owed after its first step. -/
theorem Above_dTail (p : Bool) (l : List Pay) (h : Above (10 * (7 * p.toNat + 7) + 3) l) : Above (10 * (7 * p.toNat + 0 + 1) + 3) (dTail p l) :=
  Above_dl p 0 (by omega) _ _ _ <| Above_dl p 1 (by omega) _ _ _ <| Above_dl p 2 (by omega) _ _ _ <| Above_dl p 3 (by omega) _ _ _ <|
    Above_dl p 4 (by omega) _ _ _ <| Above_dEnd p l h
/-- So is all that the phase owes. -/
theorem Above_ringD {ι : ℕ} (p : Bool) (l : List Pay) (h : Above (10 * (7 * p.toNat + 7) + 3) l) (hι : ι < 10 * (7 * p.toNat + 1) + 3) :
    Above ι (ringD p l) := by
  have hp : p.toNat ≤ 1 := by cases p <;> decide
  exact .append (.append (Above_subPays hι) (Above_credPays (by omega) (by omega))) ((Above_dTail p l h).mono (by omega))

/-- What a phase starts from. -/
def RingPre (p : Bool) : sProp (MT nD τ sig ℕ (Elt F) ℕ UU ℕ) := iprop(FirstPre X W c p ∗ BigAt c false (3 * p.toNat) ∗ LastY c p)
/-- The rows of maxima kept during a phase. -/
def amKeeps (p : Bool) : sProp (MT nD τ sig ℕ (Elt F) ℕ UU ℕ) :=
  iprop(amKeep c (7 * p.toNat + 1) ∗ amKeep c (7 * p.toNat + 2) ∗ amKeep c (7 * p.toNat + 3) ∗ amKeep c (7 * p.toNat + 4)
    ∗ amKeep c (7 * p.toNat + 5) ∗ amKeep c (7 * p.toNat + 6))
/-- What a phase leaves. -/
def RingPost (p : Bool) : sProp (MT nD τ sig ℕ (Elt F) ℕ UU ℕ) :=
  iprop((XW X W c ∗ CredAt c (7 * p.toNat + 6) ∗ BigAt c false (3 * p.toNat + 3) ∗ BigAt c true (3 * p.toNat + 3)
    ∗ (two fun d => slotAny c d false) ∗ (two fun d => slotAny c d true)
    ∗ (two fun d => yAt c p d (FA X W p d c)) ∗ LastY' c p
    ∗ (two fun d => reached ER (cell (prv d c) (.cred d)) (7 * p.toNat + 6)) ∗ amRows c (7 * p.toNat + 7))
    ∗ SubAt c (p.toNat + 1) ∗ amKeeps c p)

/-- A whole phase, but for the maximum. -/
theorem ringPart_wp (p : Bool) (l l' : List Pay) (t : List (Kd × ℕ)) (hl : Above (10 * (7 * p.toNat + 7) + 3) l) (k : PG F) :
    iprop(Env X W κ ∗ RingPre X W c p ∗ Lst c (ringD p l) (ringC p l') (ringO p t))
      ⊢ iprop((RingPost X W c p ∗ Lst c l l' t -∗ WP c k Q) -∗ WP c (ringPart c p k) Q) := by
  have hp : p.toNat ≤ 1 := by cases p <;> decide
  have a5 := Above_dEnd p l hl
  have a4 := Above_dl p 4 (by omega) true (3 * p.toNat + 2) _ a5
  have a3 := Above_dl p 3 (by omega) false (3 * p.toNat + 1) _ a4
  have a2 := Above_dl p 2 (by omega) true (3 * p.toNat + 1) _ a3
  have a1 := Above_dl p 1 (by omega) false (3 * p.toNat) _ a2
  have a0 := Above_dl p 0 (by omega) true (3 * p.toNat) _ a1
  unfold ringPart RingPre
  iintro ⟨#HE, ⟨HF, HB, HY⟩, HL⟩ Hk
  iapply (firstStep_wp X W κ c Q p _ _ _ a0 _) $$ [HF HL]
  · iframe HE HF
    iexact HL
  unfold FirstPost
  iintro ⟨⟨HX, HSA, HCA, HB', Hs, Hy, K1⟩, HL⟩
  ihave HM := (show iprop(XW X W c ∗ CredAt c (7 * p.toNat) ∗ BigAt c true (3 * p.toNat) ∗ BigAt c false (3 * p.toNat)
      ∗ (two fun d => slotAt c d true (SA X W p d 1 c)) ∗ (two fun d => yAny c true d)) ⊢ Mid X W c p 0 true (3 * p.toNat) (3 * p.toNat) from .rfl) $$ [HX HCA HB HB' Hs Hy]
  · iframe HX HCA HB HB' Hs Hy
  iapply (midStep_wp X W κ c Q p 0 (by omega) _ true (3 * p.toNat) (3 * p.toNat) (by show 2 * (3 * p.toNat) + 0 = 6 * p.toNat + 0; omega)
    (by show 2 * (3 * p.toNat) + 1 = 6 * p.toNat + (0 + 1); omega) _ _ _ a1 _) $$ [HM HL]
  · iframe HE HM
    iexact HL
  iintro ⟨HM, K2, HL⟩
  iapply (midStep_wp X W κ c Q p 1 (by omega) _ false (3 * p.toNat) (3 * p.toNat + 1) (by show 2 * (3 * p.toNat) + 1 = 6 * p.toNat + 1; omega)
    (by show 2 * (3 * p.toNat + 1) + 0 = 6 * p.toNat + (1 + 1); omega) _ _ _ a2 _) $$ [HM HL]
  · iframe HE HM
    iexact HL
  iintro ⟨HM, K3, HL⟩
  iapply (midStep_wp X W κ c Q p 2 (by omega) _ true (3 * p.toNat + 1) (3 * p.toNat + 1) (by show 2 * (3 * p.toNat + 1) + 0 = 6 * p.toNat + 2; omega)
    (by show 2 * (3 * p.toNat + 1) + 1 = 6 * p.toNat + (2 + 1); omega) _ _ _ a3 _) $$ [HM HL]
  · iframe HE HM
    iexact HL
  iintro ⟨HM, K4, HL⟩
  iapply (midStep_wp X W κ c Q p 3 (by omega) _ false (3 * p.toNat + 1) (3 * p.toNat + 2) (by show 2 * (3 * p.toNat + 1) + 1 = 6 * p.toNat + 3; omega)
    (by show 2 * (3 * p.toNat + 2) + 0 = 6 * p.toNat + (3 + 1); omega) _ _ _ a4 _) $$ [HM HL]
  · iframe HE HM
    iexact HL
  iintro ⟨HM, K5, HL⟩
  iapply (midStep_wp X W κ c Q p 4 (by omega) _ true (3 * p.toNat + 2) (3 * p.toNat + 2) (by show 2 * (3 * p.toNat + 2) + 0 = 6 * p.toNat + 4; omega)
    (by show 2 * (3 * p.toNat + 2) + 1 = 6 * p.toNat + (4 + 1); omega) _ _ _ a5 _) $$ [HM HL]
  · iframe HE HM
    iexact HL
  iintro ⟨HM, K6, HL⟩
  iapply (lastStep_wp X W κ c Q p (3 * p.toNat + 2) (3 * p.toNat + 2 + 1) (by omega) l l' t hl k) $$ [HM HY HL]
  · iframe HE HY
    isplitl [HM]
    · iexact HM
    · iexact HL
  iintro ⟨HP, HL⟩
  iapply Hk
  iframe HL
  unfold RingPost amKeeps
  iframe HSA
  isplitl [HP]
  · iexact HP
  iframe K1 K2 K3 K4 K5 K6

end Cert.KernelIdeal.Own

end
-- ==== Proof.TailIdeal.lean ====
/-
  The parts around the two phases: the barrier, the running maximum, the exchange of the maxima, the quantiser and the
  copies out.
-/
module

public import proofs.«01_k».proof.Proof.PhasesIdeal

@[expose] public section

set_option maxRecDepth 100000

noncomputable section

namespace Cert.KernelIdeal.Own

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open _root_.Own
open Facts₀ Facts

variable {F : FTy → Type} [FloatOps F] [Facts]

local notation "𝕄" => MT nD τ sig ℕ (Elt F) ℕ UU ℕ

variable (X : Dev nD → FVec F S4096x512 .f32) (W : Dev nD → FVec F S512x8192 .f32) (κ : Dev nD × Kd → ℕ)
variable (c : Dev nD) (Q : PUnit → sProp (MT nD τ sig ℕ (Elt F) ℕ UU ℕ))

/-! ## The barrier -/

/-- The barrier's payments. -/
def barPays : List Pay := [⟨.bar, 0, false, 1, prv false⟩, ⟨.bar, 0, true, 1, prv true⟩]

/-- The barrier with both neighbours. -/
theorem barPart_wp (l l' : List Pay) (hl : Above 1 l) (k : PG F) :
    iprop(Env X W κ ∗ Due c (barPays ++ l) ∗ CredL c (barPays ++ l') ∗ At c .bar 0 ∗ (two fun d => slotAny c d true) ∗ amRows (prv false c) 1)
      ⊢ iprop((Due c l ∗ CredL c l' ∗ At c .bar 1 ∗ (two fun d => slotAny (nxt d c) d true) ∗ amRows c 1 -∗ WP c k Q)
        -∗ WP c (barPart c k) Q) := by
  unfold barPart two
  iintro ⟨#HE, HD, HC, HA, ⟨S0, S1⟩, HR⟩ Hk
  ihave Hr0 := (Env_reached X W κ (prv false c) .bar) $$ HE
  ihave Hr1 := (Env_reached X W κ (prv true c) .bar) $$ HE
  iapply (op_sig X W κ c Q ⟨.bar, 0, false, 1, prv false⟩ (⟨.bar, 0, true, 1, prv true⟩ :: l) barS _ rfl (Finset.mem_univ _) rfl) $$ [HD S0 HR Hr0]
  · iframe HE Hr0
    isplitl [HD]
    · iexact HD
    · iapply (show iprop(slotAny c false true ∗ amRows (prv false c) 1) ⊢ kPay X W (prv false c) .bar 0 false from by
        show _ ⊢ barPay (prv false c) false
        unfold barPay
        rw [nxt_prv, if_neg Bool.false_ne_true])
      iframe S0 HR
  iintro HD
  iapply (op_sig X W κ c Q ⟨.bar, 0, true, 1, prv true⟩ l barS _ rfl (Finset.mem_univ _) rfl) $$ [HD S1 Hr1]
  · iframe HE Hr1 HD
    iapply (show (slotAny c true true : sProp 𝕄) ⊢ kPay X W (prv true c) .bar 0 true from by
        show _ ⊢ barPay (prv true c) true
        unfold barPay
        rw [nxt_prv, if_pos rfl]
        iintro H; iframe H)
    iexact S1
  iintro HD
  unfold Due At
  icases HD with ⟨⟨%V, HO⟩, Htl⟩
  icases HA with ⟨Hat, -⟩
  ihave HC := (show CredL c (barPays ++ l') ⊢ iprop(cred (tallyAt (cell c .bar) 1 1) ∗ cred (tallyAt (cell c .bar) 1 1) ∗ CredL c l') from .rfl) $$ HC
  icases HC with ⟨C0, C1, HC⟩
  ihave Hc := (show iprop(cred (tallyAt (cell c .bar) 1 1) ∗ cred (tallyAt (cell c .bar) 1 1)) ⊢ (cred (tallyAt (cell c .bar) 1 2) : sProp 𝕄) from by
    exact (cred_add _ _).2.trans (Entails.of_eq (congrArg cred (tallyAt_add _ _ _ _)))) $$ [C0 C1]
  · iframe C0 C1
  ihave HI := (Env_inv X W κ c .bar) $$ HE
  ihave HM := (Env_mayWait X W κ c (semOf .bar) 1 l (by decide) hl) $$ HE
  unfold waitN
  iapply (Rounds.wp_wait_rest_token 𝒱₀ ER (Rd X W) (c : Thread nD τ) none (κ := κ (c, .bar)) (sm := semOf .bar) (w := .semWait barS (2#32 : BitVec 32).toInt)
    (fun K => (wpE_semWait_eq (k := 2) 𝒱₀ (c : Thread nD τ) none Set.univ K : _ = waitSpec (c : Thread nD τ) Set.univ _ 2 K)) (Set.mem_univ _) 1 (O := oweOf c l)
    (W := V) (R := 0) (m := 0) (T := ∅) (by rw [Nat.zero_add]; exact (Rd_expect_bar X W c).symm)) $$ [HI Hc HO HM Hat]
  · iframe HI Hc HO HM Hat
  iintro ⟨HO, Hat, Hr, Hp⟩
  ihave Hp := (Entails.of_eq (Rd_rest_bar X W c)) $$ Hp
  ihave Hp := (show iprop(barPay c false ∗ barPay c true) ⊢ iprop((slotAny (nxt false c) false true ∗ amRows c 1) ∗ slotAny (nxt true c) true true ∗ emp) from .rfl) $$ Hp
  icases Hp with ⟨⟨N0, HR⟩, N1, -⟩
  iapply Hk
  iframe HC Hat Hr N0 N1 HR Htl
  iexists _; iexact HO

/-! ## The running maximum -/

/-- The maximum of one result buffer is taken into the running maximum. -/
theorem topStep_wp (p d : Bool) (a : F .f32) (v : Fin 4 → FVec F S512x512 .f32) (k : F .f32 → PG F) :
    (yAt c p d v : sProp 𝕄) ⊢ iprop((yAt c p d v -∗ WP c (k (Scalar.maximumf a (topOf (glue v)))) Q) -∗ WP c (topStep p d a k) Q) := by
  have h : (ownsTc c (yb p d) fullShare (glue v) : sProp 𝕄) ⊢ iprop((ownsTc c (yb p d) fullShare (glue v)
      -∗ WP c (k (Scalar.maximumf a (topOf (glue v)))) Q) -∗ WP c (topStep p d a k) Q) :=
    wp_load_eq (c : Thread nD τ) 𝒱₀ none Set.univ (defs := defs₀ (F := F)) (Q := Q) (m := yb p d)
      (r := Rect.unit (s := S512x2048) ![0, 0] S512x2048.size inb_S512x2048_S512x2048_0_0) (hl := View.loadsAt_vmem h_S512x2048)
      (k := fun v => k (Scalar.maximumf a (topOf v))) fullShare (glue v) (glue v) fun j =>
        congrArg (glue v) (funext fun a => Fin.ext (by
          match a with
          | 0 => show 0 + 1 * (j 0).val = (j 0).val; omega
          | 1 => show 0 + 1 * (j 1).val = (j 1).val; omega))
  iintro H Hk
  ihave H := (y_join c p d v) $$ H
  iapply h $$ H
  iintro H
  iapply Hk
  iapply (y_split c p d v); iexact H

/-! ## The exchange of the maxima -/

/-- Distances 1 to 7. -/
def eachD (Φ : Fin 8 → sProp (MT nD τ sig ℕ (Elt F) ℕ UU ℕ)) : sProp (MT nD τ sig ℕ (Elt F) ℕ UU ℕ) :=
  iprop(Φ 1 ∗ Φ 2 ∗ Φ 3 ∗ Φ 4 ∗ Φ 5 ∗ Φ 6 ∗ Φ 7)
/-- Two families over the other devices, as one family of pairs. -/
theorem eachD_sep (Φ Ψ : Fin 8 → sProp 𝕄) : iprop(eachD Φ ∗ eachD Ψ) ⊢ eachD fun o => iprop(Φ o ∗ Ψ o) := by
  unfold eachD
  iintro ⟨⟨A1, A2, A3, A4, A5, A6, A7⟩, B1, B2, B3, B4, B5, B6, B7⟩
  iframe A1 A2 A3 A4 A5 A6 A7 B1 B2 B3 B4 B5 B6 B7
/-- And apart again. -/
theorem sep_eachD (Φ Ψ : Fin 8 → sProp 𝕄) : (eachD fun o => iprop(Φ o ∗ Ψ o)) ⊢ iprop(eachD Φ ∗ eachD Ψ) := by
  unfold eachD
  iintro ⟨⟨A1, B1⟩, ⟨A2, B2⟩, ⟨A3, B3⟩, ⟨A4, B4⟩, ⟨A5, B5⟩, ⟨A6, B6⟩, A7, B7⟩
  iframe A1 A2 A3 A4 A5 A6 A7 B1 B2 B3 B4 B5 B6 B7
/-- The same step for each other device. -/
theorem eachO_wp (f : Fin 8 → PG F → PG F) (A B : Fin 8 → sProp (MT nD τ sig ℕ (Elt F) ℕ UU ℕ))
    (T : Nat → sProp (MT nD τ sig ℕ (Elt F) ℕ UU ℕ)) (k : PG F)
    (h : ∀ o k, o ≠ 0 → iprop(A o ∗ T o.val) ⊢ iprop((B o ∗ T (o.val + 1) -∗ WP c k Q) -∗ WP c (f o k) Q)) :
    iprop(eachD A ∗ T 1) ⊢ iprop((eachD B ∗ T 8 -∗ WP c k Q) -∗ WP c (eachO f k) Q) := by
  unfold eachD eachO
  iintro ⟨⟨A1, A2, A3, A4, A5, A6, A7⟩, HT⟩ Hk
  iapply (h 1 _ (by decide)) $$ [A1 HT]
  · iframe A1 HT
  iintro ⟨B1, HT⟩
  iapply (h 2 _ (by decide)) $$ [A2 HT]
  · iframe A2 HT
  iintro ⟨B2, HT⟩
  iapply (h 3 _ (by decide)) $$ [A3 HT]
  · iframe A3 HT
  iintro ⟨B3, HT⟩
  iapply (h 4 _ (by decide)) $$ [A4 HT]
  · iframe A4 HT
  iintro ⟨B4, HT⟩
  iapply (h 5 _ (by decide)) $$ [A5 HT]
  · iframe A5 HT
  iintro ⟨B5, HT⟩
  iapply (h 6 _ (by decide)) $$ [A6 HT]
  · iframe A6 HT
  iintro ⟨B6, HT⟩
  iapply (h 7 _ (by decide)) $$ [A7 HT]
  · iframe A7 HT
  iintro ⟨B7, HT⟩
  iapply Hk
  iframe B1 B2 B3 B4 B5 B6 B7 HT

/-- A maximum's payment. -/
def amPay1 (o : Fin 8) : Pay := ⟨.amR o, 0, false, 200, amDev o⟩
/-- The maxima's payments. -/
def amPays : List Pay := [amPay1 1, amPay1 2, amPay1 3, amPay1 4, amPay1 5, amPay1 6, amPay1 7]
/-- The sender's tokens of them. -/
def amOwn : List (Kd × ℕ) := [(.amS 1, 0), (.amS 2, 0), (.amS 3, 0), (.amS 4, 0), (.amS 5, 0), (.amS 6, 0), (.amS 7, 0)]
/-- The payments of the exchange, one apart. -/
theorem amPays_drop (o : Fin 8) (ho : o ≠ 0) (l : List Pay) :
    (amPays ++ l).drop (o.val - 1) = amPay1 o :: (amPays ++ l).drop (o.val + 1 - 1) := by
  fin_cases o <;> first | exact absurd rfl ho | rfl
/-- A device's own payments in the exchange, one apart. -/
theorem amOwn_drop (o : Fin 8) (ho : o ≠ 0) (l : List (Kd × ℕ)) :
    (amOwn ++ l).drop (o.val - 1) = (.amS o, 0) :: (amOwn ++ l).drop (o.val + 1 - 1) := by
  fin_cases o <;> first | exact absurd rfl ho | rfl
/-- The levels of the payments of the exchange. -/
theorem Above_amPays {ι : ℕ} (h : ι < 200) : Above ι amPays :=
  have hq : ∀ o, ι < (amPay1 o).ι ∧ (amPay1 o).ι < 256 := fun o => ⟨h, by show 200 < 256; omega⟩
  .cons (hq _) (.cons (hq _) (.cons (hq _) (.cons (hq _) (.cons (hq _) (.cons (hq _) (.cons (hq _) .nil))))))

/-- Row 0 at a share is its elements at that share. -/
theorem am_row (q : PosShare TreeShare) (x : FVec F S1x128 .f32) :
    (ownsTc c (amRow 0) q x : sProp 𝕄)
      = ((amM.view.loc (c : Thread nD τ)) ↦[(amM.view.slice (aRect 0)).set]{q} (fun (i : S8x128.Idx) => x (mk2 0 (i 1)))) := by
  have h := owns_slice_read (Val := Elt F) (Ix := ℕ) (Name := ℕ) (U := UU) (Lvl := ℕ) (c : Thread nD τ) amM q (aRect 0) (fun _ => rfl)
    (fun (i : S8x128.Idx) => x (mk2 0 (i 1)))
  refine Eq.trans (congrArg (fun y => (ownsTc c (amRow 0) q y : sProp 𝕄)) (funext fun j => ?_)) h
  refine congrArg x (funext fun a => ?_)
  have h0 : (j 0).val < 1 := (j 0).isLt
  match a with
  | 0 => exact Fin.ext (by show (j 0).val = 0; omega)
  | 1 => exact Fin.ext (by show (j 1).val = 0 + 1 * (j 1).val; omega)
/-- The row with a device's maximum, in shares. -/
theorem am_share (x : FVec F S1x128 .f32) :
    (ownsTc c (amRow 0) fullShare x : sProp 𝕄) ⊢ iprop((ownsTc c (amRow 0) (shareDrop fullShare 8) x ∗ ownsTc c (amRow 0) (shareTokN fullShare 0) x)
      ∗ eachD fun o => ownsTc c (amRow 0) (shareTokN fullShare o.val) x) := by
  unfold eachD
  simp only [am_row]
  refine (pointsTo_toks_range _ 8).1.trans ?_
  rw [show Finset.range 8 = {0, 1, 2, 3, 4, 5, 6, 7} by decide]
  repeat rw [bigSep_insert (by decide)]
  rw [bigSep_singleton]
  exact BI.sep_assoc'
/-- And whole again. -/
theorem am_unshare (x : FVec F S1x128 .f32) :
    (iprop((ownsTc c (amRow 0) (shareDrop fullShare 8) x ∗ ownsTc c (amRow 0) (shareTokN fullShare 0) x)
      ∗ eachD fun o => ownsTc c (amRow 0) (shareTokN fullShare o.val) x) : sProp 𝕄) ⊢ ownsTc c (amRow 0) fullShare x := by
  unfold eachD
  simp only [am_row]
  refine .trans ?_ (pointsTo_toks_range _ 8).2
  rw [show Finset.range 8 = {0, 1, 2, 3, 4, 5, 6, 7} by decide]
  repeat rw [bigSep_insert (by decide)]
  rw [bigSep_singleton]
  exact BI.sep_assoc

/-- A maximum is sent. -/
theorem amSend_wp (o : Fin 8) (ho : o ≠ 0) (l : List Pay) (k : PG F) :
    iprop(Env X W κ ∗ Due c (amPay1 o :: l) ∗ dutyTok ER (cell c (.amS o)) 0 false
        ∗ ownsTc c (amRow 0) (shareTokN fullShare o.val) (rowOf (AM X W c)) ∗ amAny (dv o c) o)
      ⊢ iprop((Due c l ∗ cred (tallyAt (cell c (.amS o)) 200 (kAmt (.amS o))) -∗ WP c k Q) -∗ WP c (amSend c o k) Q) := by
  unfold amSend amAny
  iintro ⟨#HE, HD, Ht, Hx, %y, Hy⟩ Hk
  ihave Hr0 := (Env_reached X W κ c (.amS o)) $$ HE
  ihave Hr1 := (Env_reached X W κ (amDev o c) (.amR o)) $$ HE
  have hd₁ : false ∈ kDuties (.amS o) 0 := by
    show false ∈ (if 0 = 0 ∧ o ≠ 0 then {false} else ∅ : Finset Bool); rw [if_pos ⟨rfl, ho⟩]; exact Finset.mem_singleton_self _
  have hd₂ : false ∈ kDuties (.amR o) 0 := hd₁
  rw [← amDev_eq]
  iapply (op_send X W κ c Q (amPay1 o) l (.amS o) 0 200 (amRow 0) (amRow o) (amS o) (amR o)
    rfl (View.wordExact_bits rfl) (View.wordExact_bits rfl) ⟨⟨rfl, Or.inl rfl⟩, trivial⟩ _ (shareTokN fullShare o.val) (rowOf (AM X W c)) y
    iprop(emp) rfl rfl hd₁ hd₂ rfl rfl .rfl
    (by
      show iprop(ownsTc (amDev o c) (amRow o) fullShare (rowOf (AM X W c)) ∗ emp) ⊢ (ownsTc (amDev o c) (amRow o) fullShare (rowOf (AM X W (bk o (amDev o c)))) : sProp 𝕄)
      rw [amDev_eq, bk_dv]
      iintro ⟨H, -⟩; iexact H)) $$ [HD Hx Hy Ht Hr0 Hr1]
  · iframe HE HD Hx Ht Hr0
    isplitl [Hy]
    · iexact Hy
    · iexact Hr1
  iintro ⟨HD, Hc⟩
  iapply Hk
  iframe HD Hc

/-- A maximum's transfer is awaited at both ends. -/
theorem amWait_wp (o : Fin 8) (ho : o ≠ 0) (k : PG F) :
    iprop(Env X W κ ∗ Due c [] ∗ cred (tallyAt (cell c (.amS o)) 200 (kAmt (.amS o))) ∗ cred (tallyAt (cell c (.amR o)) 200 (kAmt (.amR o)))
        ∗ At c (.amS o) 0 ∗ At c (.amR o) 0)
      ⊢ iprop((Due c [] ∗ (At c (.amS o) 1 ∗ At c (.amR o) 1) ∗ ownsTc c (amRow 0) (shareTokN fullShare o.val) (rowOf (AM X W c))
          ∗ ownsTc c (amRow o) fullShare (rowOf (AM X W (bk o c))) -∗ WP c k Q) -∗ WP c (amWait o k) Q) := by
  unfold amWait
  iintro ⟨#HE, HD, C0, C1, A0, A1⟩ Hk
  have hd₁ : kDuties (.amS o) 0 = {false} := if_pos ⟨rfl, ho⟩
  have hd₂ : kDuties (.amR o) 0 = {false} := if_pos ⟨rfl, ho⟩
  iapply (op_wait X W κ c Q (.amS o) 0 200 []
    (.waitDma2 (amS o) (amRow o) (amRow 0) (View.wordExact_bits rfl) (View.wordExact_bits rfl)) _
    (fun K => wpE_waitDma2_eq 𝒱₀ (c : Thread nD τ) none Set.univ K) hd₁ (by omega) .nil) $$ [HD C0 A0]
  · iframe HE HD C0 A0
  iintro ⟨HD, A0, P0⟩
  iapply (op_wait X W κ c Q (.amR o) 0 200 []
    (.waitDma2 (amR o) (amRow 0) (amRow o) (View.wordExact_bits rfl) (View.wordExact_bits rfl)) _
    (fun K => wpE_waitDma2_eq 𝒱₀ (c : Thread nD τ) none Set.univ K) hd₂ (by omega) .nil) $$ [HD C1 A1]
  · iframe HE HD C1 A1
  iintro ⟨HD, A1, P1⟩
  iapply Hk
  iframe HD A0 A1
  isplitl [P0]
  · iapply (show kPay X W c (.amS o) 0 false ⊢ ownsTc c (amRow 0) (shareTokN fullShare o.val) (rowOf (AM X W c)) from .rfl); iexact P0
  · iapply (show kPay X W c (.amR o) 0 false ⊢ ownsTc c (amRow o) fullShare (rowOf (AM X W (bk o c))) from .rfl); iexact P1

/-- The whole exchange, and the scale. -/
theorem amStep_wp (l' : List Pay) (t : List (Kd × ℕ)) (k : F .f32 → PG F) :
    iprop(Env X W κ ∗ Lst c amPays (amPays ++ l') (amOwn ++ t) ∗ amAny c 0 ∗ (eachD fun o => amAny (dv o c) o)
        ∗ (eachD fun o => iprop(At c (.amS o) 0 ∗ At c (.amR o) 0)))
      ⊢ iprop((Lst c [] l' t ∗ ownsTc c amM fullShare (GM X W c) ∗ (eachD fun o => iprop(At c (.amS o) 1 ∗ At c (.amR o) 1)) -∗ WP c (k (SC X W c)) Q)
        -∗ WP c (amStep c (AM X W c) k) Q) := by
  unfold amStep Lst
  iintro ⟨#HE, ⟨HD, HC, HT⟩, H0, Hn, HA⟩ Hk
  unfold amAny
  icases H0 with ⟨%x, H0⟩
  iapply (wp_load_part (c : Thread nD τ) 𝒱₀ none Set.univ (defs := defs₀ (F := F)) (Q := Q) (m := amM)
    (r := aRect 0) (hl := View.loadsAt_vmem h_S1x128) (fun _ => rfl) fullShare x) $$ H0
  iintro H0
  iapply (wp_store_part (c : Thread nD τ) 𝒱₀ none Set.univ (defs := defs₀ (F := F)) (Q := Q) (m := amM)
    (r := aRect 0) (w := rowOf (AM X W c)) (fun _ => rfl) x) $$ H0
  iintro H0
  ihave H0 := (am_share c (rowOf (AM X W c))) $$ H0
  icases H0 with ⟨H0, Hs⟩
  ihave H := (eachD_sep _ _) $$ [Hs Hn]
  · iframe Hs Hn
  iapply (eachO_wp c Q (amSend c) (fun o => iprop(ownsTc c (amRow 0) (shareTokN fullShare o.val) (rowOf (AM X W c)) ∗ ∃ x, ownsTc (dv o c) (amRow o) fullShare x))
    (fun o => cred (tallyAt (cell c (.amS o)) 200 (kAmt (.amS o))))
    (fun n => iprop(Env X W κ ∗ Due c ((amPays ++ []).drop (n - 1)) ∗ TokO c ((amOwn ++ t).drop (n - 1)))) _
    (fun o k ho => by
      rw [amPays_drop o ho, amOwn_drop o ho]
      iintro ⟨⟨Hs, Hn⟩, #HE, HD, HT⟩ Hk
      ihave HT := (show TokO c ((.amS o, 0) :: (amOwn ++ t).drop (o.val + 1 - 1))
        ⊢ iprop(dutyTok ER (cell c (.amS o)) 0 false ∗ TokO c ((amOwn ++ t).drop (o.val + 1 - 1))) from .rfl) $$ HT
      icases HT with ⟨Ht, HT⟩
      iapply (amSend_wp X W κ c Q o ho _ k) $$ [HD Ht Hs Hn]
      · unfold amAny; iframe HE HD Ht Hs Hn
      iintro ⟨HD, Hc⟩
      iapply Hk
      iframe Hc HE HD HT)) $$ [H HD HT]
  · iframe H HE
    isplitl [HD]
    · iexact HD
    · iexact HT
  iintro ⟨Hc, -, HD, HT⟩
  ihave H := (eachD_sep _ _) $$ [Hc HA]
  · iframe Hc HA
  iapply (eachO_wp c Q amWait (fun o => iprop(cred (tallyAt (cell c (.amS o)) 200 (kAmt (.amS o))) ∗ At c (.amS o) 0 ∗ At c (.amR o) 0))
    (fun o => iprop((At c (.amS o) 1 ∗ At c (.amR o) 1) ∗ ownsTc c (amRow 0) (shareTokN fullShare o.val) (rowOf (AM X W c))
          ∗ ownsTc c (amRow o) fullShare (rowOf (AM X W (bk o c)))))
    (fun n => iprop(Env X W κ ∗ Due c [] ∗ CredL c ((amPays ++ l').drop (n - 1)))) _
    (fun o k ho => by
      rw [amPays_drop o ho]
      iintro ⟨⟨Hc, A0, A1⟩, #HE, HD, HC⟩ Hk
      ihave HC := (show CredL c (amPay1 o :: (amPays ++ l').drop (o.val + 1 - 1))
        ⊢ iprop(cred (tallyAt (cell c (.amR o)) 200 (kAmt (.amR o))) ∗ CredL c ((amPays ++ l').drop (o.val + 1 - 1))) from .rfl) $$ HC
      icases HC with ⟨Hr, HC⟩
      iapply (amWait_wp X W κ c Q o ho k) $$ [HD Hc Hr A0 A1]
      · iframe HE HD Hc Hr A0 A1
      iintro ⟨HD, HA, H1, H2⟩
      iapply Hk
      iframe HA H1 H2 HE HD HC)) $$ [H HD HC]
  · iframe H HE
    isplitl [HD]
    · iexact HD
    · iexact HC
  iintro ⟨H, -, HD, HC⟩
  ihave H := (sep_eachD _ _) $$ H
  icases H with ⟨HA, H⟩
  ihave H := (sep_eachD _ _) $$ H
  icases H with ⟨Hs, Hr⟩
  ihave H0 := (am_unshare c (rowOf (AM X W c))) $$ [H0 Hs]
  · iframe H0 Hs
  ihave HG := (show iprop(ownsTc c (amRow 0) fullShare (rowOf (AM X W c)) ∗ eachD fun o => ownsTc c (amRow o) fullShare (rowOf (AM X W (bk o c)))) ⊢ _ from by
    refine .trans ?_ (am_join X W c)
    rw [bigSep_univ_eq_bigSepL [0, 1, 2, 3, 4, 5, 6, 7] (by decide) (by decide)]
    show _ ⊢ iprop(ownsTc c (amRow 0) fullShare (rowOf (AM X W (bk 0 c))) ∗ eachD fun o => ownsTc c (amRow o) fullShare (rowOf (AM X W (bk o c))))
    rw [show bk 0 c = c from by revert c; decide]) $$ [H0 Hr]
  · iframe H0 Hr
  iapply (wp_load_eq (c : Thread nD τ) 𝒱₀ none Set.univ (defs := defs₀ (F := F)) (Q := Q) (m := amM)
    (r := Rect.unit (s := S8x128) ![0, 0] S8x128.size inb_S8x128_S8x128_0_0) (hl := View.loadsAt_vmem h_S8x128) fullShare (GM X W c) (GM X W c) fun j =>
        congrArg (GM X W c) (funext fun a => Fin.ext (by
          match a with
          | 0 => show 0 + 1 * (j 0).val = (j 0).val; omega
          | 1 => show 0 + 1 * (j 1).val = (j 1).val; omega))) $$ HG
  iintro HG
  iapply Hk
  iframe HG HA HD HC HT

/-! ## The quantiser and the copies out -/

/-- A quarter is quantised. -/
theorem quantOne_wp (p d : Bool) (j : Fin 4) (k : PG F) :
    (yq c p d j (FA X W p d c j) : sProp 𝕄) ⊢ iprop((yq c p d j (QA X W p d c j) -∗ WP c k Q) -∗ WP c (quantOne (SC X W c) p d j k) Q) := by
  unfold quantOne
  iintro H Hk
  iapply (ldY_wp c Q p d j _ _) $$ H
  iintro H
  iapply (ldY_wp c Q p d j _ _) $$ H
  iintro H
  iapply (stY_wp c Q p d j _ _ _) $$ H
  iintro H
  iapply Hk
  iexact H

/-- A result buffer is quantised. -/
theorem quantBuf_wp (p d : Bool) (k : PG F) :
    iprop(Env X W κ ∗ yAt c p d (FA X W p d c) ∗ (∃ x, ownsTc c (outSlab (slab p d)) fullShare x) ∗ dutyTok ER (cell c (.loc p d)) 0 false)
      ⊢ iprop((cred (tallyAt (cell c (.loc p d)) 201 (kAmt (.loc p d))) -∗ WP c k Q) -∗ WP c (quantBuf (SC X W c) p d k) Q) := by
  unfold quantBuf
  iintro ⟨#HE, Hy, ⟨%x, Hx⟩, Ht⟩ Hk
  ihave Hy := (show yAt c p d (FA X W p d c) ⊢ iprop(yq c p d 0 (FA X W p d c 0) ∗ yq c p d 1 (FA X W p d c 1) ∗ yq c p d 2 (FA X W p d c 2) ∗ yq c p d 3 (FA X W p d c 3)) from by
    unfold yAt; rw [four]) $$ Hy
  icases Hy with ⟨Y0, Y1, Y2, Y3⟩
  iapply (quantOne_wp X W c Q p d 0 _) $$ Y0
  iintro Y0
  iapply (quantOne_wp X W c Q p d 1 _) $$ Y1
  iintro Y1
  iapply (quantOne_wp X W c Q p d 2 _) $$ Y2
  iintro Y2
  iapply (quantOne_wp X W c Q p d 3 _) $$ Y3
  iintro Y3
  ihave Hr := (Env_reached X W κ c (.loc p d)) $$ HE
  ihave Hy := (show iprop(yq c p d 0 (QA X W p d c 0) ∗ yq c p d 1 (QA X W p d c 1) ∗ yq c p d 2 (QA X W p d c 2) ∗ yq c p d 3 (QA X W p d c 3))
    ⊢ ownsTc c (yb p d) fullShare (ZA X W p d c) from by
      refine .trans ?_ (y_join c p d (QA X W p d c))
      unfold yAt
      rw [four]) $$ [Y0 Y1 Y2 Y3]
  · iframe Y0 Y1 Y2 Y3
  iapply (op_copy X W κ c Q (.loc p d) 0 201 (yb p d) (outSlab (slab p d)) (locS (slab p d)) (yb_whole p d).wordExact (View.wordExact_bits rfl)
    ⟨Or.inl rfl, trivial⟩ _ (ZA X W p d c) x rfl (Finset.mem_singleton_self _) rfl (by
      show _ ⊢ locPay X W c p d
      unfold locPay
      iintro ⟨A, B⟩; iframe A B)) $$ [Hy Hx Ht Hr]
  · iframe HE Hy Hx Ht Hr
  iexact Hk

/-- A copy out is awaited. -/
theorem locWait_wp (p d : Bool) (k : PG F) :
    iprop(Env X W κ ∗ Due c [] ∗ cred (tallyAt (cell c (.loc p d)) 201 (kAmt (.loc p d))) ∗ At c (.loc p d) 0)
      ⊢ iprop((Due c [] ∗ At c (.loc p d) 1 ∗ locPay X W c p d -∗ WP c k Q) -∗ WP c (locWait p d k) Q) := by
  unfold locWait
  iintro ⟨#HE, HD, C0, A0⟩ Hk
  iapply (op_wait X W κ c Q (.loc p d) 0 201 []
    (.waitDma2 (locS (slab p d)) (yb p d) (outSlab (slab p d)) (yb_whole p d).wordExact (View.wordExact_bits rfl)) _
    (fun K => wpE_waitDma2_eq 𝒱₀ (c : Thread nD τ) none Set.univ K) rfl (by omega) .nil) $$ [HD C0 A0]
  · iframe HE HD C0 A0
  iintro ⟨HD, A0, P0⟩
  iapply Hk
  iframe HD A0
  iapply (show kPay X W c (.loc p d) 0 false ⊢ locPay X W c p d from .rfl); iexact P0

/-- The tokens of the copies out. -/
def locOwn : List (Kd × ℕ) := [(.loc false false, 0), (.loc false true, 0), (.loc true false, 0), (.loc true true, 0)]
/-- All four result buffers in order. -/
def quad (Φ : Bool → Bool → sProp (MT nD τ sig ℕ (Elt F) ℕ UU ℕ)) : sProp (MT nD τ sig ℕ (Elt F) ℕ UU ℕ) :=
  iprop(Φ false false ∗ Φ false true ∗ Φ true false ∗ Φ true true)

/-- The quantiser and the copies out. -/
theorem outPart_wp (k : PG F) :
    iprop(Env X W κ ∗ Due c [] ∗ TokO c locOwn ∗ (quad fun p d => yAt c p d (FA X W p d c))
        ∗ (quad fun p d => iprop(∃ x, ownsTc c (outSlab (slab p d)) fullShare x)) ∗ (quad fun p d => At c (.loc p d) 0))
      ⊢ iprop((Due c [] ∗ (quad fun p d => At c (.loc p d) 1) ∗ (quad fun p d => ownsTc c (yb p d) fullShare (ZA X W p d c))
          ∗ ownsTc c outM fullShare (OUT X W c) -∗ WP c k Q) -∗ WP c (outPart (SC X W c) k) Q) := by
  unfold outPart quad
  iintro ⟨#HE, HD, HT, ⟨Y0, Y1, Y2, Y3⟩, ⟨O0, O1, O2, O3⟩, A0, A1, A2, A3⟩ Hk
  ihave HT := (show TokO c locOwn ⊢ iprop(dutyTok ER (cell c (.loc false false)) 0 false ∗ dutyTok ER (cell c (.loc false true)) 0 false
    ∗ dutyTok ER (cell c (.loc true false)) 0 false ∗ dutyTok ER (cell c (.loc true true)) 0 false ∗ emp) from .rfl) $$ HT
  icases HT with ⟨T0, T1, T2, T3, -⟩
  iapply (quantBuf_wp X W κ c Q false false _) $$ [Y0 O0 T0]
  · iframe HE Y0 O0 T0
  iintro C0
  iapply (quantBuf_wp X W κ c Q false true _) $$ [Y1 O1 T1]
  · iframe HE Y1 O1 T1
  iintro C1
  iapply (quantBuf_wp X W κ c Q true false _) $$ [Y2 O2 T2]
  · iframe HE Y2 O2 T2
  iintro C2
  iapply (quantBuf_wp X W κ c Q true true _) $$ [Y3 O3 T3]
  · iframe HE Y3 O3 T3
  iintro C3
  iapply (locWait_wp X W κ c Q false false _) $$ [HD C0 A0]
  · iframe HE HD C0 A0
  iintro ⟨HD, A0, P0⟩
  iapply (locWait_wp X W κ c Q false true _) $$ [HD C1 A1]
  · iframe HE HD C1 A1
  iintro ⟨HD, A1, P1⟩
  iapply (locWait_wp X W κ c Q true false _) $$ [HD C2 A2]
  · iframe HE HD C2 A2
  iintro ⟨HD, A2, P2⟩
  iapply (locWait_wp X W κ c Q true true _) $$ [HD C3 A3]
  · iframe HE HD C3 A3
  iintro ⟨HD, A3, P3⟩
  unfold locPay
  icases P0 with ⟨Y0, O0⟩
  icases P1 with ⟨Y1, O1⟩
  icases P2 with ⟨Y2, O2⟩
  icases P3 with ⟨Y3, O3⟩
  iapply Hk
  iframe HD A0 A1 A2 A3 Y0 Y1 Y2 Y3
  iapply (out_join X W c)
  iframe O0 O1 O2 O3

end Cert.KernelIdeal.Own

end
-- ==== Proof.BodyIdeal.lean ====
/-
  The body of the kernel: its parts in order, and the semaphores back at zero.
-/
module

public import proofs.«01_k».proof.Proof.TailIdeal

@[expose] public section

set_option maxRecDepth 100000

noncomputable section

namespace Cert.KernelIdeal.Own

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open _root_.Own
open Facts₀ Facts

variable {F : FTy → Type} [FloatOps F] [Facts]

local notation "𝕄" => MT nD τ sig ℕ (Elt F) ℕ UU ℕ

variable (X : Dev nD → FVec F S4096x512 .f32) (W : Dev nD → FVec F S512x8192 .f32) (κ : Dev nD × Kd → ℕ)
variable (c : Dev nD) (Q : PUnit → sProp (MT nD τ sig ℕ (Elt F) ℕ UU ℕ))

/-! ## All kinds of semaphore in program order -/

/-- Something for every kind of semaphore, grouped. -/
def byKind (Φ : Kd → sProp (MT nD τ sig ℕ (Elt F) ℕ UU ℕ)) : sProp (MT nD τ sig ℕ (Elt F) ℕ UU ℕ) :=
  iprop(Φ .bar ∗ (two fun d => Φ (.cred d)) ∗ (eachP fun d j => iprop(Φ (.subS d j) ∗ Φ (.subR d j)))
    ∗ (two fun d => iprop(Φ (.bigS d true) ∗ Φ (.bigR d false))) ∗ (two fun d => iprop(Φ (.bigS d false) ∗ Φ (.bigR d true)))
    ∗ (Φ (.amS 0) ∗ Φ (.amR 0)) ∗ (eachD fun o => iprop(Φ (.amS o) ∗ Φ (.amR o))) ∗ quad fun p d => Φ (.loc p d))
/-- The kinds in a row. -/
def kinds : List Kd :=
  [.bar, .cred false, .cred true,
    .subS false 0, .subR false 0, .subS true 0, .subR true 0, .subS false 1, .subR false 1, .subS true 1, .subR true 1,
    .subS false 2, .subR false 2, .subS true 2, .subR true 2, .subS false 3, .subR false 3, .subS true 3, .subR true 3,
    .bigS false true, .bigR false false, .bigS true true, .bigR true false,
    .bigS false false, .bigR false true, .bigS true false, .bigR true true,
    .amS 0, .amR 0, .amS 1, .amR 1, .amS 2, .amR 2, .amS 3, .amR 3, .amS 4, .amR 4, .amS 5, .amR 5, .amS 6, .amR 6, .amS 7, .amR 7,
    .loc false false, .loc false true, .loc true false, .loc true true]
/-- The list of kinds of semaphore is complete. -/
theorem mem_kinds : (Finset.univ : Finset Kd) = kinds.toFinset := by decide
/-- It names none twice. -/
theorem kinds_nodup : kinds.Nodup := by decide

/-- Something for every kind, one after the other. -/
def inRow (Φ : Kd → sProp (MT nD τ sig ℕ (Elt F) ℕ UU ℕ)) : sProp (MT nD τ sig ℕ (Elt F) ℕ UU ℕ) :=
  iprop(Φ .bar ∗ Φ (.cred false) ∗ Φ (.cred true) ∗ Φ (.subS false 0) ∗ Φ (.subR false 0) ∗ Φ (.subS true 0) ∗ Φ (.subR true 0) ∗ Φ (.subS false 1)
    ∗ Φ (.subR false 1) ∗ Φ (.subS true 1) ∗ Φ (.subR true 1) ∗ Φ (.subS false 2) ∗ Φ (.subR false 2) ∗ Φ (.subS true 2) ∗ Φ (.subR true 2) ∗ Φ (.subS false 3)
    ∗ Φ (.subR false 3) ∗ Φ (.subS true 3) ∗ Φ (.subR true 3) ∗ Φ (.bigS false true) ∗ Φ (.bigR false false) ∗ Φ (.bigS true true) ∗ Φ (.bigR true false) ∗ Φ (.bigS false false)
    ∗ Φ (.bigR false true) ∗ Φ (.bigS true false) ∗ Φ (.bigR true true) ∗ Φ (.amS 0) ∗ Φ (.amR 0) ∗ Φ (.amS 1) ∗ Φ (.amR 1) ∗ Φ (.amS 2)
    ∗ Φ (.amR 2) ∗ Φ (.amS 3) ∗ Φ (.amR 3) ∗ Φ (.amS 4) ∗ Φ (.amR 4) ∗ Φ (.amS 5) ∗ Φ (.amR 5) ∗ Φ (.amS 6)
    ∗ Φ (.amR 6) ∗ Φ (.amS 7) ∗ Φ (.amR 7) ∗ Φ (.loc false false) ∗ Φ (.loc false true) ∗ Φ (.loc true false) ∗ Φ (.loc true true))
/-- A product over all kinds, written out along the list. -/
theorem inRow_eq (Φ : Kd → sProp 𝕄) : bigSep Finset.univ Φ = inRow Φ := by
  rw [bigSep_univ_eq_bigSepL kinds mem_kinds kinds_nodup]; rfl

/-- A product over all kinds, gathered by kind. -/
theorem byKind_of (Φ : Kd → sProp 𝕄) : bigSep Finset.univ Φ ⊢ byKind Φ := by
  rw [inRow_eq]
  unfold inRow byKind two eachP eachD quad
  iintro ⟨B, C0, C1, s1, s2, s3, s4, s5, s6, s7, s8, s9, s10, s11, s12, s13, s14, s15, s16, b1, b2, b3, b4, b5, b6, b7, b8,
    a0, a00, a1, a2, a3, a4, a5, a6, a7, a8, a9, a10, a11, a12, a13, a14, l1, l2, l3, l4⟩
  iframe B C0 C1 s1 s2 s3 s4 s5 s6 s7 s8 s9 s10 s11 s12 s13 s14 s15 s16 b1 b2 b3 b4 b5 b6 b7 b8 a0 a00 a1 a2 a3 a4 a5 a6 a7 a8 a9 a10 a11 a12 a13 a14 l1 l2 l3 l4
/-- And back. -/
theorem of_byKind (Φ : Kd → sProp 𝕄) : byKind Φ ⊢ bigSep Finset.univ Φ := by
  rw [inRow_eq]
  unfold inRow byKind two eachP eachD quad
  iintro ⟨B, ⟨C0, C1⟩, ⟨⟨s1, s2⟩, ⟨s3, s4⟩, ⟨s5, s6⟩, ⟨s7, s8⟩, ⟨s9, s10⟩, ⟨s11, s12⟩, ⟨s13, s14⟩, s15, s16⟩, ⟨⟨b1, b2⟩, b3, b4⟩, ⟨⟨b5, b6⟩, b7, b8⟩,
    ⟨a0, a00⟩, ⟨⟨a1, a2⟩, ⟨a3, a4⟩, ⟨a5, a6⟩, ⟨a7, a8⟩, ⟨a9, a10⟩, ⟨a11, a12⟩, a13, a14⟩, l1, l2, l3, l4⟩
  iframe B C0 C1 s1 s2 s3 s4 s5 s6 s7 s8 s9 s10 s11 s12 s13 s14 s15 s16 b1 b2 b3 b4 b5 b6 b7 b8 a0 a00 a1 a2 a3 a4 a5 a6 a7 a8 a9 a10 a11 a12 a13 a14 l1 l2 l3 l4

/-- The round a kind ends at. -/
def kEnd : Kd → ℕ
  | .bar => 1
  | .cred _ => 13
  | .bigS _ _ | .bigR _ _ => 6
  | .subS _ _ | .subR _ _ => 2
  | .amS o | .amR o => if o = 0 then 0 else 1
  | .loc _ _ => 1
/-- A kind is owed nothing from its last round on. -/
theorem kDuties_end (k : Kd) (r : ℕ) (h : kEnd k ≤ r) : kDuties k r = ∅ := by
  cases k with
  | bar => exact if_neg (by have : 1 ≤ r := h; omega)
  | cred d => exact if_neg (by have : 13 ≤ r := h; omega)
  | bigS d s => exact if_neg (by have : 6 ≤ r := h; omega)
  | bigR d s => exact if_neg (by have : 6 ≤ r := h; omega)
  | subS d j => exact if_neg (by have : 2 ≤ r := h; omega)
  | subR d j => exact if_neg (by have : 2 ≤ r := h; omega)
  | amS o =>
    refine if_neg fun hh => ?_
    have h' : (if o = 0 then 0 else 1) ≤ r := h
    rw [if_neg hh.2] at h'; omega
  | amR o =>
    refine if_neg fun hh => ?_
    have h' : (if o = 0 then 0 else 1) ≤ r := h
    rw [if_neg hh.2] at h'; omega
  | loc p d => exact if_neg (by have : 1 ≤ r := h; omega)

/-- A semaphore whose payments are all made and got is back at zero. -/
theorem close_one (k : Kd) : iprop(Env X W κ ∗ At c k (kEnd k)) ⊢ (|={Set.univ}=> semVal (cell c k) 0 : sProp 𝕄) := by
  unfold At
  iintro ⟨#HE, H, -⟩
  ihave HI := (Env_inv X W κ c k) $$ HE
  imod (Rounds.cell_close ER (Rd X W) (Set.mem_univ (κ (c, k))) (fun h => h) (R := kEnd k) (g := cell c k)
    (fun r hr => by rw [Rd_duties]; exact kDuties_end k r hr)) $$ [H] with Hz
  · iframe HI H
  imodintro
  iexact Hz
/-- Once every semaphore has been through its last round, all of them can be taken back at zero. -/
theorem close_all : iprop(Env X W κ ∗ bigSep Finset.univ fun k => At c k (kEnd k)) ⊢ (|={Set.univ}=> bigSep Finset.univ fun k => semVal (cell c k) 0 : sProp 𝕄) :=
  (sep_mono_left (BI.bigSep_of_persistent Finset.univ (Env X W κ))).trans (by
    rw [← bigSep_sep']
    exact (bigSep_mono fun k _ => close_one X W κ c k).trans (bigSep_fupd _ _))

/-! ## The lists of the whole body -/

/-- All the payments of a device. -/
def allPays : List Pay := barPays ++ ringD false (credPays 6 ++ ringD true amPays)
/-- What it is paid is the same list. -/
theorem allPays_eq : allPays = barPays ++ ringC false (credPays 6 ++ ringC true (amPays ++ [])) := rfl
/-- All the tokens on its own semaphores. -/
def allOwn : List (Kd × ℕ) := ringO false (ringO true (amOwn ++ locOwn))

/-- What the body starts from. -/
def BodyPre : sProp (MT nD τ sig ℕ (Elt F) ℕ UU ℕ) :=
  iprop(XW X W c ∗ Lst c allPays allPays allOwn ∗ (bigSep Finset.univ fun k => At c k 0)
    ∗ (two fun d => slotAny c d false) ∗ (two fun d => slotAny c d true)
    ∗ (two fun d => yAny c false d) ∗ (two fun d => yAny c true d) ∗ amRows c 0
    ∗ quad fun p d => iprop(∃ x, ownsTc c (outSlab (slab p d)) fullShare x))
/-- What it leaves. -/
def BodyPost : sProp (MT nD τ sig ℕ (Elt F) ℕ UU ℕ) :=
  iprop(XW X W c ∗ Due c [] ∗ (bigSep Finset.univ fun k => semVal (cell c k) 0)
    ∗ (two fun d => slotAny c d false) ∗ (two fun d => slotAny c d true)
    ∗ (quad fun p d => ownsTc c (yb p d) fullShare (ZA X W p d c)) ∗ ownsTc c amM fullShare (GM X W c) ∗ ownsTc c outM fullShare (OUT X W c))

/-- At the neighbours, every receive semaphore of a quarter has reached round zero. -/
theorem sub_reached_zero : Env X W κ ⊢ (eachP fun d j => reached ER (cell (nxt d c) (.subR d j)) 0) := by
  unfold eachP
  iintro #HE
  ihave R0 := (Env_reached X W κ (nxt false c) (.subR false 0)) $$ HE
  ihave R1 := (Env_reached X W κ (nxt true c) (.subR true 0)) $$ HE
  ihave R2 := (Env_reached X W κ (nxt false c) (.subR false 1)) $$ HE
  ihave R3 := (Env_reached X W κ (nxt true c) (.subR true 1)) $$ HE
  ihave R4 := (Env_reached X W κ (nxt false c) (.subR false 2)) $$ HE
  ihave R5 := (Env_reached X W κ (nxt true c) (.subR true 2)) $$ HE
  ihave R6 := (Env_reached X W κ (nxt false c) (.subR false 3)) $$ HE
  ihave R7 := (Env_reached X W κ (nxt true c) (.subR true 3)) $$ HE
  iframe R0 R1 R2 R3 R4 R5 R6 R7

/-- The body, started from its pieces, ends with the device's block of the result. -/
theorem body_wp : iprop(Env X W κ ∗ BodyPre X W c) ⊢ iprop((BodyPost X W c -∗ Q ⟨⟩) -∗ WP c (bodyAt c) Q) := by
  unfold BodyPre bodyAt
  iintro ⟨#HE, HX, HL, HA, S0, S1, Y0, Y1, HR, HO⟩ Hk
  ihave HA := (byKind_of _) $$ HA
  ihave HA := (show (byKind fun k => At c k 0) ⊢ iprop(At c .bar 0 ∗ CredAt c 0 ∗ SubAt c 0 ∗ BigAt c true 0 ∗ BigAt c false 0
    ∗ (At c (.amS 0) 0 ∗ At c (.amR 0) 0) ∗ (eachD fun o => iprop(At c (.amS o) 0 ∗ At c (.amR o) 0)) ∗ quad fun p d => At c (.loc p d) 0) from .rfl) $$ HA
  icases HA with ⟨AB, AC, AS, AT, AF, AZ, AM, AL⟩
  ihave HR := (amRows_split c 0) $$ HR
  icases HR with ⟨K0, HR⟩
  unfold Lst
  icases HL with ⟨HD, HC, HT⟩
  -- the barrier
  iapply (barPart_wp X W κ c Q (ringD false (credPays 6 ++ ringD true amPays)) (ringC false (credPays 6 ++ ringC true (amPays ++ [])))
    (Above_ringD false _ (.append (Above_credPays (by decide) (by decide)) (Above_ringD true _ (Above_amPays (by decide)) (by decide))) (by decide)) _) $$ [HD HC AB S1 HR]
  · iframe HE AB S1
    isplitl [HD]
    · iexact HD
    isplitl [HC]
    · iapply (show CredL c allPays ⊢ CredL c (barPays ++ ringC false (credPays 6 ++ ringC true (amPays ++ []))) from Entails.of_eq (by rw [← allPays_eq])); iexact HC
    · iexact HR
  iintro ⟨HD, HC, AB, N1, HR⟩
  -- the first phase
  ihave Z := (sub_reached_zero X W κ c) $$ HE
  ihave HP := (show iprop((XW X W c ∗ SubAt c 0 ∗ CredAt c 0 ∗ BigAt c true 0 ∗ (two fun d => slotAny c d false) ∗ (two fun d => slotAny (nxt d c) d true)
      ∗ (eachP fun d j => reached ER (cell (nxt d c) (.subR d j)) 0) ∗ (two fun d => yAny c true d) ∗ amRows c 1) ∗ BigAt c false 0 ∗ (two fun d => yAny c false d))
    ⊢ RingPre X W c false from .rfl) $$ [HX AS AC AT S0 N1 Z Y1 HR AF Y0]
  · iframe HX AS AC AT S0 N1 Z Y1 HR AF Y0
  iapply (ringPart_wp X W κ c Q false (credPays 6 ++ ringD true amPays) (credPays 6 ++ ringC true (amPays ++ [])) (ringO true (amOwn ++ locOwn))
    (.append (Above_credPays (by decide) (by decide)) (Above_ringD true _ (Above_amPays (by decide)) (by decide))) _) $$ [HP HD HC HT]
  · unfold Lst
    iframe HE HP HD HC
    iexact HT
  iintro ⟨HP, HL⟩
  unfold Lst
  icases HL with ⟨HD, HC, HT⟩
  ihave HP := (show RingPost X W c false ⊢ iprop((XW X W c ∗ CredAt c 6 ∗ BigAt c false 3 ∗ BigAt c true 3 ∗ (two fun d => slotAny c d false) ∗ (two fun d => slotAny c d true)
    ∗ (two fun d => yAt c false d (FA X W false d c)) ∗ (two fun d => yAny c true d) ∗ (two fun d => reached ER (cell (prv d c) (.cred d)) 6) ∗ amRows c 7)
    ∗ SubAt c 1 ∗ amKeep c 1 ∗ amKeep c 2 ∗ amKeep c 3 ∗ amKeep c 4 ∗ amKeep c 5 ∗ amKeep c 6) from .rfl) $$ HP
  icases HP with ⟨⟨HX, AC, AF, AT, S0, S1, YF, Y1, RC, HR⟩, AS, K1, K2, K3, K4, K5, K6⟩
  ihave HR := (amRows_split c 7) $$ HR
  icases HR with ⟨K7, HR⟩
  ihave AS := (SubAt_reached c 1) $$ AS
  icases AS with ⟨AS, -, RS⟩
  ihave RS := (two_of_each _) $$ RS
  ihave G := (show iprop((two fun d => slotAny c d true) ∗ (two fun d => bigSep Finset.univ fun j => reached ER (cell c (.subR d j)) 1)
      ∗ (two fun d => reached ER (cell (prv d c) (.cred d)) 6) ∗ amRows (prv false c) 8) ⊢ credGive c 6 from by
    unfold credGive
    iintro ⟨A, B, C, D⟩
    ihave B := (two_sep _ _) $$ [B C]
    · iframe B C
    ihave A := (two_sep _ _) $$ [A B]
    · iframe A B
    isplitl [A]
    · iexact A
    · iexact D) $$ [S1 RS RC HR]
  · iframe S1 RS RC HR
  iapply (giveCred_wp X W κ c Q 6 (by decide) _ _) $$ [HD G]
  · iframe HE G
    iexact HD
  iintro HD
  -- the running maximum
  ihave YF := (show (two fun d => yAt c false d (FA X W false d c)) ⊢ iprop(yAt c false false (FA X W false false c) ∗ yAt c false true (FA X W false true c)) from .rfl) $$ YF
  icases YF with ⟨YF0, YF1⟩
  iapply (topStep_wp c Q false false _ (FA X W false false c) _) $$ YF0
  iintro YF0
  iapply (topStep_wp c Q false true _ (FA X W false true c) _) $$ YF1
  iintro YF1
  iapply (takeCred_wp X W κ c Q 6 (by decide) _ (ringC true (amPays ++ [])) (Above_ringD true _ (Above_amPays (by decide)) (by decide)) _) $$ [HD HC AC]
  · iframe HE HD AC
    iexact HC
  iintro ⟨HD, HC, AC, HT'⟩
  unfold credTake
  icases HT' with ⟨N, HR⟩
  ihave N := (sep_two (fun d => slotAny (nxt d c) d (credSlot 6)) (fun d => credReach (nxt d c) d 6)) $$ N
  icases N with ⟨N1, RS⟩
  ihave RS := (show (two fun d => credReach (nxt d c) d 6) ⊢ (two fun d => bigSep Finset.univ fun j => reached ER (cell (nxt d c) (.subR d j)) 1) from .rfl) $$ RS
  ihave RS := (each_of_two (fun d j => reached ER (cell (nxt d c) (.subR d j)) 1)) $$ RS
  -- the second phase
  ihave HP := (show iprop((XW X W c ∗ SubAt c 1 ∗ CredAt c 7 ∗ BigAt c true 3 ∗ (two fun d => slotAny c d false) ∗ (two fun d => slotAny (nxt d c) d (credSlot 6))
      ∗ (eachP fun d j => reached ER (cell (nxt d c) (.subR d j)) 1) ∗ (two fun d => yAny c true d) ∗ amRows c 8) ∗ BigAt c false 3 ∗ emp)
    ⊢ RingPre X W c true from .rfl) $$ [HX AS AC AT S0 N1 RS Y1 HR AF]
  · iframe HX AS AC AT S0 N1 RS Y1 HR AF
  iapply (ringPart_wp X W κ c Q true amPays (amPays ++ []) (amOwn ++ locOwn) (Above_amPays (by decide)) _) $$ [HP HD HC HT]
  · unfold Lst
    iframe HE HP HD HC
    iexact HT
  iintro ⟨HP, HL⟩
  ihave HP := (show RingPost X W c true ⊢ iprop((XW X W c ∗ CredAt c 13 ∗ BigAt c false 6 ∗ BigAt c true 6 ∗ (two fun d => slotAny c d false) ∗ (two fun d => slotAny c d true)
    ∗ (two fun d => yAt c true d (FA X W true d c)) ∗ emp ∗ (two fun d => reached ER (cell (prv d c) (.cred d)) 13) ∗ amRows c 14)
    ∗ SubAt c 2 ∗ amKeeps c true) from .rfl) $$ HP
  icases HP with ⟨⟨HX, AC, AF, AT, S0, S1, YT, -, -, -⟩, AS, -⟩
  ihave YT := (show (two fun d => yAt c true d (FA X W true d c)) ⊢ iprop(yAt c true false (FA X W true false c) ∗ yAt c true true (FA X W true true c)) from .rfl) $$ YT
  icases YT with ⟨YT0, YT1⟩
  iapply (topStep_wp c Q true false _ (FA X W true false c) _) $$ YT0
  iintro YT0
  iapply (topStep_wp c Q true true _ (FA X W true true c) _) $$ YT1
  iintro YT1
  -- the maxima
  ihave K := (show iprop(amKeep c 1 ∗ amKeep c 2 ∗ amKeep c 3 ∗ amKeep c 4 ∗ amKeep c 5 ∗ amKeep c 6 ∗ amKeep c 7) ⊢ (eachD fun o => amAny (dv o c) o) from .rfl) $$ [K1 K2 K3 K4 K5 K6 K7]
  · iframe K1 K2 K3 K4 K5 K6 K7
  ihave K0 := (show amKeep c 0 ⊢ amAny c 0 from by
    show amAny (dv 0 c) 0 ⊢ _
    rw [dv_zero]) $$ K0
  iapply (amStep_wp X W κ c Q [] locOwn _) $$ [HL K0 K AM]
  · iframe HE HL K0 K AM
  unfold Lst
  iintro ⟨⟨HD, HC, HT⟩, HG, AM⟩
  -- the result
  ihave HY := (show iprop(yAt c false false (FA X W false false c) ∗ yAt c false true (FA X W false true c) ∗ yAt c true false (FA X W true false c) ∗ yAt c true true (FA X W true true c))
    ⊢ (quad fun p d => yAt c p d (FA X W p d c)) from .rfl) $$ [YF0 YF1 YT0 YT1]
  · iframe YF0 YF1 YT0 YT1
  iapply (outPart_wp X W κ c Q _) $$ [HD HT HY HO AL]
  · iframe HE HD HT HY HO AL
  iintro ⟨HD, AL, HZ, HO⟩
  -- the semaphores
  ihave HA := (show iprop(At c .bar 1 ∗ CredAt c 13 ∗ SubAt c 2 ∗ BigAt c true 6 ∗ BigAt c false 6
    ∗ (At c (.amS 0) 0 ∗ At c (.amR 0) 0) ∗ (eachD fun o => iprop(At c (.amS o) 1 ∗ At c (.amR o) 1)) ∗ quad fun p d => At c (.loc p d) 1) ⊢ byKind fun k => At c k (kEnd k) from .rfl) $$ [AB AC AS AT AF AZ AM AL]
  · iframe AB AC AS AT AF AZ AM AL
  ihave HA := (of_byKind _) $$ HA
  iapply (show (|={Set.univ}=> Q ⟨⟩) ⊢ WP c (.ret ⟨⟩) Q from Entails.of_eq (wp_ret _ _ _ _ _).symm)
  imod (close_all X W κ c) $$ [HA] with HS
  · iframe HE HA
  imodintro
  iapply Hk
  unfold BodyPost
  iframe HX HD HS S0 S1 HZ HG HO

end Cert.KernelIdeal.Own

end
-- ==== Proof.LaunchIdeal.lean ====
/-
  The launch: what each device owes and is owed, the tokens dealt to the devices that pay with them, and the run of the
  whole program.
-/
module

public import proofs.«01_k».proof.Proof.BodyIdeal
public import proofs.«01_k».proof.Proof.Gen.KernelIdeal.Launch
public import proofs.«01_k».proof.Proof.Gen.KernelIdeal.Points
public import Idealize.ShloMosaic.Lib.Pipeline.CollectiveSegs
public import Idealize.ShloMosaic.Lib.Pipeline.Launch
public import Idealize.ShloMosaic.Lib.Pipeline.Kit

@[expose] public section

set_option maxRecDepth 100000

noncomputable section

namespace Cert.KernelIdeal.Own

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open _root_.Own
open Facts₀ Facts
open Idealize.ShloMosaic.Pipeline (Dat Cfg Window BodyObligation cellOf)

variable {F : FTy → Type} [FloatOps F] [Facts]

local notation "𝕄" => MT nD τ sig ℕ (Elt F) ℕ UU ℕ

open Cert.KernelIdeal.Gen (t0_0 fin_N0 bigSep_W0 scopedRest0_eq unscopedRest0_eq cellOf_inj winFacts0 arr_whole0 stage_whole0)

variable (m : (ℓ : Loc nD τ sig) → Buf (Elt F) ℓ) (ρ : Dev nD → PrngReg)

/-- Device `c`'s columns of the left operand, as staged. -/
def XA (c : Dev nD) : FVec F S4096x512 .f32 :=
  ((cfg0.win (0 : Fin 2)).blk (0 : Fin 1)).view.read (Elt F) (m ((c : Thread nD τ).loc main_arg0))
/-- Device `c`'s rows of the right operand, as staged. -/
def WA (c : Dev nD) : FVec F S512x8192 .f32 :=
  ((cfg0.win (1 : Fin 2)).blk (0 : Fin 1)).view.read (Elt F) (m ((c : Thread nD τ).loc main_arg1))

/-! ## Tokens -/

/-- Payments of a device's own semaphores, written as the other payments. -/
def ownPay (q : Kd × ℕ) : Pay := ⟨q.1, q.2, false, 0, fun c => c⟩
/-- All the tokens a device pays with. -/
def allToks : List Pay := allPays ++ allOwn.map ownPay

/-- The tokens for two lists one after the other. -/
theorem TokL_append (c : Dev nD) (l l' : List Pay) : (TokL c (l ++ l') : sProp 𝕄) ⊢ iprop(TokL c l ∗ TokL c l') := by
  induction l with
  | nil =>
    show (TokL c l' : sProp 𝕄) ⊢ iprop(emp ∗ TokL c l')
    iintro H; iframe H
  | cons q l ih =>
    show iprop(dutyTok ER (cell (q.tgt c) q.kd) q.r q.d ∗ TokL c (l ++ l')) ⊢ iprop((dutyTok ER (cell (q.tgt c) q.kd) q.r q.d ∗ TokL c l) ∗ TokL c l')
    iintro ⟨H, Hl⟩
    ihave Hl := ih $$ Hl
    icases Hl with ⟨H1, H2⟩
    iframe H H1 H2
/-- The tokens for a device's own payments. -/
theorem TokL_own (c : Dev nD) (l : List (Kd × ℕ)) : (TokL c (l.map ownPay) : sProp 𝕄) ⊢ TokO c l := by
  induction l with
  | nil => exact .rfl
  | cons q l ih => exact BI.sep_mono (same _ _ rfl) ih
/-- The tokens of all devices, dealt along a list of payments. -/
theorem toks_list (c : Dev nD) (l : List Pay) :
    (bigSep Finset.univ fun i : Fin l.length => (dutyTok ER (cell ((l.get i).tgt c) (l.get i).kd) (l.get i).r (l.get i).d : sProp 𝕄)) = TokL c l := by
  induction l with
  | nil => rfl
  | cons q l ih =>
    show bigSep (Finset.univ : Finset (Fin (l.length + 1))) _ = iprop(dutyTok ER (cell (q.tgt c) q.kd) q.r q.d ∗ TokL c l)
    rw [Fin.univ_succ, Finset.cons_eq_insert, bigSep_insert (by simp [Fin.succ_ne_zero]), bigSep_map, ← ih]
    rfl

/-- No two tokens of a device are the same. -/
theorem toks_nodup : (allToks.map fun q => (q.kd, q.r, q.d)).Nodup := by decide
/-- A payment goes to different devices from different devices. -/
theorem toks_inj : ∀ q ∈ allToks, Function.Injective q.tgt := by decide

/-- The token a device pays with, by its place in the list. -/
def tokOf (ci : Dev nD × Fin allToks.length) : GSem nD τ sig × ℕ × Bool :=
  (cell ((allToks.get ci.2).tgt ci.1) (allToks.get ci.2).kd, (allToks.get ci.2).r, (allToks.get ci.2).d)
/-- Semaphores of different devices or kinds are different. -/
theorem cell_injective {c c' : Dev nD} {k k' : Kd} (h : cell c k = cell c' k') : c = c' ∧ k = k' :=
  ⟨congrArg (fun g : GSem nD τ sig => g.1.1) h, semOf_injective (congrArg Prod.snd h)⟩
/-- Different payments have different tokens. -/
theorem tokOf_injective : Function.Injective tokOf := by
  rintro ⟨c, i⟩ ⟨c', i'⟩ h
  have h1 := cell_injective (congrArg Prod.fst h)
  have h2 := congrArg Prod.snd h
  have hi : i = i' := by
    refine (List.nodup_iff_injective_get.mp toks_nodup) (a₁ := i.cast (by rw [List.length_map])) (a₂ := i'.cast (by rw [List.length_map])) ?_ |> fun e => Fin.ext (congrArg Fin.val e)
    rw [List.get_eq_getElem, List.get_eq_getElem, List.getElem_map, List.getElem_map]
    exact Prod.ext h1.2 h2
  subst hi
  exact Prod.ext (toks_inj _ (List.get_mem _ _) h1.1) rfl

/-- All the cells. -/
def ringCells : Finset (GSem nD τ sig) :=
  Finset.univ.map ⟨fun ck : Dev nD × Kd => cell ck.1 ck.2, fun a b h => Prod.ext (cell_injective h).1 (cell_injective h).2⟩
/-- All the tokens. -/
def ringToks : Finset (GSem nD τ sig × ℕ × Bool) := Finset.univ.map ⟨tokOf, tokOf_injective⟩
/-- What the machine starts from. -/
def u₀ : UU := (initOf (Pipeline.cells cfgs cellOf_inj) (Pipeline.launchToks cfgs cellOf_inj), initOf ringCells ringToks)

/-! ## What a device is dealt -/

/-- A device's part of the schedule's start. -/
def G (c : Dev nD) : sProp (MT nD τ sig ℕ (Elt F) ℕ UU ℕ) :=
  iprop((bigSep Finset.univ fun k : Kd => roundState ER (Rd (XA m) (WA m)) (cell c k) 0) ∗ (bigSep Finset.univ fun k : Kd => atPos ER (cell c k) 0 ∅ 0)
    ∗ (bigSep Finset.univ fun k : Kd => reached ER (cell c k) 0) ∗ TokL c allToks)
/-- What all devices know. -/
def records (κ : Dev nD × Kd → ℕ) : sProp (MT nD τ sig ℕ (Elt F) ℕ UU ℕ) :=
  iprop((bigSep Finset.univ fun ck : Dev nD × Kd => cellInv ER (Rd (XA m) (WA m)) (κ ck) (cell ck.1 ck.2))
    ∗ bigSep Finset.univ fun ck : Dev nD × Kd => reached ER (cell ck.1 ck.2) 0)
/-- The records may be used again and again. -/
instance records_persistent (κ : Dev nD × Kd → ℕ) : BI.Persistent (records (F := F) m κ) := by unfold records; infer_instance
/-- What a device has of its own. -/
def lin (c : Dev nD) : sProp (MT nD τ sig ℕ (Elt F) ℕ UU ℕ) :=
  iprop((bigSep Finset.univ fun k : Kd => atPos ER (cell c k) 0 ∅ 0) ∗ TokL c allToks)
/-- Both. -/
def G' (c : Dev nD) : sProp (MT nD τ sig ℕ (Elt F) ℕ UU ℕ) := iprop(∃ κ, records m κ ∗ lin c)

/-- From the protocol's initial state, each device's rounds and tokens. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Kd => Φ (cell c k) := by
    unfold ringCells; rw [bigSep_map, bigSep_univ_prod]; rfl
  have hT : bigSep ringToks (fun x => (dutyTok ER x.1 x.2.1 x.2.2 : sProp 𝕄)) = bigSep Finset.univ fun c : Dev nD => TokL c allToks := by
    unfold ringToks; rw [bigSep_map, bigSep_univ_prod]
    exact bigSep_congr fun c _ => toks_list c allToks
  iintro HX
  imod (Rounds.fund ER (Rd (XA m) (WA m)) ringCells ringToks) $$ HX with ⟨Hst, Hr, Hat, Htok⟩
  imodintro
  ihave Hst := (Entails.of_eq (hX fun g => roundState ER (Rd (XA m) (WA m)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  iframe Hst Hat Hr Htok

/-! ## The semaphores -/

/-- The kinds whose semaphore is the kernel's own. -/
abbrev OwnKd : Type := {k : Kd // k ≠ .bar}
/-- Their semaphores. -/
abbrev osem : OwnKd → SemLoc sig := fun k => semOf k.1
omit [FloatOps F] [Facts] in
/-- The semaphores the kernel names are all of its own. -/
theorem ownSemFacts : Pipeline.OwnSemFacts spec0 osem := by decide
/-- The one semaphore that outlives the kernel is the barrier's. -/
theorem unscopedSems0_eq (c : Dev nD) : (unscopedSems0 c : sProp 𝕄) = semVal (cell c .bar) 0 := by
  unfold unscopedSems0; rw [bigSep_eq_bigSepL_of_eq [SemLoc.reg barS] (by decide) (by decide)]; rfl
/-- The kernel's semaphores at zero, kind by kind. -/
theorem sems0_eq (c : Dev nD) :
    (bigSep Finset.univ fun k : Kd => semVal (cell c k) 0 : sProp 𝕄)
      = iprop(unscopedSems0 c ∗ Pipeline.ownSems0 (Ix := ℕ) (Name := ℕ) (U := UU) (Lvl := ℕ) (Val := Elt F) (τ := τ) osem c) := by
  rw [unscopedSems0_eq, bigSep_univ_at _ Kd.bar]
  unfold Pipeline.ownSems0
  rw [show (Finset.univ : Finset Kd).erase .bar = (Finset.univ : Finset OwnKd).map (Function.Embedding.subtype _) from by
    ext k; simp, bigSep_map]
  rfl

/-- A device's semaphores are put under the protocol. -/
theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : Kd => iprop(∃ κ : ℕ, cellInv ER (Rd (XA m) (WA m)) κ (cell c k)))
          ∗ (bigSep Finset.univ fun k : Kd => reached ER (cell c k) 0) ∗ lin c) := by
  unfold G lin
  iintro ⟨Hos, Hus, Hst, Hat, Hr, Htok⟩
  ihave Hv := (Entails.of_eq (sems0_eq (F := F) c).symm) $$ [Hos Hus]
  · iframe Hus Hos
  imod (show iprop((bigSep Finset.univ fun k : Kd => semVal (cell c k) 0) ∗ bigSep Finset.univ fun k : Kd => roundState ER (Rd (XA m) (WA m)) (cell c k) 0)
      ⊢ (|={Set.univ}=> bigSep Finset.univ fun k : Kd => iprop(∃ κ : ℕ, cellInv ER (Rd (XA m) (WA m)) κ (cell c k)) : sProp 𝕄) from by
        rw [← bigSep_sep']
        exact (bigSep_mono fun k _ => (Rounds.body_intro ER (Rd (XA m) (WA m)) (cell c k)).trans inv_alloc).trans (bigSep_fupd _ _)) $$ [Hv Hst] with Hinv
  · iframe Hv Hst
  imodintro
  iframe Hinv Hr Hat Htok

/-- A persistent record joined to each part of a product. -/
theorem with_records {I : Type} [DecidableEq I] {S : Finset I} {R : sProp (MT nD τ sig ℕ (Elt F) ℕ UU ℕ)} [BI.Persistent R]
    {Φ Ψ : I → sProp (MT nD τ sig ℕ (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What is made at the start, sorted by device. -/
theorem regroup :
    (bigSep Finset.univ fun c : Dev nD => iprop((bigSep Finset.univ fun k : Kd => iprop(∃ κ : ℕ, cellInv ER (Rd (XA m) (WA m)) κ (cell c k)))
          ∗ (bigSep Finset.univ fun k : Kd => reached ER (cell c k) 0) ∗ lin c) : sProp 𝕄)
      ⊢ bigSep Finset.univ (G' m) := by
  rw [bigSep_sep', bigSep_sep', ← bigSep_univ_prod (fun ck : Dev nD × Kd => iprop(∃ κ : ℕ, cellInv ER (Rd (XA m) (WA m)) κ (cell ck.1 ck.2))),
    ← bigSep_univ_prod (fun ck : Dev nD × Kd => (reached ER (cell ck.1 ck.2) 0 : sProp 𝕄))]
  iintro ⟨HI, #HR, Hl⟩
  ihave HK := (BI.bigSep_exists_pi Finset.univ (fun (ck : Dev nD × Kd) (κ : ℕ) => (cellInv ER (Rd (XA m) (WA m)) κ (cell ck.1 ck.2) : sProp 𝕄))) $$ HI
  icases HK with ⟨%κ, #HI⟩
  iapply (with_records (R := records m κ) (Φ := lin) (Ψ := G' m) fun c _ => by
    unfold G'; exact any_intro (fun κ => iprop(records m κ ∗ lin c)) κ)
  isplitr
  · unfold records; iframe HI HR
  · iexact Hl

/-- From all devices' semaphores at zero to each device's share of the protocol. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What is owed at launch -/

/-- The credits of one payment, dealt to the devices that pay it. -/
theorem cred_one (q : Pay) (hq : Function.Injective q.tgt) (c : Dev nD) :
    (Pipeline.launchCred (fun d => tallyAt (cell (q.tgt d) q.kd) q.ι (kAmt q.kd)) c : sProp 𝕄) ⊢ cred (tallyAt (cell c q.kd) q.ι (kAmt q.kd)) := by
  unfold Pipeline.launchCred
  refine (bigSep_elim (Finset.mem_univ (semOf q.kd))).trans (Entails.of_eq (congrArg cred ?_))
  obtain ⟨d₀, rfl⟩ := (Finite.surjective_of_injective hq) c
  show tallyOn (cell (q.tgt d₀) q.kd) (launchCredit _ 0 (cell (q.tgt d₀) q.kd)) = _
  unfold tallyAt
  refine congrArg _ (Finsupp.ext fun i => ?_)
  rw [Pipeline.launchCredit_owing, Fintype.sum_eq_single d₀ fun d hd => ?_]
  · show tallyAt _ _ _ _ _ = _
    rw [tallyAt_apply, Finsupp.single_apply]
    by_cases h : i = q.ι
    · rw [if_pos ⟨rfl, h⟩, if_pos h.symm]
    · rw [if_neg fun h' => h h'.2, if_neg fun h' => h h'.symm]
  · show tallyAt _ _ _ _ _ = _
    rw [tallyAt_apply, if_neg fun h' => hd (hq (cell_injective h'.1).1.symm)]
/-- The credits of a list of payments. -/
theorem creds (l : List Pay) (hl : ∀ q ∈ l, Function.Injective q.tgt) (c : Dev nD) :
    (Pipeline.launchCred (fun d => oweOf d l) c : sProp 𝕄) ⊢ CredL c l := by
  induction l with
  | nil => exact Entails.of_eq (Pipeline.launchCred_zero c)
  | cons q l ih =>
    show (Pipeline.launchCred (fun d => oweOf d l + tallyAt (cell (q.tgt d) q.kd) q.ι (kAmt q.kd)) c : sProp 𝕄)
      ⊢ iprop(cred (tallyAt (cell c q.kd) q.ι (kAmt q.kd)) ∗ CredL c l)
    rw [Pipeline.launchCred_add]
    iintro ⟨H1, H2⟩
    ihave H1 := (ih fun q hq => hl q (List.mem_cons_of_mem _ hq)) $$ H1
    ihave H2 := (cred_one q (hl q List.mem_cons_self) c) $$ H2
    iframe H1 H2

/-! ## The body -/

/-- What the body of device `c` starts from. -/
def start (c : Dev nD) : sProp (MT nD τ sig ℕ (Elt F) ℕ UU ℕ) :=
  iprop((∃ κ, Env (XA m) (WA m) κ ∗ lin c) ∗ CredL c allPays ∗ ∃ x, ownsTc c outM fullShare x)
/-- Before the body. -/
def Φ₀ (c : Dev nD) : sProp (MT nD τ sig ℕ (Elt F) ℕ UU ℕ) := iprop(start m c ∗ Pipeline.scopedRest spec0 c)
/-- After it. -/
def Φ₁ (c : Dev nD) : sProp (MT nD τ sig ℕ (Elt F) ℕ UU ℕ) :=
  iprop(ownsTc c outM fullShare (OUT (XA m) (WA m) c) ∗ (bigSep Finset.univ fun k : Kd => semVal (cell c k) 0) ∗ Pipeline.scopedRest spec0 c)

/-- The data of the pipeline. -/
def dats (_ : Fin 1) (c : Dev nD) : Dat τ (Elt F) ℕ ℕ UU ℕ cfg0 c where
  A w := m ((cfg0.win w).arr.view.loc (c : Thread nD τ))
  after w _ := match w with
    | ⟨0, _⟩ => XA m c
    | ⟨1, _⟩ => WA m c
  Φ t := match t with
    | ⟨0, _⟩ => Φ₀ m c
    | ⟨_ + 1, _⟩ => Φ₁ m c
  q _ := fullShare
  owed t := match t with
    | ⟨0, _⟩ => oweOf c allPays
    | ⟨_ + 1, _⟩ => 0

/-- Each argument is held whole. -/
theorem share_eq (c : Dev nD) (w : Fin cfg0.W) : (dats m 0 c).share w = fullShare := by unfold Dat.share; split <;> rfl
/-- Both arguments are fetched at the only step. -/
theorem fetch_all (w : Fin cfg0.W) : (cfg0.win w).fetch t0_0 = true := by fin_cases w <;> rfl

/-- Before the body, the staged operands beside. -/
def bodyPre (c : Dev nD) : sProp (MT nD τ sig ℕ (Elt F) ℕ UU ℕ) :=
  iprop(Φ₀ m c ∗ (dats m 0 c).owesAt 0 (t0_0 : Fin cfg0.N).castSucc
    ∗ (∃ d, ownsTc c xM fullShare ((dats m 0 c).before (0 : Fin 2) t0_0 d)) ∗ ∃ d, ownsTc c wM fullShare ((dats m 0 c).before (1 : Fin 2) t0_0 d))
/-- After it. -/
def bodyPost (c : Dev nD) : sProp (MT nD τ sig ℕ (Elt F) ℕ UU ℕ) :=
  iprop(Φ₁ m c ∗ (dats m 0 c).owesAt 0 (t0_0 : Fin cfg0.N).succ ∗ ownsTc c xM fullShare (XA m c) ∗ ownsTc c wM fullShare (WA m c))

/-- A buffer with contents unnamed, as a region. -/
theorem whole_any (c : Dev nD) (b : Ref sig .tc) :
    (iprop(∃ f : Buf (Elt F) ((c : Thread nD τ).loc b), ((c : Thread nD τ).loc b) ↦{fullShare} f) : sProp 𝕄) ⊢ iprop(∃ x, ownsTc c (Memref.whole b) fullShare x) := by
  iintro ⟨%f, H⟩
  iexists f
  iapply (Entails.of_eq (owns_whole (c : Thread nD τ) b fullShare f).symm); iexact H
/-- And back. -/
theorem any_whole (c : Dev nD) (b : Ref sig .tc) :
    (iprop(∃ x, ownsTc c (Memref.whole b) fullShare x) : sProp 𝕄) ⊢ iprop(∃ f : Buf (Elt F) ((c : Thread nD τ).loc b), ((c : Thread nD τ).loc b) ↦{fullShare} f) := by
  iintro ⟨%f, H⟩
  iexists f
  iapply (Entails.of_eq (owns_whole (c : Thread nD τ) b fullShare f)); iexact H

/-- The scratch buffers in pieces. -/
theorem scratch_open (c : Dev nD) :
    (Pipeline.scopedRest spec0 c : sProp 𝕄) ⊢ iprop((two fun d => slotAny c d false) ∗ (two fun d => slotAny c d true)
      ∗ (two fun d => yAny c false d) ∗ (two fun d => yAny c true d) ∗ amRows c 0) := by
  rw [scopedRest0_eq]
  unfold two
  iintro ⟨C0, C1, T0, T1, Y0, Y1, A⟩
  ihave C0 := (whole_any c cc0_scratch0) $$ C0
  ihave C1 := (whole_any c cc0_scratch1) $$ C1
  ihave T0 := (whole_any c cc0_scratch2) $$ T0
  ihave T1 := (whole_any c cc0_scratch3) $$ T1
  ihave Y0 := (whole_any c cc0_scratch4) $$ Y0
  ihave Y1 := (whole_any c cc0_scratch5) $$ Y1
  ihave A := (whole_any c cc0_scratch6) $$ A
  icases C0 with ⟨%c0, C0⟩
  icases C1 with ⟨%c1, C1⟩
  icases T0 with ⟨%t0, T0⟩
  icases T1 with ⟨%t1, T1⟩
  icases Y0 with ⟨%y0, Y0⟩
  icases Y1 with ⟨%y1, Y1⟩
  icases A with ⟨%a, A⟩
  ihave C0 := (show (ownsTc c (Memref.whole cc0_scratch0) fullShare c0 : sProp 𝕄) ⊢ iprop(slotAny c false false ∗ slotAny c false true) from comm_any c false c0) $$ C0
  icases C0 with ⟨C00, C01⟩
  ihave C1 := (show (ownsTc c (Memref.whole cc0_scratch1) fullShare c1 : sProp 𝕄) ⊢ iprop(slotAny c true false ∗ slotAny c true true) from comm_any c true c1) $$ C1
  icases C1 with ⟨C10, C11⟩
  ihave T0 := (show (ownsTc c (Memref.whole cc0_scratch2) fullShare t0 : sProp 𝕄) ⊢ yAny c true false from y_any c true false t0) $$ T0
  ihave T1 := (show (ownsTc c (Memref.whole cc0_scratch3) fullShare t1 : sProp 𝕄) ⊢ yAny c true true from y_any c true true t1) $$ T1
  ihave Y0 := (show (ownsTc c (Memref.whole cc0_scratch4) fullShare y0 : sProp 𝕄) ⊢ yAny c false false from y_any c false false y0) $$ Y0
  ihave Y1 := (show (ownsTc c (Memref.whole cc0_scratch5) fullShare y1 : sProp 𝕄) ⊢ yAny c false true from y_any c false true y1) $$ Y1
  ihave A := (show (ownsTc c (Memref.whole cc0_scratch6) fullShare a : sProp 𝕄) ⊢ bigSep Finset.univ (fun o => amAny c o) from am_split c a) $$ A
  iframe C00 C10 C01 C11 Y0 Y1 T0 T1
  iapply (show (bigSep Finset.univ fun o => amAny c o) ⊢ amRows c 0 from by
    unfold amRows
    show _ ⊢ bigSep (Finset.univ.filter fun o : Fin 8 => 0 ≤ o.val) fun o => amAny (dv 0 c) o
    rw [dv_zero, Finset.filter_true_of_mem fun o _ => Nat.zero_le _])
  iexact A
/-- The pieces back together. -/
theorem scratch_close (c : Dev nD) :
    iprop((two fun d => slotAny c d false) ∗ (two fun d => slotAny c d true)
      ∗ (quad fun p d => ownsTc c (yb p d) fullShare (ZA (XA m) (WA m) p d c)) ∗ ownsTc c amM fullShare (GM (XA m) (WA m) c))
      ⊢ (Pipeline.scopedRest spec0 c : sProp 𝕄) := by
  rw [scopedRest0_eq]
  unfold two quad
  iintro ⟨⟨C00, C10⟩, ⟨C01, C11⟩, ⟨Y0, Y1, T0, T1⟩, A⟩
  ihave C0 := (show (iprop(slotAny c false false ∗ slotAny c false true) : sProp 𝕄) ⊢ iprop(∃ x, ownsTc c (Memref.whole cc0_scratch0) fullShare x) from comm_join c false) $$ [C00 C01]
  · iframe C00 C01
  ihave C1 := (show (iprop(slotAny c true false ∗ slotAny c true true) : sProp 𝕄) ⊢ iprop(∃ x, ownsTc c (Memref.whole cc0_scratch1) fullShare x) from comm_join c true) $$ [C10 C11]
  · iframe C10 C11
  ihave C0 := (any_whole c cc0_scratch0) $$ C0
  ihave C1 := (any_whole c cc0_scratch1) $$ C1
  ihave T0 := (show (ownsTc c (yb true false) fullShare (ZA (XA m) (WA m) true false c) : sProp 𝕄) ⊢ iprop(∃ x, ownsTc c (Memref.whole cc0_scratch2) fullShare x) from any_intro (fun x => ownsTc c (Memref.whole cc0_scratch2) fullShare x) _) $$ T0
  ihave T0 := (any_whole c cc0_scratch2) $$ T0
  ihave T1 := (show (ownsTc c (yb true true) fullShare (ZA (XA m) (WA m) true true c) : sProp 𝕄) ⊢ iprop(∃ x, ownsTc c (Memref.whole cc0_scratch3) fullShare x) from any_intro (fun x => ownsTc c (Memref.whole cc0_scratch3) fullShare x) _) $$ T1
  ihave T1 := (any_whole c cc0_scratch3) $$ T1
  ihave Y0 := (show (ownsTc c (yb false false) fullShare (ZA (XA m) (WA m) false false c) : sProp 𝕄) ⊢ iprop(∃ x, ownsTc c (Memref.whole cc0_scratch4) fullShare x) from any_intro (fun x => ownsTc c (Memref.whole cc0_scratch4) fullShare x) _) $$ Y0
  ihave Y0 := (any_whole c cc0_scratch4) $$ Y0
  ihave Y1 := (show (ownsTc c (yb false true) fullShare (ZA (XA m) (WA m) false true c) : sProp 𝕄) ⊢ iprop(∃ x, ownsTc c (Memref.whole cc0_scratch5) fullShare x) from any_intro (fun x => ownsTc c (Memref.whole cc0_scratch5) fullShare x) _) $$ Y1
  ihave Y1 := (any_whole c cc0_scratch5) $$ Y1
  ihave A := (show (ownsTc c amM fullShare (GM (XA m) (WA m) c) : sProp 𝕄) ⊢ iprop(∃ x, ownsTc c (Memref.whole cc0_scratch6) fullShare x) from any_intro (fun x => ownsTc c (Memref.whole cc0_scratch6) fullShare x) _) $$ A
  ihave A := (any_whole c cc0_scratch6) $$ A
  iframe C0 C1 T0 T1 Y0 Y1 A

/-- The body, from what the launch gives to what the launch takes back. -/
theorem sound_body (c : Dev nD) : bodyPre m c ⊢ WP c (bodyAt c) (fun _ => bodyPost m c) := by
  unfold bodyPre Φ₀ start lin
  iintro ⟨⟨⟨⟨%κ, #HE, HA, HT⟩, HC, %o, HO⟩, HS⟩, ⟨%V, -, Ho⟩, ⟨%d₀, Hx⟩, %d₁, Hw⟩
  rw [show (dats m 0 c).before (0 : Fin 2) t0_0 d₀ = XA m c from by unfold Dat.before; exact (if_pos (fetch_all _)).trans rfl,
    show (dats m 0 c).before (1 : Fin 2) t0_0 d₁ = WA m c from by unfold Dat.before; exact (if_pos (fetch_all _)).trans rfl]
  ihave HS := (scratch_open c) $$ HS
  icases HS with ⟨S0, S1, Y0, Y1, HR⟩
  ihave HT := (show (TokL c allToks : sProp 𝕄) ⊢ _ from TokL_append c allPays (allOwn.map ownPay)) $$ HT
  icases HT with ⟨HT, HT'⟩
  ihave HT' := (TokL_own c allOwn) $$ HT'
  ihave HD := (Due_mk c allPays V) $$ [Ho HT]
  · iframe HT
    iexact Ho
  ihave HO := (out_split c o) $$ HO
  ihave HO := (show (bigSep Finset.univ fun i : Fin 4 => iprop(∃ x, ownsTc c (outSlab i) fullShare x)) ⊢ (quad fun p d => iprop(∃ x, ownsTc c (outSlab (slab p d)) fullShare x)) from by
    rw [four]; exact .rfl) $$ HO
  ihave HA := (show (bigSep Finset.univ fun k : Kd => (atPos ER (cell c k) 0 ∅ 0 : sProp 𝕄)) ⊢ iprop(Env (XA m) (WA m) κ -∗ bigSep Finset.univ fun k => At c k 0) from by
    iintro H HE
    iapply (with_records (R := Env (XA m) (WA m) κ) (Φ := fun k : Kd => atPos ER (cell c k) 0 ∅ 0) (Ψ := fun k => At c k 0) fun k _ => by
      unfold At
      iintro ⟨HE, H⟩
      iframe H
      iapply (Env_reached (XA m) (WA m) κ c k); iexact HE)
    iframe HE H) $$ HA HE
  iapply (body_wp (XA m) (WA m) κ c (fun _ => bodyPost m c)) $$ [HA HC HD HT' Hx Hw S0 S1 Y0 Y1 HR HO]
  · unfold BodyPre Lst XW
    iframe HE Hx Hw HD HC HT' HA S0 S1 Y0 Y1 HR HO
  unfold BodyPost bodyPost Φ₁ XW
  iintro ⟨⟨Hx, Hw⟩, HD, HA, S0, S1, HZ, HG, HO⟩
  ihave HS := (scratch_close m c) $$ [S0 S1 HZ HG]
  · iframe S0 S1 HZ HG
  iframe HO HA HS Hx Hw
  unfold Due
  icases HD with ⟨⟨%V', Ho⟩, -⟩
  iexists V'
  isplitr
  · ipureintro; exact fun _ _ => Or.inl trivial
  · iexact Ho

/-- The body in the form the launch asks for. -/
theorem body_obligation (c : Dev nD) : BodyObligation (dats (F := F) m 0 c) (defs₀ (F := F)) 𝒱₀ 0 Set.univ := fun t => by
  rw [fin_N0 t]
  rw [bigSep_W0, bigSep_W0]
  show bodyPre m c ⊢ wp frame (wpE (defs₀ (F := F)) 𝒱₀ (c : Thread nD τ) none) Set.univ (Gen.bodyAt0 (F := F) t0_0) (fun _ => bodyPost m c)
  rw [body_eq, wp_deviceId]
  exact sound_body m c

/-! ## The run -/

/-- What a device has at the start of the body. -/
theorem start_intro (c : Dev nD) :
    iprop(Pipeline.unscopedRestP Pipeline.Prefetch.none cfg0.spec c (fun b => m ((c : Thread nD τ).loc b)) ∗ levAts L lv
        ∗ Pipeline.launchCred (fun d => oweOf d allPays) c ∗ prngReg c (ρ c) ∗ G' m c)
      ⊢ |={Set.univ}=> iprop(start m c ∗ emp) := by
  iintro ⟨HO, #Hl, Hc, -, HG⟩
  ihave Hc := (creds allPays (fun q hq => toks_inj q (List.mem_append_left _ hq)) c) $$ Hc
  ihave HO := (show (Pipeline.unscopedRestP Pipeline.Prefetch.none cfg0.spec c (fun b => m ((c : Thread nD τ).loc b)) : sProp 𝕄) ⊢ ownsTc c outM fullShare (m ((c : Thread nD τ).loc main_v1)) from
    (Entails.of_eq (unscopedRest0_eq c _)).trans (Entails.of_eq (owns_whole (c : Thread nD τ) main_v1 fullShare _).symm)) $$ HO
  imodintro
  unfold start G' records Env
  icases HG with ⟨%κ, ⟨#HI, #HR⟩, HL⟩
  isplitl
  · isplitl [HL]
    · iexists κ; iframe HI HR Hl HL
    iframe Hc
    iexists _; iexact HO
  · iempintro

/-- The launch's resources, as the body takes them. -/
theorem phi_in (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  iframe Hs Hr
/-- What is read at the end. -/
def left (c : Dev nD) : sProp (MT nD τ sig ℕ (Elt F) ℕ UU ℕ) :=
  iprop(unscopedSems0 c ∗ ((c : Thread nD τ).loc main_v1) ↦{fullShare} OUT (XA m) (WA m) c)
/-- The body's resources, as the launch takes them back. -/
theorem phi_out (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = Φ₁ m c from rfl]
  unfold Φ₁ left
  rw [sems0_eq]
  iintro ⟨HO, ⟨HU, HS⟩, HR⟩
  iframe HU HS HR
  iapply (Entails.of_eq (owns_whole (c : Thread nD τ) main_v1 fullShare _)); iexact HO

/-- Every payment is above level zero. -/
theorem Above_all : Above 0 allPays :=
  .append (.cons ⟨by decide, by decide⟩ (.cons ⟨by decide, by decide⟩ .nil))
    (Above_ringD false _ (.append (Above_credPays (by decide) (by decide)) (Above_ringD true _ (Above_amPays (by decide)) (by decide))) (by decide))
/-- The waits of the launch itself are below all that is owed. -/
theorem waits (c : Dev nD) : (levAts L lv : sProp 𝕄) ⊢ Pipeline.cellsWaits cfgs (dats m) 0 0 c :=
  Pipeline.cellsWaits_intro cfgs (dats m) 0 0 c fun w s t => by
    rcases t with ⟨_ | _, ht⟩
    · exact mayWait_of c _ 0 allPays (by decide) Above_all
    · exact mayWait_of c _ 0 [] (by decide) .nil

/-- At every float instance, from any memory with counters at zero, the program ends with every counter at zero, the
    arguments as they were and the result as computed. -/
theorem run_main : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = OUT (XA m) (WA m) c) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := fun d => oweOf d allPays) (howed₀ := fun _ => rfl) (howedN := fun _ => rfl)
    (L := L) (lv := lv) (hL := fun g h => if_neg h) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := phi_in m) (hout := phi_out m)
    (QY := fun c s => (∀ sm : SemLoc sig, sm.isScoped .tc = false → s.sem ((c.tc : Thread nD τ), sm) = 0)
      ∧ s.mem ((c : Thread nD τ).loc main_v1) = OUT (XA m) (WA m) c)
    (hY := fun c s' => by
      unfold left
      iintro ⟨⟨Hu, HO⟩, -, HSI⟩
      ihave %h := (SI_pointsTo_agree (st := s') (ℓ := (c : Thread nD τ).loc main_v1) (I := Finset.univ) (q := fullShare)
        (f := OUT (XA m) (WA m) c)) $$ [HSI HO]
      · iframe HSI HO
      imod (Pipeline.unscopedSems0_read (X := unscopedSems0 c) (c := c) fupd_intro s') $$ [Hu HSI] with ⟨%hs, HSI⟩
      · iframe Hu HSI
      imodintro
      iframe HSI
      ipureintro
      exact ⟨hs, funext fun i => h i (Finset.mem_univ i)⟩)
    (hQ := fun _ h hs => ⟨fun c => ⟨((h c).1 0).trans ((dats m 0 c).arrAt_in (0 : Fin 2) rfl _), ((h c).1 1).trans ((dats m 0 c).arrAt_in (1 : Fin 2) rfl _), (h c).2.2.2⟩,
      sem_eq_zero hs fun c => (h c).2.2.1⟩)

end Cert.KernelIdeal.Own

end
-- ==== Proof.RefValue.lean ====
/-
  The reference's result, element by element: the product's relu, divided by the scale, rounded to an integer, clipped and
  multiplied by the scale again, the scale being a 127th of the largest entry.
-/
module

public import proofs.«01_k».proof.Proof.Gen.ReferenceIdeal.Run
public import Idealize.ShloMosaic.Lib.ValueIdx
public import Idealize.ShloMosaic.Lib.MatmulPlain
public import Idealize.ShloMosaic.Lib.StackMember
public import Idealize.ShloMosaic.PureOps.Ideal.Laws

@[expose] public section

noncomputable section

namespace Cert.ReferenceIdeal.Own

open Cert.ReferenceIdeal Cert.ReferenceIdeal.Gen Idealize.ShloMosaic Idealize.ShloMosaic.TcCoe Idealize.SL.Sem Idealize.ShloMosaic.ValueIdx
open scoped BigOperators

/-! ## Largest entries -/

/-- A running maximum is below `z` when its start and all its entries are. -/
theorem fold_le {α : Type} (f : α → EReal) (z : EReal) (l : List α) (a : EReal) :
    l.foldl (fun r n => max r (f n)) a ≤ z ↔ a ≤ z ∧ ∀ n ∈ l, f n ≤ z := by
  induction l generalizing a with
  | nil => simp
  | cons b l ih => rw [List.foldl_cons, ih, max_le_iff, List.forall_mem_cons, and_assoc]
/-- Over all entries of an array. -/
theorem fold_all {s : Shape} (v : s.Idx → EReal) (p : Fin s.numel → Bool) (hp : ∀ n, p n = true) (a z : EReal) :
    ((List.finRange s.numel).filter p).foldl (fun r n => max r (v (s.rowMajor.symm n))) a ≤ z ↔ a ≤ z ∧ ∀ i, v i ≤ z := by
  rw [fold_le (fun n => v (s.rowMajor.symm n))]
  refine and_congr_right fun _ => ⟨fun h i => ?_, fun h n _ => h _⟩
  have := h (s.rowMajor i) (List.mem_filter.mpr ⟨List.mem_finRange _, hp _⟩)
  rwa [Equiv.symm_apply_apply] at this

/-- The word of minus infinity. -/
theorem bits_bot : (FloatOps.ofBits (F := Ideal) .f32 0xFF800000#32 : EReal) = ⊥ := by
  show Ideal.ofBits .f32 0xFF800000#32 = ⊥
  simp [Ideal.ofBits, Ideal.ieee]

/-! ## The quantiser -/

/-- The quantiser on one entry, at a scale. -/
def quantE (sc y : EReal) : EReal :=
  min (Ideal.ofBits .f32 0x42FE0000#32) (max (Ideal.ofBits .f32 0xC2FE0000#32) (Ideal.liftRound Ideal.roundHalfEven (Ideal.div y sc))) * sc

/-! ## The result -/

variable (x : FVec Ideal S4096x4096 .f32) (w : FVec Ideal S4096x8192 .f32)

/-- The relu of the product. -/
def relu : FVec Ideal S4096x8192 .f32 := maximumf (Host.dotGeneral dot_S4096x4096_S4096x8192_S4096x8192_1_0_0_1_n_n none x w) (broadcastInDim S4096x8192 ![] bcast_S_S4096x8192 (constant S_ .f32 0x00000000#32))
/-- The scale. -/
def scale : FVec Ideal S_ .f32 := Host.divf (Host.reduce FloatOps.maximumf (Host.absf (relu x w)) (constant S_ .f32 0xFF800000#32) reducesTo_S4096x8192_S_d0_1 h_S_) (constant S_ .f32 0x42FE0000#32)
/-- The result. -/
def result : FVec Ideal S4096x8192 .f32 := mulf (minimumf (broadcastInDim S4096x8192 ![] bcast_S_S4096x8192 (id (constant S_ .f32 0x42FE0000#32))) (maximumf (broadcastInDim S4096x8192 ![] bcast_S_S4096x8192 (id (constant S_ .f32 0xC2FE0000#32))) (Host.roundeven (Host.divf (relu x w) (broadcastInDim S4096x8192 ![] bcast_S_S4096x8192 (scale x w)))))) (broadcastInDim S4096x8192 ![] bcast_S_S4096x8192 (scale x w))

/-- One entry of the product's relu. -/
def RY (i : S4096x8192.Idx) : EReal := max (∑ k : Fin 4096, x (ix2 (i 0) k) * w (ix2 k (i 1))) 0
/-- A relu is not negative. -/
theorem RY_nonneg (i : S4096x8192.Idx) : 0 ≤ RY x w i := le_max_right _ _
/-- The relu of the product, entry by entry. -/
theorem relu_apply (i : S4096x8192.Idx) : relu x w i = RY x w i := by
  rw [eq_ix2 i]
  show max (FloatOps.matmul (F := Ideal) (DotDims.plain 4096 4096 8192) none x w (fun _ => 0) (ix2 (i 0) (i 1))) (Ideal.ofBits .f32 0x00000000#32) = _
  exact congrArg₂ max ((Ideal.matmul_plain_apply none x w (fun _ => 0) (i 0) (i 1)).trans (zero_add _)) Ideal.ofBits_zero_f32
/-- The largest entry. -/
def top : EReal := Host.reduce (FloatOps.maximumf (F := Ideal) (φ := .f32)) (Host.absf (relu x w)) (constant (F := Ideal) S_ .f32 0xFF800000#32) reducesTo_S4096x8192_S_d0_1 h_S_ ix0
/-- The largest entry is bounded when every entry is. -/
theorem top_le (z : EReal) : top x w ≤ z ↔ ∀ i, RY x w i ≤ z := by
  unfold top Host.reduce
  refine (fold_all (Host.absf (relu x w)) _ (fun n => decide_eq_true (funext fun a => a.elim0)) _ z).trans ?_
  rw [show (constant (F := Ideal) S_ .f32 0xFF800000#32 (Shape.Idx.first h_S_) : EReal) = ⊥ from bits_bot]
  refine (and_iff_right bot_le).trans (forall_congr' fun i => ?_)
  show max (relu x w i) (-(relu x w i)) ≤ z ↔ _
  rw [relu_apply, max_eq_left]
  exact (EReal.neg_le_neg_iff.mpr (RY_nonneg x w i)).trans (by rw [neg_zero]; exact RY_nonneg x w i)
/-- The scale as a number. -/
def RS : EReal := Ideal.div (top x w) (Ideal.ofBits .f32 0x42FE0000#32)
/-- The reference's result, entry by entry. -/
theorem result_apply (i : S4096x8192.Idx) : result x w i = quantE (RS x w) (RY x w i) := by
  rw [← relu_apply]
  have hs : ∀ j : S_.Idx, scale x w j = RS x w := fun j => by rw [eq_ix0 j]; rfl
  have hb : ∀ i, broadcastInDim S4096x8192 ![] bcast_S_S4096x8192 (scale x w) i = RS x w := fun i => hs _
  unfold result quantE
  show min _ (max _ (Ideal.liftRound Ideal.roundHalfEven (Ideal.div (relu x w i) (broadcastInDim S4096x8192 ![] bcast_S_S4096x8192 (scale x w) i))))
    * broadcastInDim S4096x8192 ![] bcast_S_S4096x8192 (scale x w) i = _
  rw [hb]
  rfl

end Cert.ReferenceIdeal.Own

end
-- ==== Proof.SumIdeal.lean ====
/-
  The sum that each device's part of the kernel computes over the extended reals is that part of the reference's product.
-/
module

public import proofs.«01_k».proof.Proof.LaunchIdeal
public import proofs.«01_k».proof.Proof.RefValue
public import Idealize.ShloMosaic.Lib.Layout
public import Idealize.ShloMosaic.Lib.Pipeline.Value

@[expose] public section

set_option maxRecDepth 100000

noncomputable section

namespace Cert.KernelIdeal.Own

open Cert.KernelIdeal
open Idealize.ShloMosaic Idealize.ShloMosaic.TcCoe Idealize.SL.Sem Idealize.ShloMosaic.ValueIdx
open Cert.ReferenceIdeal.Own (quantE RY RS top fold_all bits_bot result result_apply top_le RY_nonneg)
open Facts₀ Facts
open scoped BigOperators

variable [Facts]

/-! ## The steps over the extended reals -/

/-- An entry of a product of blocks. -/
theorem dotW_apply (x w : FVec Ideal S512x512 .f32) (r l : Fin 512) : dotW x w (ix2 r l) = ∑ k : Fin 512, x (ix2 r k) * w (ix2 k l) := by
  unfold dotW
  rw [shapeCast_self]
  exact (Ideal.matmul_plain_apply none x w _ r l).trans ((congrArg (· + _) Ideal.ofBits_zero_f32).trans (zero_add _))
/-- Packing into a slot and unpacking changes nothing. -/
theorem unpack_pack (v : FVec Ideal S512x512 .f32) : unpackQ (packQ v) = v :=
  shapeCast_shapeCast v shapeCasts_S512x512_S1x512x512 shapeCasts_S1x512x512_S512x512
/-- A reshaping to the same shape changes nothing. -/
theorem sameQ_eq (v : FVec Ideal S512x512 .f32) : sameQ v = v := shapeCast_self v _

/-! ## The sum around the ring -/

/-- Going back round the ring meets every device once. -/
theorem ring_bij (d : Bool) (c : Dev nD) : Function.Bijective fun t : Fin 8 => (prv d)^[t.val] c :=
  Finite.injective_iff_bijective.mp (by revert d c; decide)
/-- The block that a device adds to, as its neighbours see it, is the same all the way round. -/
theorem chunk_back (d : Bool) (c : Dev nD) : ∀ t : Fin 8, chunk d (7 - t.val) ((prv d)^[t.val] c) = c.val := by revert d c; decide

section Sum

/-- The left argument is cut by columns into eight blocks. -/
theorem cutX : Layout.Tiles ⟨2, ![4096, 512]⟩ ⟨2, ![4096, 4096]⟩ 1 8 := by decide
/-- The right argument, as the result, is cut by rows into eight blocks. -/
theorem cutW : Layout.Tiles ⟨2, ![512, 8192]⟩ ⟨2, ![4096, 8192]⟩ 0 8 := by decide

variable (X : Dev nD → FVec Ideal S4096x512 .f32) (W : Dev nD → FVec Ideal S512x8192 .f32)

/-- What is left of a ring after the last addition. -/
theorem FA_sum (p d : Bool) (c : Dev nD) (j : Fin 4) (i : S512x512.Idx) :
    FA X W p d c j i = max (∑ t : Fin 8, part X W p d (7 - t.val) ((prv d)^[t.val] c) j i) 0 := by
  unfold FA
  rw [sameQ_eq, sameQ_eq]
  simp only [SA, unpack_pack, sameQ_eq]
  rw [Fin.sum_univ_eight]
  refine congrArg₂ max ?_ Ideal.ofBits_zero_f32
  show ((((((part X W p d 0 _ j i + part X W p d 1 _ j i : EReal) + part X W p d 2 _ j i) + part X W p d 3 _ j i) + part X W p d 4 _ j i)
    + part X W p d 5 _ j i) + part X W p d 6 _ j i) + part X W p d 7 _ j i = part X W p d 7 _ j i + part X W p d 6 _ j i + part X W p d 5 _ j i
      + part X W p d 4 _ j i + part X W p d 3 _ j i + part X W p d 2 _ j i + part X W p d 1 _ j i + part X W p d 0 _ j i
  ac_rfl

variable (x : FVec Ideal ⟨2, ![4096, 4096]⟩ .f32) (w : FVec Ideal ⟨2, ![4096, 8192]⟩ .f32)
variable (hX : ∀ c, X c = Layout.block ⟨2, ![4096, 512]⟩ ⟨2, ![4096, 4096]⟩ 1 8 c x cutX)
variable (hW : ∀ c, W c = Layout.block ⟨2, ![512, 8192]⟩ ⟨2, ![4096, 8192]⟩ 0 8 c w cutW)

/-- Position `k` of block `e` among 4096. -/
def at8 (e : Fin 8) (k : Fin 512) : Fin 4096 := ⟨512 * e.val + k.val, by omega⟩
/-- Column `l` of quarter `j`. -/
def colAt (p d : Bool) (j : Fin 4) (l : Fin 512) : Fin 8192 := ⟨512 * cb p d j + l.val, by have := cb_lt p d j; omega⟩

include hX hW in
/-- A partial product is a block of the reference's sum. -/
theorem part_apply (p d : Bool) (s : Nat) (e c : Dev nD) (hc : chunk d s e = c.val) (j : Fin 4) (r l : Fin 512) :
    part X W p d s e j (ix2 r l) = ∑ k : Fin 512, x (ix2 (at8 c r) (at8 e k)) * w (ix2 (at8 e k) (colAt p d j l)) := by
  unfold part
  rw [dotW_apply]
  refine Finset.sum_congr rfl fun k _ => congrArg₂ (· * ·) ?_ ?_
  · unfold xs rowsOf
    rw [shapeCast_self, hX]
    refine congrArg x (funext fun a => Fin.ext ?_)
    match a with
    | 0 => show 512 * chunk d s e + 1 * r.val = 512 * c.val + r.val; rw [hc]; omega
    | 1 => show e.val * 512 + (0 + 1 * k.val) = 512 * e.val + k.val; omega
  · unfold colsOf
    rw [hW]
    refine congrArg w (funext fun a => Fin.ext ?_)
    match a with
    | 0 => show e.val * 512 + (0 + 1 * k.val) = 512 * e.val + k.val; omega
    | 1 => show 512 * cb p d j + 1 * l.val = 512 * cb p d j + l.val; omega

/-- A sum over 4096 in eight blocks. -/
theorem sum_blocks (f : Fin 4096 → EReal) : ∑ k, f k = ∑ e : Fin 8, ∑ k : Fin 512, f (at8 e k) := by
  rw [← Equiv.sum_comp (finProdFinEquiv : Fin 8 × Fin 512 ≃ Fin (8 * 512)) f, Fintype.sum_prod_type]
  refine Finset.sum_congr rfl fun e _ => Finset.sum_congr rfl fun k _ => congrArg f (Fin.ext ?_)
  show k.val + 512 * e.val = 512 * e.val + k.val
  omega

include hX hW in
/-- A finished quarter is that part of the reference's product. -/
theorem FA_apply (p d : Bool) (c : Dev nD) (j : Fin 4) (r l : Fin 512) :
    FA X W p d c j (ix2 r l) = RY x w (ix2 (at8 c r) (colAt p d j l)) := by
  rw [FA_sum]
  unfold RY
  refine congrArg (max · 0) ?_
  rw [sum_blocks]
  exact (Finset.sum_congr rfl fun t _ => part_apply X W x w hX hW p d _ _ c (chunk_back d c t) j r l).trans
    ((ring_bij d c).sum_comp (fun e => ∑ k : Fin 512, x (ix2 (at8 c r) (at8 e k)) * w (ix2 (at8 e k) (colAt p d j l))))

end Sum

end Cert.KernelIdeal.Own

end
-- ==== Proof.TopIdeal.lean ====
/-
  The kernel's reductions by maximum over the extended reals: bounded exactly when every entry is.
-/
module

public import proofs.«01_k».proof.Proof.LaunchIdeal
public import proofs.«01_k».proof.Proof.RefValue
public import Idealize.ShloMosaic.Lib.Layout
public import Idealize.ShloMosaic.Lib.Pipeline.Value

@[expose] public section

set_option maxRecDepth 100000

noncomputable section

namespace Cert.KernelIdeal.Own

open Cert.KernelIdeal
open Idealize.ShloMosaic Idealize.ShloMosaic.TcCoe Idealize.SL.Sem Idealize.ShloMosaic.ValueIdx
open Cert.ReferenceIdeal.Own (quantE RY RS top fold_all bits_bot result result_apply top_le RY_nonneg)
open Facts₀ Facts
open scoped BigOperators

variable [Facts]

/-! ## Largest entries -/

/-- The largest entry of a reshaped array. -/
theorem cast_all {s t : Shape} (v : s.Idx → EReal) (h : s.ShapeCasts t) (z : EReal) :
    (∀ i, shapeCast t v h i ≤ z) ↔ ∀ i, v i ≤ z :=
  ⟨fun H i => by
    have := H ((Shape.reshapeEquiv h).symm i)
    unfold shapeCast at this
    rwa [Equiv.apply_symm_apply] at this, fun H i => H _⟩
/-- One entry has one index. -/
theorem one_idx (a b : S1.Idx) : a = b := funext fun k => Fin.ext (by
  match k with
  | 0 =>
    have ha : (a 0).val < 1 := (a 0).isLt
    have hb : (b 0).val < 1 := (b 0).isLt
    show (a 0).val = (b 0).val
    omega)
/-- A reduction by maximum to one entry. -/
theorem multi_le {s t : Shape} {axes : List (Fin s.rank)} (v : FVec Ideal s .f32) (h : s.Reduces axes t) (ht : ∀ a b : t.Idx, a = b)
    (hφ : FKind.Formats .f32) (hacc : 0xFF800000#32 = FKind.maximumf.neutral .f32 hφ) (j : t.Idx) (z : EReal) :
    multiReduction (F := Ideal) .maximumf axes t v 0xFF800000#32 h hφ hacc j ≤ z ↔ ∀ i, v i ≤ z := by
  refine (fold_all v _ (fun n => decide_eq_true (ht _ _)) _ z).trans ?_
  rw [bits_bot]
  exact and_iff_right bot_le
/-- The entry read out after a reduction of a reshaped array. -/
theorem extract_le {s q t r : Shape} {axes : List (Fin q.rank)} (v : FVec Ideal s .f32) (hs : s.ShapeCasts q) (h : q.Reduces axes t)
    (ht : ∀ a b : t.Idx, a = b) (hφ : FKind.Formats .f32) (hacc : 0xFF800000#32 = FKind.maximumf.neutral .f32 hφ)
    (hr : t.ShapeCasts r) (pos : Fin r.rank → Nat) (hp : ∀ a, pos a < r.size a) (z : EReal) :
    extractAt pos (shapeCast r (multiReduction (F := Ideal) .maximumf axes t (shapeCast q v hs) 0xFF800000#32 h hφ hacc) hr) hp ≤ z ↔ ∀ i, v i ≤ z :=
  (multi_le _ h ht hφ hacc _ z).trans (cast_all v hs z)
/-- The maximum of a result buffer is bounded when every entry is. -/
theorem topOf_le (v : FVec Ideal S512x2048 .f32) (z : EReal) : topOf v ≤ z ↔ ∀ i, v i ≤ z := by
  unfold topOf
  exact extract_le (s := S512x2048) (q := S1x512x2048) (t := S1) (r := S1x1x1) v _ _ one_idx _ _ _ _ _ z
/-- So is the maximum of the rows of maxima. -/
theorem topRows_le (v : FVec Ideal S8x128 .f32) (z : EReal) : topRows v ≤ z ↔ ∀ i, v i ≤ z := by
  unfold topRows
  exact extract_le (s := S8x128) (q := S1x8x128) (t := S1) (r := S1x1x1) v _ _ one_idx _ _ _ _ _ z

end Cert.KernelIdeal.Own

end
-- ==== Proof.ValueIdeal.lean ====
/-
  The kernel's result over the extended reals: each device's block is that block of the reference's result.
-/
module

public import proofs.«01_k».proof.Proof.SumIdeal
public import proofs.«01_k».proof.Proof.TopIdeal
public import Idealize.ShloMosaic.Lib.Layout
public import Idealize.ShloMosaic.Lib.Pipeline.Value

@[expose] public section

set_option maxRecDepth 100000

noncomputable section

namespace Cert.KernelIdeal.Own

open Cert.KernelIdeal
open Idealize.ShloMosaic Idealize.ShloMosaic.TcCoe Idealize.SL.Sem Idealize.ShloMosaic.ValueIdx
open Cert.ReferenceIdeal.Own (quantE RY RS top fold_all bits_bot result result_apply top_le RY_nonneg)
open Facts₀ Facts
open scoped BigOperators

variable [Facts]

/-! ## Buffers and maxima -/

section Sum

variable (X : Dev nD → FVec Ideal S4096x512 .f32) (W : Dev nD → FVec Ideal S512x8192 .f32)
variable (x : FVec Ideal ⟨2, ![4096, 4096]⟩ .f32) (w : FVec Ideal ⟨2, ![4096, 8192]⟩ .f32)
variable (hX : ∀ c, X c = Layout.block ⟨2, ![4096, 512]⟩ ⟨2, ![4096, 4096]⟩ 1 8 c x cutX)
variable (hW : ∀ c, W c = Layout.block ⟨2, ![512, 8192]⟩ ⟨2, ![4096, 8192]⟩ 0 8 c w cutW)

/-- Two ways to write an index of a matrix. -/
theorem mk2_eq {n k : Nat} (a : Fin n) (b : Fin k) : mk2 a b = ix2 a b := by
  funext e
  match e with
  | 0 => rfl
  | 1 => rfl
/-- Where an entry of a result buffer stands in the whole result. -/
def whole (c : Dev nD) (p d : Bool) (i : S512x2048.Idx) : (⟨2, ![4096, 8192]⟩ : Shape).Idx :=
  ix2 (at8 c (i 0)) ⟨4096 * p.toNat + 2048 * d.toNat + (i 1).val, by
    have := (i 1).isLt; change (i 1).val < 2048 at this
    cases p <;> cases d <;> simp <;> omega⟩
/-- The column of the result that a column of a buffer stands at. -/
theorem colAt_val (p d : Bool) (i : S512x2048.Idx) (hj : (i 1).val / 512 < 4) (hl : (i 1).val % 512 < 512) :
    (colAt p d ⟨(i 1).val / 512, hj⟩ ⟨(i 1).val % 512, hl⟩).val = 4096 * p.toNat + 2048 * d.toNat + (i 1).val := by
  show 512 * (8 * p.toNat + 4 * d.toNat + (i 1).val / 512) + (i 1).val % 512 = _
  omega
/-- Four quarters that agree with the result agree side by side. -/
theorem glue_whole (c : Dev nD) (p d : Bool) (f : EReal → EReal) (q : Fin 4 → FVec Ideal S512x512 .f32)
    (hq : ∀ j r l, q j (ix2 r l) = f (RY x w (ix2 (at8 c r) (colAt p d j l)))) (i : S512x2048.Idx) :
    glue q i = f (RY x w (whole c p d i)) := by
  refine (congrArg (q _) (mk2_eq (n := 512) (k := 512) (i 0) ⟨(i 1).val % 512, Nat.mod_lt _ (by decide)⟩)).trans ?_
  refine (hq _ _ _).trans (congrArg (fun I => f (RY x w I)) (funext fun a => Fin.ext ?_))
  match a with
  | 0 => rfl
  | 1 => exact colAt_val p d i _ _
include hX hW in
/-- A result buffer is that part of the reference's product, after the relu. -/
theorem YA_apply (p d : Bool) (c : Dev nD) (i : S512x2048.Idx) : YA X W p d c i = RY x w (whole c p d i) :=
  glue_whole x w c p d (fun y => y) _ (fun j r l => FA_apply X W x w hX hW p d c j r l) i
include hX hW in
/-- Its maximum is bounded when those entries are. -/
theorem topOf_YA_le (p d : Bool) (c : Dev nD) (z : EReal) : topOf (YA X W p d c) ≤ z ↔ ∀ i, RY x w (whole c p d i) ≤ z := by
  rw [topOf_le]
  exact forall_congr' fun i => by rw [YA_apply X W x w hX hW]
include hX hW in
/-- A device's maximum is bounded when all entries of its block are. -/
theorem AM_le (c : Dev nD) (z : EReal) : AM X W c ≤ z ↔ ∀ p d i, RY x w (whole c p d i) ≤ z := by
  unfold AM am3 am2 am1
  rw [Ideal.scalar_maximumf_def, Ideal.scalar_maximumf_def, Ideal.scalar_maximumf_def, Ideal.scalar_maximumf_def,
    max_le_iff, max_le_iff, max_le_iff, max_le_iff, topOf_YA_le X W x w hX hW, topOf_YA_le X W x w hX hW, topOf_YA_le X W x w hX hW,
    topOf_YA_le X W x w hX hW, Bool.forall_bool, Bool.forall_bool, Bool.forall_bool]
  have h0 : (Scalar.ofBits (F := Ideal) .f32 0x00000000#32 : EReal) = 0 := Ideal.ofBits_zero_f32
  rw [h0]
  constructor
  · rintro ⟨⟨⟨⟨_, h1⟩, h2⟩, h3⟩, h4⟩
    exact ⟨⟨h1, h2⟩, h3, h4⟩
  · rintro ⟨⟨h1, h2⟩, h3, h4⟩
    exact ⟨⟨⟨⟨(RY_nonneg x w _).trans (h1 (ix2 0 0)), h1⟩, h2⟩, h3⟩, h4⟩
/-- A row of one number. -/
theorem rowOf_apply (a : Ideal .f32) (i : S1x128.Idx) : rowOf a i = a := by
  unfold rowOf
  rw [shapeCast_self]
  rfl
/-- A row of maxima holds the maximum of the device so many places back. -/
theorem GM_apply (c : Dev nD) (i : S8x128.Idx) : GM X W c i = AM X W (bk (i 0) c) := by
  unfold GM
  exact rowOf_apply _ _
/-- Every device is some places back. -/
theorem bk_onto (c e : Dev nD) : ∃ o : Fin 8, bk o c = e := by revert c e; decide
/-- The column of a result buffer that a column of the result comes from. -/
theorem col_parts (n : Nat) (h : n < 8192) :
    4096 * (decide (4096 ≤ n)).toNat + 2048 * (decide (2048 ≤ n % 4096)).toNat + n % 2048 = n := by
  by_cases h1 : 4096 ≤ n <;> by_cases h2 : 2048 ≤ n % 4096 <;> simp [h1, h2] <;> omega
include hX hW in
/-- All devices find the reference's largest entry. -/
theorem top_eq (c : Dev nD) : topRows (GM X W c) = top x w := by
  refine eq_of_forall_ge_iff fun z => ?_
  rw [topRows_le, top_le]
  constructor
  · intro h I
    have hI0 : (I 0).val < 4096 := (I 0).isLt
    have hI1 : (I 1).val < 8192 := (I 1).isLt
    obtain ⟨o, ho⟩ := bk_onto c ⟨(I 0).val / 512, by show _ < 8; omega⟩
    have := h (ix2 o 0)
    rw [GM_apply] at this
    change AM X W (bk o c) ≤ z at this
    rw [ho, AM_le X W x w hX hW] at this
    have hz := this (decide (4096 ≤ (I 1).val)) (decide (2048 ≤ (I 1).val % 4096))
      (ix2 ⟨(I 0).val % 512, Nat.mod_lt _ (by decide)⟩ ⟨(I 1).val % 2048, Nat.mod_lt _ (by decide)⟩)
    refine le_of_eq_of_le (congrArg (RY x w) (funext fun a => Fin.ext ?_)) hz
    match a with
    | 0 => show (I 0).val = 512 * ((I 0).val / 512) + (I 0).val % 512; omega
    | 1 => exact (col_parts _ hI1).symm
  · intro h i
    rw [GM_apply, AM_le X W x w hX hW]
    exact fun p d i => h _
include hX hW in
/-- All devices find the reference's scale. -/
theorem SC_eq (c : Dev nD) : SC X W c = RS x w := congrArg (fun t => Ideal.div t (Ideal.ofBits .f32 0x42FE0000#32)) (top_eq X W x w hX hW c)

include hX hW in
/-- A quantised buffer is that part of the reference's result. -/
theorem ZA_apply (p d : Bool) (c : Dev nD) (i : S512x2048.Idx) : ZA X W p d c i = quantE (RS x w) (RY x w (whole c p d i)) :=
  glue_whole x w c p d (quantE (RS x w)) _ (fun j r l => by
    unfold QA
    rw [sameQ_eq, ← FA_apply X W x w hX hW, SC_eq X W x w hX hW]
    rfl) i
include hX hW in
/-- Each device's result is its block of the reference's. -/
theorem OUT_eq (c : Dev nD) : OUT X W c = Layout.block ⟨2, ![512, 8192]⟩ ⟨2, ![4096, 8192]⟩ 0 8 c (result x w) cutW := by
  funext i
  rw [Layout.block_apply, result_apply]
  unfold OUT
  rw [ZA_apply X W x w hX hW]
  refine congrArg (fun I => quantE (RS x w) (RY x w I)) (funext fun a => Fin.ext ?_)
  match a with
  | 0 => show 512 * c.val + (i 0).val = c.val * 512 + (i 0).val; omega
  | 1 => exact col_parts _ (i 1).isLt

end Sum

/-! ## The arguments -/

variable (m : (ℓ : Loc nD τ sig) → Buf (Elt Ideal) ℓ)

/-- The left argument as the body sees it. -/
theorem XA_eq (c : Dev nD) : XA m c = m ((c : Thread nD τ).loc main_arg0) := by
  funext i
  refine congrArg (m ((c : Thread nD τ).loc main_arg0)) (funext fun a => Fin.ext ?_)
  show 0 * _ + 1 * (i a).val = (i a).val
  omega
/-- The right argument as the body sees it. -/
theorem WA_eq (c : Dev nD) : WA m c = m ((c : Thread nD τ).loc main_arg1) := by
  funext i
  refine congrArg (m ((c : Thread nD τ).loc main_arg1)) (funext fun a => Fin.ext ?_)
  show 0 * _ + 1 * (i a).val = (i a).val
  omega

end Cert.KernelIdeal.Own

end
-- ==== Proof.lean ====
/-
  The proof of `Cert.Claim`: the three programs run and leave every counter at zero, and over the extended reals each
  device's result is its block of the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.LaunchKernel
public import proofs.«01_k».proof.Proof.ValueIdeal

@[expose] public section

noncomputable section

namespace Cert.Proof

open Idealize.ShloMosaic Idealize.SL.Sem

/-- The kernel as written runs, leaves its arguments alone and ends with every counter at zero. -/
theorem frame_kernel [Cert.Kernel.Facts] : Cert.quiescent_Kernel := fun m g _ =>
  (θ_run _ _ _).mono (fun _ h => ⟨fun c => ⟨(h.1 c).1, (h.1 c).2.1⟩, h.2⟩) (Cert.Kernel.Own.run_main m g)

/-- So does the kernel read over the extended reals. -/
theorem frame_ideal [Cert.KernelIdeal.Facts] : Cert.quiescent_KernelIdeal := fun m g _ =>
  (θ_run _ _ _).mono (fun _ h => ⟨fun c => ⟨(h.1 c).1, (h.1 c).2.1⟩, h.2⟩) (Cert.KernelIdeal.Own.run_main m g)

/-- The reference names no semaphore. -/
theorem no_cell (s : SemLoc Cert.ReferenceIdeal.sig) : False := by
  cases s with
  | reg s => exact absurd s.isLt (Nat.not_lt_zero _)
  | dma s => exact absurd s.isLt (Nat.not_lt_zero _)

/-- The reference runs, leaves its arguments alone and has no counter to change. -/
theorem frame_reference : Cert.quiescent_ReferenceIdeal (hReferenceIdeal := Cert.ReferenceIdeal.Gen.facts) := fun m g _ =>
  (θ_run _ _ _).mono (fun _ h => ⟨fun c => (h c).2, funext fun s => (no_cell s.2).elim⟩) (Cert.ReferenceIdeal.Value.run (F := Ideal) m g)

/-- Over the extended reals each device ends with its block of the reference's result. -/
theorem value [Cert.KernelIdeal.Facts] :
    Cert.algebraic_KernelIdeal_ReferenceIdeal (hReferenceIdeal := Cert.ReferenceIdeal.Gen.facts) := fun m g m' g' _ hm =>
  ⟨Cert.ReferenceIdeal.Own.result
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run _ _ _).mono (fun _ h c => ⟨(h.1 c).2.2.trans (Cert.KernelIdeal.Own.OUT_eq _ _ _ _
        (fun e => (Cert.KernelIdeal.Own.XA_eq m e).trans (hm e).1) (fun e => (Cert.KernelIdeal.Own.WA_eq m e).trans (hm e).2) c),
      (h.1 c).1, (h.1 c).2.1⟩) (Cert.KernelIdeal.Own.run_main m g),
    (θ_run _ _ _).mono (fun _ h => h 0) (Cert.ReferenceIdeal.Value.run (F := Ideal) m' g')⟩

/-- All the claims together. -/
theorem claim : Cert.Claim := ⟨Cert.Kernel.Gen.facts, Cert.KernelIdeal.Gen.facts, Cert.ReferenceIdeal.Gen.facts,
  @frame_kernel Cert.Kernel.Gen.facts, @frame_ideal Cert.KernelIdeal.Gen.facts, frame_reference, trivial,
  @value Cert.KernelIdeal.Gen.facts⟩

end Cert.Proof

end
